-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_binary [hPre_targets_binary : Cert.Pre_targets_binary.Facts] (m : (ℓ : Loc Cert.KernelIdeal.nD Cert.KernelIdeal.τ Cert.KernelIdeal.sig) → Buf (Elt Ideal) ℓ) : Prop :=
  ∀ c : Dev Cert.KernelIdeal.nD,
    (Cert.Pre_targets_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_binary [hPre_targets_binary : Cert.Pre_targets_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_binary [hKernelIdeal : Cert.KernelIdeal.Facts] [hPre_targets_binary : Cert.Pre_targets_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_binary [hReferenceIdeal : Cert.ReferenceIdeal.Facts] [hPre_targets_binary : Cert.Pre_targets_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_targets_binary [hKernelIdeal : Cert.KernelIdeal.Facts] [hReferenceIdeal : Cert.ReferenceIdeal.Facts] [hPre_targets_binary : Cert.Pre_targets_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_binary : Cert.Pre_targets_binary.Facts),
    quiescent_Kernel (hKernel := hKernel)
    ∧ quiescent_KernelIdeal (hKernelIdeal := hKernelIdeal)
    ∧ quiescent_KernelIdeal_pre_targets_binary (hKernelIdeal := hKernelIdeal) (hPre_targets_binary := hPre_targets_binary)
    ∧ quiescent_ReferenceIdeal (hReferenceIdeal := hReferenceIdeal)
    ∧ quiescent_ReferenceIdeal_pre_targets_binary (hReferenceIdeal := hReferenceIdeal) (hPre_targets_binary := hPre_targets_binary)
    ∧ preserves_Kernel_KernelIdeal
    ∧ algebraic_KernelIdeal_ReferenceIdeal_pre_targets_binary (hKernelIdeal := hKernelIdeal) (hReferenceIdeal := hReferenceIdeal) (hPre_targets_binary := hPre_targets_binary)
-- ==== Pre_targets_binary.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : IVec S32x1x512x512 32) : IVec S_ 1 :=
  let main_c : IVec S_ 32 := constantI S_ 32 0#32
  let main_v0 : IVec S32x1x512x512 32 := broadcastInDim S32x1x512x512 ![] bcast_S_S32x1x512x512 main_c
  let main_v1 : IVec S32x1x512x512 1 := cmpi .eq main_arg1 main_v0
  let main_c_0 : IVec S_ 32 := constantI S_ 32 1#32
  let main_v2 : IVec S32x1x512x512 32 := broadcastInDim S32x1x512x512 ![] bcast_S_S32x1x512x512 main_c_0
  let main_v3 : IVec S32x1x512x512 1 := cmpi .eq main_arg1 main_v2
  let main_v4 : IVec S32x1x512x512 1 := ori main_v1 main_v3
  let main_c_1 : IVec S_ 1 := constantI S_ 1 1#1
  let main_v5 : IVec S_ 1 := (fun x v => Host.reduce IntOp.andi x v reducesTo_S32x1x512x512_S_d0_1_2_3 h_S_) main_v4 main_c_1
  main_v5
-- ==== Kernel.lean ====
abbrev S32x1x512x512 : Shape := ⟨4, ![32, 1, 512, 512]⟩
abbrev S32x16x128 : Shape := ⟨3, ![32, 16, 128]⟩
abbrev S4x1x512x512 : Shape := ⟨4, ![4, 1, 512, 512]⟩
abbrev S4x16x128 : Shape := ⟨3, ![4, 16, 128]⟩
abbrev S4x512x512 : Shape := ⟨3, ![4, 512, 512]⟩
abbrev S32x512 : Shape := ⟨2, ![32, 512]⟩
abbrev S1x512x512 : Shape := ⟨3, ![1, 512, 512]⟩
abbrev S512x512 : Shape := ⟨2, ![512, 512]⟩
abbrev S16x512 : Shape := ⟨2, ![16, 512]⟩
abbrev S1x16x512 : Shape := ⟨3, ![1, 16, 512]⟩
abbrev S4x16x512 : Shape := ⟨3, ![4, 16, 512]⟩
abbrev S4x1x512 : Shape := ⟨3, ![4, 1, 512]⟩
abbrev S4x15x512 : Shape := ⟨3, ![4, 15, 512]⟩
abbrev S4x16x1 : Shape := ⟨3, ![4, 16, 1]⟩
abbrev S4x16x511 : Shape := ⟨3, ![4, 16, 511]⟩
abbrev S4x511x512 : Shape := ⟨3, ![4, 511, 512]⟩
abbrev S4x512x1 : Shape := ⟨3, ![4, 512, 1]⟩
abbrev S4x512x511 : Shape := ⟨3, ![4, 512, 511]⟩
abbrev S1x4x16x512 : Shape := ⟨4, ![1, 4, 16, 512]⟩
abbrev S1 : Shape := ⟨1, ![1]⟩
abbrev S1x1x1x1 : Shape := ⟨4, ![1, 1, 1, 1]⟩
abbrev S512x64 : Shape := ⟨2, ![512, 64]⟩
abbrev S16x1x512 : Shape := ⟨3, ![16, 1, 512]⟩
abbrev S16x4x512 : Shape := ⟨3, ![16, 4, 512]⟩
abbrev S64x512 : Shape := ⟨2, ![64, 512]⟩
abbrev S64x4096 : Shape := ⟨2, ![64, 4096]⟩
abbrev S512x4096 : Shape := ⟨2, ![512, 4096]⟩
abbrev S2x4x16x512 : Shape := ⟨4, ![2, 4, 16, 512]⟩
abbrev S2x4x1x512 : Shape := ⟨4, ![2, 4, 1, 512]⟩
abbrev S2x4x15x512 : Shape := ⟨4, ![2, 4, 15, 512]⟩
abbrev S2x4x16x1 : Shape := ⟨4, ![2, 4, 16, 1]⟩
abbrev S2x4x16x511 : Shape := ⟨4, ![2, 4, 16, 511]⟩
abbrev S1x2x4x16x512 : Shape := ⟨5, ![1, 2, 4, 16, 512]⟩
abbrev S1x1x1x1x1 : Shape := ⟨5, ![1, 1, 1, 1, 1]⟩
abbrev S2x4 : Shape := ⟨2, ![2, 4]⟩
abbrev S1x4 : Shape := ⟨2, ![1, 4]⟩
abbrev S4 : Shape := ⟨1, ![4]⟩
abbrev S1x128 : Shape := ⟨2, ![1, 128]⟩
abbrev S16x128 : Shape := ⟨2, ![16, 128]⟩
abbrev S1x16x128 : Shape := ⟨3, ![1, 16, 128]⟩
abbrev S32x16x1 : Shape := ⟨3, ![32, 16, 1]⟩
abbrev S32x16 : Shape := ⟨2, ![32, 16]⟩
abbrev S_ : Shape := ⟨0, ![]⟩
abbrev S16 : Shape := ⟨1, ![16]⟩

abbrev nBuf : Space → Nat
  | .hbm => 109
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .i32⟩
  | .hbm, ⟨2, _⟩ => ⟨S32x16x128, .f32⟩
  | .hbm, ⟨3, _⟩ => ⟨S32x16x1, .f32⟩
  | .hbm, ⟨4, _⟩ => ⟨S32x16, .f32⟩
  | .hbm, ⟨5, _⟩ => ⟨S_, .f32⟩
  | .hbm, ⟨6, _⟩ => ⟨S16, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S4x1x512x512, .f32⟩
  | .local _ .vmem, ⟨1, _⟩ => ⟨S4x1x512x512, .f32⟩
  | .local _ .vmem, ⟨2, _⟩ => ⟨S4x1x512x512, .i32⟩
  | .local _ .vmem, ⟨3, _⟩ => ⟨S4x1x512x512, .i32⟩
  | .local _ .vmem, ⟨4, _⟩ => ⟨S4x16x128, .f32⟩
  | .local _ .vmem, ⟨5, _⟩ => ⟨S4x16x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev main_v52 : Ref sig .tc := ⟨.hbm, 71, rfl⟩
abbrev main_cst_16 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_17 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_cst_19 : Ref sig .tc := ⟨.hbm, 81, rfl⟩
abbrev main_v59 : Ref sig .tc := ⟨.hbm, 82, rfl⟩
abbrev main_v60 : Ref sig .tc := ⟨.hbm, 83, rfl⟩
abbrev main_cst_20 : Ref sig .tc := ⟨.hbm, 84, rfl⟩
abbrev main_v61 : Ref sig .tc := ⟨.hbm, 85, rfl⟩
abbrev main_cst_21 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_22 : Ref sig .tc := ⟨.hbm, 90, rfl⟩
abbrev main_v65 : Ref sig .tc := ⟨.hbm, 91, rfl⟩
abbrev main_cst_23 : Ref sig .tc := ⟨.hbm, 92, rfl⟩
abbrev main_v66 : Ref sig .tc := ⟨.hbm, 93, rfl⟩
abbrev main_cst_24 : Ref sig .tc := ⟨.hbm, 94, rfl⟩
abbrev main_v67 : Ref sig .tc := ⟨.hbm, 95, rfl⟩
abbrev main_v68 : Ref sig .tc := ⟨.hbm, 96, rfl⟩
abbrev main_cst_25 : Ref sig .tc := ⟨.hbm, 97, rfl⟩
abbrev main_v69 : Ref sig .tc := ⟨.hbm, 98, rfl⟩
abbrev main_v70 : Ref sig .tc := ⟨.hbm, 99, rfl⟩
abbrev main_cst_26 : Ref sig .tc := ⟨.hbm, 100, rfl⟩
abbrev main_v71 : Ref sig .tc := ⟨.hbm, 101, rfl⟩
abbrev main_v72 : Ref sig .tc := ⟨.hbm, 102, rfl⟩
abbrev main_cst_27 : Ref sig .tc := ⟨.hbm, 103, rfl⟩
abbrev main_v73 : Ref sig .tc := ⟨.hbm, 104, rfl⟩
abbrev main_v74 : Ref sig .tc := ⟨.hbm, 105, rfl⟩
abbrev main_cst_28 : Ref sig .tc := ⟨.hbm, 106, rfl⟩
abbrev main_v75 : Ref sig .tc := ⟨.hbm, 107, rfl⟩
abbrev main_v76 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_54 : BitVec 32 := 0#32
  let c11_i32 : BitVec 32 := 11#32
  let v216 : BitVec 32 := Scalar.addi c0_i32_54 c11_i32
  let c1_i32_55 : BitVec 32 := 1#32
  ⟨c0_i32_54, v216, c1_i32_55⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x1x512x512 : Shape := ⟨4, ![32, 1, 512, 512]⟩
abbrev S_ : Shape := ⟨0, ![]⟩
abbrev S8388608 : Shape := ⟨1, ![8388608]⟩

abbrev nBuf : Space → Nat
  | .hbm => 394
  | .vmem => 0
  | .smem => 0
  | _ => 0

abbrev hbmTy0_0 (i : Nat) : BufTy := match i % 128 with
  | 0 => ⟨S32x1x512x512, .f32⟩
  | 1 => ⟨S32x1x512x512, .i32⟩
  | 2 => ⟨S32x1x512x512, .f32⟩
  | 3 => ⟨S32x1x512x512, .f32⟩
  | 4 => ⟨S32x1x512x512, .f32⟩
  | 5 => ⟨S_, .f32⟩
  | 6 => ⟨S32x1x512x512, .f32⟩
  | 7 => ⟨S32x1x512x512, .f32⟩
  | 8 => ⟨S_, .f32⟩
  | 9 => ⟨S32x1x512x512, .f32⟩
  | 10 => ⟨S32x1x512x512, .f32⟩
  | 11 => ⟨S_, .f32⟩
  | 12 => ⟨S32x1x512x512, .f32⟩
  | 13 => ⟨S32x1x512x512, .f32⟩
  | 14 => ⟨S32x1x512x512, .f32⟩
  | 15 => ⟨S32x1x512x512, .f32⟩
  | 16 => ⟨S32x1x512x512, .f32⟩
  | 17 => ⟨S32x1x512x512, .f32⟩
  | 18 => ⟨S32x1x512x512, .f32⟩
  | 19 => ⟨S32x1x512x512, .f32⟩
  | 20 => ⟨S32x1x512x512, .f32⟩
  | 21 => ⟨S_, .f32⟩
  | 22 => ⟨S_, .f32⟩
  | 23 => ⟨S_, .f32⟩
  | 24 => ⟨S_, .f32⟩
  | 25 => ⟨S8388608, .f32⟩
  | 26 => ⟨S8388608, .f32⟩
  | 27 => ⟨S8388608, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S8388608, .f32⟩
  | 46 => ⟨S8388608, .f32⟩
  | 47 => ⟨S8388608, .f32⟩
  | 48 => ⟨S_, .f32⟩
  | 49 => ⟨S_, .f32⟩
  | 50 => ⟨S_, .f32⟩
  | 51 => ⟨S8388608, .f32⟩
  | 52 => ⟨S8388608, .f32⟩
  | 53 => ⟨S8388608, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S32x1x512x512, .f32⟩
  | 74 => ⟨S32x1x512x512, .f32⟩
  | 75 => ⟨S_, .f32⟩
  | 76 => ⟨S_, .f32⟩
  | 77 => ⟨S32x1x512x512, .f32⟩
  | 78 => ⟨S32x1x512x512, .f32⟩
  | 79 => ⟨S32x1x512x512, .f32⟩
  | 80 => ⟨S_, .f32⟩
  | 81 => ⟨S32x1x512x512, .f32⟩
  | 82 => ⟨S32x1x512x512, .f32⟩
  | 83 => ⟨S_, .f32⟩
  | 84 => ⟨S32x1x512x512, .f32⟩
  | 85 => ⟨S32x1x512x512, .f32⟩
  | 86 => ⟨S_, .f32⟩
  | 87 => ⟨S32x1x512x512, .f32⟩
  | 88 => ⟨S32x1x512x512, .f32⟩
  | 89 => ⟨S32x1x512x512, .f32⟩
  | 90 => ⟨S32x1x512x512, .f32⟩
  | 91 => ⟨S32x1x512x512, .f32⟩
  | 92 => ⟨S32x1x512x512, .f32⟩
  | 93 => ⟨S32x1x512x512, .f32⟩
  | 94 => ⟨S32x1x512x512, .f32⟩
  | 95 => ⟨S32x1x512x512, .f32⟩
  | 96 => ⟨S32x1x512x512, .f32⟩
  | 97 => ⟨S_, .f32⟩
  | 98 => ⟨S_, .f32⟩
  | 99 => ⟨S_, .f32⟩
  | 100 => ⟨S_, .f32⟩
  | 101 => ⟨S32x1x512x512, .f32⟩
  | 102 => ⟨S_, .f32⟩
  | 103 => ⟨S_, .f32⟩
  | 104 => ⟨S32x1x512x512, .f32⟩
  | 105 => ⟨S32x1x512x512, .f32⟩
  | 106 => ⟨S32x1x512x512, .f32⟩
  | 107 => ⟨S_, .f32⟩
  | 108 => ⟨S_, .f32⟩
  | 109 => ⟨S32x1x512x512, .f32⟩
  | 110 => ⟨S32x1x512x512, .f32⟩
  | 111 => ⟨S32x1x512x512, .f32⟩
  | 112 => ⟨S_, .f32⟩
  | 113 => ⟨S_, .f32⟩
  | 114 => ⟨S32x1x512x512, .f32⟩
  | 115 => ⟨S32x1x512x512, .f32⟩
  | 116 => ⟨S_, .f32⟩
  | 117 => ⟨S32x1x512x512, .f32⟩
  | 118 => ⟨S32x1x512x512, .f32⟩
  | 119 => ⟨S_, .i32⟩
  | 120 => ⟨S_, .i32⟩
  | 121 => ⟨S_, .i32⟩
  | 122 => ⟨S_, .i32⟩
  | 123 => ⟨S32x1x512x512, .f32⟩
  | 124 => ⟨S32x1x512x512, .f32⟩
  | 125 => ⟨S_, .i32⟩
  | 126 => ⟨S_, .i1⟩
  | 127 => ⟨S_, .i32⟩
  | _ => ⟨S32x1x512x512, .f32⟩

abbrev hbmTy0_1 (i : Nat) : BufTy := match i % 128 with
  | 0 => ⟨S_, .i32⟩
  | 1 => ⟨S32x1x512x512, .f32⟩
  | 2 => ⟨S_, .f32⟩
  | 3 => ⟨S_, .f32⟩
  | 4 => ⟨S32x1x512x512, .f32⟩
  | 5 => ⟨S32x1x512x512, .f32⟩
  | 6 => ⟨S32x1x512x512, .f32⟩
  | 7 => ⟨S_, .f32⟩
  | 8 => ⟨S_, .f32⟩
  | 9 => ⟨S32x1x512x512, .f32⟩
  | 10 => ⟨S32x1x512x512, .f32⟩
  | 11 => ⟨S32x1x512x512, .f32⟩
  | 12 => ⟨S32x1x512x512, .f32⟩
  | 13 => ⟨S_, .f32⟩
  | 14 => ⟨S_, .f32⟩
  | 15 => ⟨S32x1x512x512, .f32⟩
  | 16 => ⟨S32x1x512x512, .f32⟩
  | 17 => ⟨S32x1x512x512, .f32⟩
  | 18 => ⟨S_, .f32⟩
  | 19 => ⟨S_, .f32⟩
  | 20 => ⟨S32x1x512x512, .f32⟩
  | 21 => ⟨S32x1x512x512, .f32⟩
  | 22 => ⟨S32x1x512x512, .f32⟩
  | 23 => ⟨S_, .f32⟩
  | 24 => ⟨S_, .f32⟩
  | 25 => ⟨S32x1x512x512, .f32⟩
  | 26 => ⟨S32x1x512x512, .f32⟩
  | 27 => ⟨S_, .f32⟩
  | 28 => ⟨S32x1x512x512, .f32⟩
  | 29 => ⟨S32x1x512x512, .f32⟩
  | 30 => ⟨S32x1x512x512, .f32⟩
  | 31 => ⟨S32x1x512x512, .f32⟩
  | 32 => ⟨S_, .f32⟩
  | 33 => ⟨S32x1x512x512, .f32⟩
  | 34 => ⟨S32x1x512x512, .f32⟩
  | 35 => ⟨S32x1x512x512, .f32⟩
  | 36 => ⟨S_, .i32⟩
  | 37 => ⟨S_, .i32⟩
  | 38 => ⟨S32x1x512x512, .f32⟩
  | 39 => ⟨S_, .f32⟩
  | 40 => ⟨S_, .f32⟩
  | 41 => ⟨S32x1x512x512, .f32⟩
  | 42 => ⟨S32x1x512x512, .f32⟩
  | 43 => ⟨S32x1x512x512, .f32⟩
  | 44 => ⟨S_, .f32⟩
  | 45 => ⟨S_, .f32⟩
  | 46 => ⟨S32x1x512x512, .f32⟩
  | 47 => ⟨S32x1x512x512, .f32⟩
  | 48 => ⟨S32x1x512x512, .f32⟩
  | 49 => ⟨S_, .f32⟩
  | 50 => ⟨S_, .f32⟩
  | 51 => ⟨S32x1x512x512, .f32⟩
  | 52 => ⟨S32x1x512x512, .f32⟩
  | 53 => ⟨S_, .f32⟩
  | 54 => ⟨S32x1x512x512, .f32⟩
  | 55 => ⟨S32x1x512x512, .f32⟩
  | 56 => ⟨S_, .i32⟩
  | 57 => ⟨S_, .i32⟩
  | 58 => ⟨S_, .i32⟩
  | 59 => ⟨S_, .i32⟩
  | 60 => ⟨S32x1x512x512, .f32⟩
  | 61 => ⟨S32x1x512x512, .f32⟩
  | 62 => ⟨S_, .i32⟩
  | 63 => ⟨S_, .i1⟩
  | 64 => ⟨S_, .i32⟩
  | 65 => ⟨S_, .i32⟩
  | 66 => ⟨S32x1x512x512, .f32⟩
  | 67 => ⟨S_, .f32⟩
  | 68 => ⟨S_, .f32⟩
  | 69 => ⟨S32x1x512x512, .f32⟩
  | 70 => ⟨S32x1x512x512, .f32⟩
  | 71 => ⟨S32x1x512x512, .f32⟩
  | 72 => ⟨S_, .f32⟩
  | 73 => ⟨S_, .f32⟩
  | 74 => ⟨S32x1x512x512, .f32⟩
  | 75 => ⟨S32x1x512x512, .f32⟩
  | 76 => ⟨S32x1x512x512, .f32⟩
  | 77 => ⟨S32x1x512x512, .f32⟩
  | 78 => ⟨S_, .f32⟩
  | 79 => ⟨S_, .f32⟩
  | 80 => ⟨S32x1x512x512, .f32⟩
  | 81 => ⟨S32x1x512x512, .f32⟩
  | 82 => ⟨S32x1x512x512, .f32⟩
  | 83 => ⟨S_, .f32⟩
  | 84 => ⟨S_, .f32⟩
  | 85 => ⟨S32x1x512x512, .f32⟩
  | 86 => ⟨S32x1x512x512, .f32⟩
  | 87 => ⟨S32x1x512x512, .f32⟩
  | 88 => ⟨S_, .f32⟩
  | 89 => ⟨S_, .f32⟩
  | 90 => ⟨S32x1x512x512, .f32⟩
  | 91 => ⟨S32x1x512x512, .f32⟩
  | 92 => ⟨S_, .f32⟩
  | 93 => ⟨S32x1x512x512, .f32⟩
  | 94 => ⟨S32x1x512x512, .f32⟩
  | 95 => ⟨S32x1x512x512, .f32⟩
  | 96 => ⟨S32x1x512x512, .f32⟩
  | 97 => ⟨S_, .f32⟩
  | 98 => ⟨S32x1x512x512, .f32⟩
  | 99 => ⟨S32x1x512x512, .f32⟩
  | 100 => ⟨S32x1x512x512, .f32⟩
  | 101 => ⟨S_, .i32⟩
  | 102 => ⟨S_, .i32⟩
  | 103 => ⟨S32x1x512x512, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S32x1x512x512, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32x1x512x512, .f32⟩

abbrev hbmTy0_2 (i : Nat) : BufTy := match i % 128 with
  | 0 => ⟨S_, .f32⟩
  | 1 => ⟨S_, .f32⟩
  | 2 => ⟨S_, .f32⟩
  | 3 => ⟨S32x1x512x512, .f32⟩
  | 4 => ⟨S32x1x512x512, .i1⟩
  | 5 => ⟨S32x1x512x512, .f32⟩
  | 6 => ⟨S_, .f32⟩
  | 7 => ⟨S32x1x512x512, .f32⟩
  | 8 => ⟨S32x1x512x512, .f32⟩
  | 9 => ⟨S_, .f32⟩
  | 10 => ⟨S32x1x512x512, .f32⟩
  | 11 => ⟨S_, .i32⟩
  | 12 => ⟨S_, .i32⟩
  | 13 => ⟨S_, .i32⟩
  | 14 => ⟨S_, .i32⟩
  | 15 => ⟨S32x1x512x512, .f32⟩
  | 16 => ⟨S32x1x512x512, .f32⟩
  | 17 => ⟨S_, .i32⟩
  | 18 => ⟨S_, .i1⟩
  | 19 => ⟨S_, .i32⟩
  | 20 => ⟨S_, .i32⟩
  | 21 => ⟨S32x1x512x512, .f32⟩
  | 22 => ⟨S_, .f32⟩
  | 23 => ⟨S_, .f32⟩
  | 24 => ⟨S32x1x512x512, .f32⟩
  | 25 => ⟨S32x1x512x512, .f32⟩
  | 26 => ⟨S_, .f32⟩
  | 27 => ⟨S32x1x512x512, .f32⟩
  | 28 => ⟨S32x1x512x512, .i1⟩
  | 29 => ⟨S_, .f32⟩
  | 30 => ⟨S32x1x512x512, .f32⟩
  | 31 => ⟨S32x1x512x512, .i1⟩
  | 32 => ⟨S32x1x512x512, .i1⟩
  | 33 => ⟨S_, .f32⟩
  | 34 => ⟨S32x1x512x512, .f32⟩
  | 35 => ⟨S32x1x512x512, .i1⟩
  | 36 => ⟨S32x1x512x512, .i1⟩
  | 37 => ⟨S_, .f32⟩
  | 38 => ⟨S32x1x512x512, .f32⟩
  | 39 => ⟨S32x1x512x512, .f32⟩
  | 40 => ⟨S_, .i32⟩
  | 41 => ⟨S_, .i32⟩
  | 42 => ⟨S_, .f32⟩
  | 43 => ⟨S32x1x512x512, .f32⟩
  | 44 => ⟨S32x1x512x512, .i1⟩
  | 45 => ⟨S_, .f32⟩
  | 46 => ⟨S32x1x512x512, .f32⟩
  | 47 => ⟨S32x1x512x512, .i1⟩
  | 48 => ⟨S32x1x512x512, .i1⟩
  | 49 => ⟨S_, .f32⟩
  | 50 => ⟨S32x1x512x512, .f32⟩
  | 51 => ⟨S32x1x512x512, .f32⟩
  | 52 => ⟨S_, .f32⟩
  | 53 => ⟨S32x1x512x512, .f32⟩
  | 54 => ⟨S32x1x512x512, .f32⟩
  | 55 => ⟨S_, .f32⟩
  | 56 => ⟨S32x1x512x512, .f32⟩
  | 57 => ⟨S_, .i32⟩
  | 58 => ⟨S_, .i32⟩
  | 59 => ⟨S_, .i32⟩
  | 60 => ⟨S_, .i32⟩
  | 61 => ⟨S32x1x512x512, .f32⟩
  | 62 => ⟨S32x1x512x512, .f32⟩
  | 63 => ⟨S_, .i32⟩
  | 64 => ⟨S_, .i1⟩
  | 65 => ⟨S_, .i32⟩
  | 66 => ⟨S_, .i32⟩
  | 67 => ⟨S32x1x512x512, .f32⟩
  | 68 => ⟨S_, .f32⟩
  | 69 => ⟨S_, .f32⟩
  | 70 => ⟨S32x1x512x512, .f32⟩
  | 71 => ⟨S32x1x512x512, .f32⟩
  | 72 => ⟨S_, .f32⟩
  | 73 => ⟨S32x1x512x512, .f32⟩
  | 74 => ⟨S32x1x512x512, .i1⟩
  | 75 => ⟨S_, .f32⟩
  | 76 => ⟨S32x1x512x512, .f32⟩
  | 77 => ⟨S32x1x512x512, .i1⟩
  | 78 => ⟨S32x1x512x512, .i1⟩
  | 79 => ⟨S_, .f32⟩
  | 80 => ⟨S32x1x512x512, .f32⟩
  | 81 => ⟨S32x1x512x512, .i1⟩
  | 82 => ⟨S32x1x512x512, .i1⟩
  | 83 => ⟨S_, .f32⟩
  | 84 => ⟨S32x1x512x512, .f32⟩
  | 85 => ⟨S32x1x512x512, .f32⟩
  | 86 => ⟨S_, .i32⟩
  | 87 => ⟨S_, .i32⟩
  | 88 => ⟨S_, .f32⟩
  | 89 => ⟨S32x1x512x512, .f32⟩
  | 90 => ⟨S32x1x512x512, .i1⟩
  | 91 => ⟨S_, .f32⟩
  | 92 => ⟨S32x1x512x512, .f32⟩
  | 93 => ⟨S32x1x512x512, .i1⟩
  | 94 => ⟨S32x1x512x512, .i1⟩
  | 95 => ⟨S_, .f32⟩
  | 96 => ⟨S32x1x512x512, .f32⟩
  | 97 => ⟨S32x1x512x512, .f32⟩
  | 98 => ⟨S32x1x512x512, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S32x1x512x512, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32x1x512x512, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S32x1x512x512, .f32⟩

abbrev hbmTy (i : Nat) : BufTy := match i / 128 with
  | 0 => hbmTy0_0 i
  | 1 => hbmTy0_1 i
  | 2 => hbmTy0_2 i
  | 3 => hbmTy0_3 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_cst_12 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_13 : Ref sig .tc := ⟨.hbm, 54, rfl⟩
abbrev main_v36 : Ref sig .tc := ⟨.hbm, 55, rfl⟩
abbrev main_cst_14 : Ref sig .tc := ⟨.hbm, 56, rfl⟩
abbrev main_v37 : Ref sig .tc := ⟨.hbm, 57, rfl⟩
abbrev main_cst_15 : Ref sig .tc := ⟨.hbm, 58, rfl⟩
abbrev main_v38 : Ref sig .tc := ⟨.hbm, 59, rfl⟩
abbrev main_v39 : Ref sig .tc := ⟨.hbm, 60, rfl⟩
abbrev main_cst_16 : Ref sig .tc := ⟨.hbm, 61, rfl⟩
abbrev main_v40 : Ref sig .tc := ⟨.hbm, 62, rfl⟩
abbrev main_v41 : Ref sig .tc := ⟨.hbm, 63, rfl⟩
abbrev main_cst_17 : Ref sig .tc := ⟨.hbm, 64, rfl⟩
abbrev main_v42 : Ref sig .tc := ⟨.hbm, 65, rfl⟩
abbrev main_v43 : Ref sig .tc := ⟨.hbm, 66, rfl⟩
abbrev main_cst_18 : Ref sig .tc := ⟨.hbm, 67, rfl⟩
abbrev main_v44 : Ref sig .tc := ⟨.hbm, 68, rfl⟩
abbrev main_cst_19 : Ref sig .tc := ⟨.hbm, 69, rfl⟩
abbrev main_v45 : Ref sig .tc := ⟨.hbm, 70, rfl⟩
abbrev main_cst_20 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_21 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_22 : Ref sig .tc := ⟨.hbm, 80, rfl⟩
abbrev main_v53 : Ref sig .tc := ⟨.hbm, 81, rfl⟩
abbrev main_v54 : Ref sig .tc := ⟨.hbm, 82, rfl⟩
abbrev main_cst_23 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_24 : Ref sig .tc := ⟨.hbm, 97, rfl⟩
abbrev main_v66 : Ref sig .tc := ⟨.hbm, 98, rfl⟩
abbrev main_cst_25 : Ref sig .tc := ⟨.hbm, 99, rfl⟩
abbrev main_v67 : Ref sig .tc := ⟨.hbm, 100, rfl⟩
abbrev main_v68 : Ref sig .tc := ⟨.hbm, 101, rfl⟩
abbrev main_cst_26 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_27 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_28 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_c : Ref sig .tc := ⟨.hbm, 119, rfl⟩
abbrev main_c_29 : Ref sig .tc := ⟨.hbm, 120, rfl⟩
abbrev main_v81_0 : Ref sig .tc := ⟨.hbm, 121, rfl⟩
abbrev main_v81_1 : Ref sig .tc := ⟨.hbm, 122, rfl⟩
abbrev main_v81_2 : Ref sig .tc := ⟨.hbm, 123, rfl⟩
abbrev main_v81_3 : Ref sig .tc := ⟨.hbm, 124, rfl⟩
abbrev main_while0c_c_78 : Ref sig .tc := ⟨.hbm, 125, rfl⟩
abbrev main_while0c_v161 : Ref sig .tc := ⟨.hbm, 126, rfl⟩
abbrev main_while0b_c_78 : Ref sig .tc := ⟨.hbm, 127, rfl⟩
abbrev main_while0b_v161 : Ref sig .tc := ⟨.hbm, 128, rfl⟩
abbrev main_while0b_v162 : Ref sig .tc := ⟨.hbm, 129, rfl⟩
abbrev main_while0b_cst_79 : Ref sig .tc := ⟨.hbm, 130, rfl⟩
abbrev main_while0b_v163 : Ref sig .tc := ⟨.hbm, 131, rfl⟩
abbrev main_while0b_v164 : Ref sig .tc := ⟨.hbm, 132, rfl⟩
abbrev main_while0b_v165 : Ref sig .tc := ⟨.hbm, 133, rfl⟩
abbrev main_while0b_v166 : Ref sig .tc := ⟨.hbm, 134, rfl⟩
abbrev main_while0b_cst_80 : Ref sig .tc := ⟨.hbm, 135, rfl⟩
abbrev main_while0b_v167 : Ref sig .tc := ⟨.hbm, 136, rfl⟩
abbrev main_while0b_v168 : Ref sig .tc := ⟨.hbm, 137, rfl⟩
abbrev main_while0b_v169 : Ref sig .tc := ⟨.hbm, 138, rfl⟩
abbrev main_while0b_v170 : Ref sig .tc := ⟨.hbm, 139, rfl⟩
abbrev main_while0b_v171 : Ref sig .tc := ⟨.hbm, 140, rfl⟩
abbrev main_while0b_cst_81 : Ref sig .tc := ⟨.hbm, 141, rfl⟩
abbrev main_while0b_v172 : Ref sig .tc := ⟨.hbm, 142, rfl⟩
abbrev main_while0b_v173 : Ref sig .tc := ⟨.hbm, 143, rfl⟩
abbrev main_while0b_v174 : Ref sig .tc := ⟨.hbm, 144, rfl⟩
abbrev main_while0b_v175 : Ref sig .tc := ⟨.hbm, 145, rfl⟩
abbrev main_while0b_cst_82 : Ref sig .tc := ⟨.hbm, 146, rfl⟩
abbrev main_while0b_v176 : Ref sig .tc := ⟨.hbm, 147, rfl⟩
abbrev main_while0b_v177 : Ref sig .tc := ⟨.hbm, 148, rfl⟩
abbrev main_while0b_v178 : Ref sig .tc := ⟨.hbm, 149, rfl⟩
abbrev main_while0b_v179 : Ref sig .tc := ⟨.hbm, 150, rfl⟩
abbrev main_while0b_cst_83 : Ref sig .tc := ⟨.hbm, 151, rfl⟩
abbrev main_while0b_v180 : Ref sig .tc := ⟨.hbm, 152, rfl⟩
abbrev main_while0b_v181 : Ref sig .tc := ⟨.hbm, 153, rfl⟩
abbrev main_while0b_v182 : Ref sig .tc := ⟨.hbm, 154, rfl⟩
abbrev main_while0b_call3_cst : Ref sig .tc := ⟨.hbm, 155, rfl⟩
abbrev main_while0b_call3_v0 : Ref sig .tc := ⟨.hbm, 156, rfl⟩
abbrev main_while0b_v183 : Ref sig .tc := ⟨.hbm, 157, rfl⟩
abbrev main_while0b_v184 : Ref sig .tc := ⟨.hbm, 158, rfl⟩
abbrev main_while0b_v185 : Ref sig .tc := ⟨.hbm, 159, rfl⟩
abbrev main_while0b_call4_cst : Ref sig .tc := ⟨.hbm, 160, rfl⟩
abbrev main_while0b_call4_v0 : Ref sig .tc := ⟨.hbm, 161, rfl⟩
abbrev main_while0b_v186 : Ref sig .tc := ⟨.hbm, 162, rfl⟩
abbrev main_while0b_v187 : Ref sig .tc := ⟨.hbm, 163, rfl⟩
abbrev main_while0b_c_84 : Ref sig .tc := ⟨.hbm, 164, rfl⟩
abbrev main_while0b_v188 : Ref sig .tc := ⟨.hbm, 165, rfl⟩
abbrev main_v82 : Ref sig .tc := ⟨.hbm, 166, rfl⟩
abbrev main_cst_30 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_cst_31 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_32 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_call5_cst : Ref sig .tc := ⟨.hbm, 181, rfl⟩
abbrev main_call5_v0 : Ref sig .tc := ⟨.hbm, 182, rfl⟩
abbrev main_v94 : Ref sig .tc := ⟨.hbm, 183, rfl⟩
abbrev main_c_33 : Ref sig .tc := ⟨.hbm, 184, rfl⟩
abbrev main_c_34 : Ref sig .tc := ⟨.hbm, 185, rfl⟩
abbrev main_v95_0 : Ref sig .tc := ⟨.hbm, 186, rfl⟩
abbrev main_v95_1 : Ref sig .tc := ⟨.hbm, 187, rfl⟩
abbrev main_v95_2 : Ref sig .tc := ⟨.hbm, 188, rfl⟩
abbrev main_v95_3 : Ref sig .tc := ⟨.hbm, 189, rfl⟩
abbrev main_while1c_c_78 : Ref sig .tc := ⟨.hbm, 190, rfl⟩
abbrev main_while1c_v161 : Ref sig .tc := ⟨.hbm, 191, rfl⟩
abbrev main_while1b_c_78 : Ref sig .tc := ⟨.hbm, 192, rfl⟩
abbrev main_while1b_v161 : Ref sig .tc := ⟨.hbm, 193, rfl⟩
abbrev main_while1b_v162 : Ref sig .tc := ⟨.hbm, 194, rfl⟩
abbrev main_while1b_cst_79 : Ref sig .tc := ⟨.hbm, 195, rfl⟩
abbrev main_while1b_v163 : Ref sig .tc := ⟨.hbm, 196, rfl⟩
abbrev main_while1b_v164 : Ref sig .tc := ⟨.hbm, 197, rfl⟩
abbrev main_while1b_v165 : Ref sig .tc := ⟨.hbm, 198, rfl⟩
abbrev main_while1b_v166 : Ref sig .tc := ⟨.hbm, 199, rfl⟩
abbrev main_while1b_cst_80 : Ref sig .tc := ⟨.hbm, 200, rfl⟩
abbrev main_while1b_v167 : Ref sig .tc := ⟨.hbm, 201, rfl⟩
abbrev main_while1b_v168 : Ref sig .tc := ⟨.hbm, 202, rfl⟩
abbrev main_while1b_v169 : Ref sig .tc := ⟨.hbm, 203, rfl⟩
abbrev main_while1b_v170 : Ref sig .tc := ⟨.hbm, 204, rfl⟩
abbrev main_while1b_v171 : Ref sig .tc := ⟨.hbm, 205, rfl⟩
abbrev main_while1b_cst_81 : Ref sig .tc := ⟨.hbm, 206, rfl⟩
abbrev main_while1b_v172 : Ref sig .tc := ⟨.hbm, 207, rfl⟩
abbrev main_while1b_v173 : Ref sig .tc := ⟨.hbm, 208, rfl⟩
abbrev main_while1b_v174 : Ref sig .tc := ⟨.hbm, 209, rfl⟩
abbrev main_while1b_v175 : Ref sig .tc := ⟨.hbm, 210, rfl⟩
abbrev main_while1b_cst_82 : Ref sig .tc := ⟨.hbm, 211, rfl⟩
abbrev main_while1b_v176 : Ref sig .tc := ⟨.hbm, 212, rfl⟩
abbrev main_while1b_v177 : Ref sig .tc := ⟨.hbm, 213, rfl⟩
abbrev main_while1b_v178 : Ref sig .tc := ⟨.hbm, 214, rfl⟩
abbrev main_while1b_v179 : Ref sig .tc := ⟨.hbm, 215, rfl⟩
abbrev main_while1b_cst_83 : Ref sig .tc := ⟨.hbm, 216, rfl⟩
abbrev main_while1b_v180 : Ref sig .tc := ⟨.hbm, 217, rfl⟩
abbrev main_while1b_v181 : Ref sig .tc := ⟨.hbm, 218, rfl⟩
abbrev main_while1b_v182 : Ref sig .tc := ⟨.hbm, 219, rfl⟩
abbrev main_while1b_call6_cst : Ref sig .tc := ⟨.hbm, 220, rfl⟩
abbrev main_while1b_call6_v0 : Ref sig .tc := ⟨.hbm, 221, rfl⟩
abbrev main_while1b_v183 : Ref sig .tc := ⟨.hbm, 222, rfl⟩
abbrev main_while1b_v184 : Ref sig .tc := ⟨.hbm, 223, rfl⟩
abbrev main_while1b_v185 : Ref sig .tc := ⟨.hbm, 224, rfl⟩
abbrev main_while1b_call7_cst : Ref sig .tc := ⟨.hbm, 225, rfl⟩
abbrev main_while1b_call7_v0 : Ref sig .tc := ⟨.hbm, 226, rfl⟩
abbrev main_while1b_v186 : Ref sig .tc := ⟨.hbm, 227, rfl⟩
abbrev main_while1b_v187 : Ref sig .tc := ⟨.hbm, 228, rfl⟩
abbrev main_while1b_c_84 : Ref sig .tc := ⟨.hbm, 229, rfl⟩
abbrev main_while1b_v188 : Ref sig .tc := ⟨.hbm, 230, rfl⟩
abbrev main_v96 : Ref sig .tc := ⟨.hbm, 231, rfl⟩
abbrev main_cst_35 : Ref sig .tc := ⟨.hbm, 232, rfl⟩
abbrev main_v97 : Ref sig .tc := ⟨.hbm, 233, rfl⟩
abbrev main_cst_36 : Ref sig .tc := ⟨.hbm, 234, rfl⟩
abbrev main_v98 : Ref sig .tc := ⟨.hbm, 235, rfl⟩
abbrev main_cst_37 : Ref sig .tc := ⟨.hbm, 236, rfl⟩
abbrev main_v99 : Ref sig .tc := ⟨.hbm, 237, rfl⟩
abbrev main_cst_38 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_cst_39 : Ref sig .tc := ⟨.hbm, 242, rfl⟩
abbrev main_v103 : Ref sig .tc := ⟨.hbm, 243, rfl⟩
abbrev main_cst_40 : Ref sig .tc := ⟨.hbm, 244, rfl⟩
abbrev main_v104 : Ref sig .tc := ⟨.hbm, 245, rfl⟩
abbrev main_cst_41 : Ref sig .tc := ⟨.hbm, 246, rfl⟩
abbrev main_v105 : Ref sig .tc := ⟨.hbm, 247, rfl⟩
abbrev main_cst_42 : Ref sig .tc := ⟨.hbm, 248, rfl⟩
abbrev main_v106 : Ref sig .tc := ⟨.hbm, 249, rfl⟩
abbrev main_v107 : Ref sig .tc := ⟨.hbm, 250, rfl⟩
abbrev main_cst_43 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_cst_44 : Ref sig .tc := ⟨.hbm, 256, rfl⟩
abbrev main_v112 : Ref sig .tc := ⟨.hbm, 257, rfl⟩
abbrev main_cst_45 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_cst_46 : Ref sig .tc := ⟨.hbm, 262, rfl⟩
abbrev main_v116 : Ref sig .tc := ⟨.hbm, 263, rfl⟩
abbrev main_v117 : Ref sig .tc := ⟨.hbm, 264, rfl⟩
abbrev main_cst_47 : Ref sig .tc := ⟨.hbm, 265, rfl⟩
abbrev main_v118 : Ref sig .tc := ⟨.hbm, 266, rfl⟩
abbrev main_c_48 : Ref sig .tc := ⟨.hbm, 267, rfl⟩
abbrev main_c_49 : Ref sig .tc := ⟨.hbm, 268, rfl⟩
abbrev main_v119_0 : Ref sig .tc := ⟨.hbm, 269, rfl⟩
abbrev main_v119_1 : Ref sig .tc := ⟨.hbm, 270, rfl⟩
abbrev main_v119_2 : Ref sig .tc := ⟨.hbm, 271, rfl⟩
abbrev main_v119_3 : Ref sig .tc := ⟨.hbm, 272, rfl⟩
abbrev main_while2c_c_78 : Ref sig .tc := ⟨.hbm, 273, rfl⟩
abbrev main_while2c_v161 : Ref sig .tc := ⟨.hbm, 274, rfl⟩
abbrev main_while2b_c_78 : Ref sig .tc := ⟨.hbm, 275, rfl⟩
abbrev main_while2b_v161 : Ref sig .tc := ⟨.hbm, 276, rfl⟩
abbrev main_while2b_v162 : Ref sig .tc := ⟨.hbm, 277, rfl⟩
abbrev main_while2b_cst_79 : Ref sig .tc := ⟨.hbm, 278, rfl⟩
abbrev main_while2b_v163 : Ref sig .tc := ⟨.hbm, 279, rfl⟩
abbrev main_while2b_v164 : Ref sig .tc := ⟨.hbm, 280, rfl⟩
abbrev main_while2b_v165 : Ref sig .tc := ⟨.hbm, 281, rfl⟩
abbrev main_while2b_cst_80 : Ref sig .tc := ⟨.hbm, 282, rfl⟩
abbrev main_while2b_v166 : Ref sig .tc := ⟨.hbm, 283, rfl⟩
abbrev main_while2b_v167 : Ref sig .tc := ⟨.hbm, 284, rfl⟩
abbrev main_while2b_cst_81 : Ref sig .tc := ⟨.hbm, 285, rfl⟩
abbrev main_while2b_v168 : Ref sig .tc := ⟨.hbm, 286, rfl⟩
abbrev main_while2b_v169 : Ref sig .tc := ⟨.hbm, 287, rfl⟩
abbrev main_while2b_v170 : Ref sig .tc := ⟨.hbm, 288, rfl⟩
abbrev main_while2b_cst_82 : Ref sig .tc := ⟨.hbm, 289, rfl⟩
abbrev main_while2b_v171 : Ref sig .tc := ⟨.hbm, 290, rfl⟩
abbrev main_while2b_v172 : Ref sig .tc := ⟨.hbm, 291, rfl⟩
abbrev main_while2b_v173 : Ref sig .tc := ⟨.hbm, 292, rfl⟩
abbrev main_while2b_v174 : Ref sig .tc := ⟨.hbm, 293, rfl⟩
abbrev main_while2b_call8_v0 : Ref sig .tc := ⟨.hbm, 294, rfl⟩
abbrev main_while2b_v175 : Ref sig .tc := ⟨.hbm, 295, rfl⟩
abbrev main_while2b_c_83 : Ref sig .tc := ⟨.hbm, 296, rfl⟩
abbrev main_while2b_v176 : Ref sig .tc := ⟨.hbm, 297, rfl⟩
abbrev main_cst_50 : Ref sig .tc := ⟨.hbm, 298, rfl⟩
abbrev main_v120 : Ref sig .tc := ⟨.hbm, 299, rfl⟩
abbrev main_v121 : Ref sig .tc := ⟨.hbm, 300, rfl⟩
abbrev main_cst_51 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_cst_52 : Ref sig .tc := ⟨.hbm, 305, rfl⟩
abbrev main_call9_v0 : Ref sig .tc := ⟨.hbm, 306, rfl⟩
abbrev main_v125 : Ref sig .tc := ⟨.hbm, 307, rfl⟩
abbrev main_cst_53 : Ref sig .tc := ⟨.hbm, 308, rfl⟩
abbrev main_v126 : Ref sig .tc := ⟨.hbm, 309, rfl⟩
abbrev main_v127 : Ref sig .tc := ⟨.hbm, 310, rfl⟩
abbrev main_cst_54 : Ref sig .tc := ⟨.hbm, 311, rfl⟩
abbrev main_v128 : Ref sig .tc := ⟨.hbm, 312, rfl⟩
abbrev main_c_55 : Ref sig .tc := ⟨.hbm, 313, rfl⟩
abbrev main_c_56 : Ref sig .tc := ⟨.hbm, 314, rfl⟩
abbrev main_v129_0 : Ref sig .tc := ⟨.hbm, 315, rfl⟩
abbrev main_v129_1 : Ref sig .tc := ⟨.hbm, 316, rfl⟩
abbrev main_v129_2 : Ref sig .tc := ⟨.hbm, 317, rfl⟩
abbrev main_v129_3 : Ref sig .tc := ⟨.hbm, 318, rfl⟩
abbrev main_while3c_c_78 : Ref sig .tc := ⟨.hbm, 319, rfl⟩
abbrev main_while3c_v161 : Ref sig .tc := ⟨.hbm, 320, rfl⟩
abbrev main_while3b_c_78 : Ref sig .tc := ⟨.hbm, 321, rfl⟩
abbrev main_while3b_v161 : Ref sig .tc := ⟨.hbm, 322, rfl⟩
abbrev main_while3b_v162 : Ref sig .tc := ⟨.hbm, 323, rfl⟩
abbrev main_while3b_cst_79 : Ref sig .tc := ⟨.hbm, 324, rfl⟩
abbrev main_while3b_v163 : Ref sig .tc := ⟨.hbm, 325, rfl⟩
abbrev main_while3b_v164 : Ref sig .tc := ⟨.hbm, 326, rfl⟩
abbrev main_while3b_v165 : Ref sig .tc := ⟨.hbm, 327, rfl⟩
abbrev main_while3b_cst_80 : Ref sig .tc := ⟨.hbm, 328, rfl⟩
abbrev main_while3b_v166 : Ref sig .tc := ⟨.hbm, 329, rfl⟩
abbrev main_while3b_v167 : Ref sig .tc := ⟨.hbm, 330, rfl⟩
abbrev main_while3b_cst_81 : Ref sig .tc := ⟨.hbm, 331, rfl⟩
abbrev main_while3b_v168 : Ref sig .tc := ⟨.hbm, 332, rfl⟩
abbrev main_while3b_v169 : Ref sig .tc := ⟨.hbm, 333, rfl⟩
abbrev main_while3b_v170 : Ref sig .tc := ⟨.hbm, 334, rfl⟩
abbrev main_while3b_cst_82 : Ref sig .tc := ⟨.hbm, 335, rfl⟩
abbrev main_while3b_v171 : Ref sig .tc := ⟨.hbm, 336, rfl⟩
abbrev main_while3b_v172 : Ref sig .tc := ⟨.hbm, 337, rfl⟩
abbrev main_while3b_v173 : Ref sig .tc := ⟨.hbm, 338, rfl⟩
abbrev main_while3b_v174 : Ref sig .tc := ⟨.hbm, 339, rfl⟩
abbrev main_while3b_call10_v0 : Ref sig .tc := ⟨.hbm, 340, rfl⟩
abbrev main_while3b_v175 : Ref sig .tc := ⟨.hbm, 341, rfl⟩
abbrev main_while3b_c_83 : Ref sig .tc := ⟨.hbm, 342, rfl⟩
abbrev main_while3b_v176 : Ref sig .tc := ⟨.hbm, 343, rfl⟩
abbrev main_cst_57 : Ref sig .tc := ⟨.hbm, 344, rfl⟩
abbrev main_v130 : Ref sig .tc := ⟨.hbm, 345, rfl⟩
abbrev main_v131 : Ref sig .tc := ⟨.hbm, 346, rfl⟩
abbrev main_cst_58 : Ref sig .tc := ⟨.hbm, 347, rfl⟩
abbrev main_v132 : Ref sig .tc := ⟨.hbm, 348, rfl⟩
abbrev main_v133 : Ref sig .tc := ⟨.hbm, 349, rfl⟩
abbrev main_v134 : Ref sig .tc := ⟨.hbm, 350, rfl⟩
abbrev main_cst_59 : Ref sig .tc := ⟨.hbm, 351, rfl⟩
abbrev main_call11_v0 : Ref sig .tc := ⟨.hbm, 352, rfl⟩
abbrev main_v135 : Ref sig .tc := ⟨.hbm, 353, rfl⟩
abbrev main_v136 : Ref sig .tc := ⟨.hbm, 354, rfl⟩
abbrev main_cst_60 : Ref sig .tc := ⟨.hbm, 355, rfl⟩
abbrev main_v137 : Ref sig .tc := ⟨.hbm, 356, rfl⟩
abbrev main_cst_61 : Ref sig .tc := ⟨.hbm, 357, rfl⟩
abbrev main_v138 : Ref sig .tc := ⟨.hbm, 358, rfl⟩
abbrev main_cst_62 : Ref sig .tc := ⟨.hbm, 359, rfl⟩
abbrev main_v139 : Ref sig .tc := ⟨.hbm, 360, rfl⟩
abbrev main_cst_63 : Ref sig .tc := ⟨.hbm, 361, rfl⟩
abbrev main_v140 : Ref sig .tc := ⟨.hbm, 362, rfl⟩
abbrev main_v141 : Ref sig .tc := ⟨.hbm, 363, rfl⟩
abbrev main_v142 : Ref sig .tc := ⟨.hbm, 364, rfl⟩
abbrev main_cst_64 : Ref sig .tc := ⟨.hbm, 365, rfl⟩
abbrev main_v143 : Ref sig .tc := ⟨.hbm, 366, rfl⟩
abbrev main_cst_65 : Ref sig .tc := ⟨.hbm, 367, rfl⟩
abbrev main_v144 : Ref sig .tc := ⟨.hbm, 368, rfl⟩
abbrev main_cst_66 : Ref sig .tc := ⟨.hbm, 369, rfl⟩
abbrev main_v145 : Ref sig .tc := ⟨.hbm, 370, rfl⟩
abbrev main_cst_67 : Ref sig .tc := ⟨.hbm, 371, rfl⟩
abbrev main_v146 : Ref sig .tc := ⟨.hbm, 372, rfl⟩
abbrev main_v147 : Ref sig .tc := ⟨.hbm, 373, rfl⟩
abbrev main_v148 : Ref sig .tc := ⟨.hbm, 374, rfl⟩
abbrev main_cst_68 : Ref sig .tc := ⟨.hbm, 375, rfl⟩
abbrev main_v149 : Ref sig .tc := ⟨.hbm, 376, rfl⟩
abbrev main_cst_69 : Ref sig .tc := ⟨.hbm, 377, rfl⟩
abbrev main_v150 : Ref sig .tc := ⟨.hbm, 378, rfl⟩
abbrev main_cst_70 : Ref sig .tc := ⟨.hbm, 379, rfl⟩
abbrev main_v151 : Ref sig .tc := ⟨.hbm, 380, rfl⟩
abbrev main_v152 : Ref sig .tc := ⟨.hbm, 381, rfl⟩
abbrev main_cst_71 : Ref sig .tc := ⟨.hbm, 382, rfl⟩
abbrev main_v153 : Ref sig .tc := ⟨.hbm, 383, rfl⟩
abbrev main_v154 : Ref sig .tc := ⟨.hbm, 384, rfl⟩
abbrev main_cst_72 : Ref sig .tc := ⟨.hbm, 385, rfl⟩
abbrev main_v155 : Ref sig .tc := ⟨.hbm, 386, rfl⟩
abbrev main_v156 : Ref sig .tc := ⟨.hbm, 387, rfl⟩
abbrev main_cst_73 : Ref sig .tc := ⟨.hbm, 388, rfl⟩
abbrev main_v157 : Ref sig .tc := ⟨.hbm, 389, rfl⟩
abbrev main_v158 : Ref sig .tc := ⟨.hbm, 390, rfl⟩
abbrev main_cst_74 : Ref sig .tc := ⟨.hbm, 391, rfl⟩
abbrev main_v159 : Ref sig .tc := ⟨.hbm, 392, rfl⟩
abbrev main_v160 : Ref sig .tc := ⟨.hbm, 393, rfl⟩

abbrev nD : Nat := 1
abbrev τ : Topo := Topo.v7x

variable {F : FTy → Type} [FloatOps F]

abbrev main_while0_count : Scf.Loop 32 := ⟨0#32, 10#32, 1#32⟩

abbrev main_while1_count : Scf.Loop 32 := ⟨0#32, 10#32, 1#32⟩

abbrev main_while2_count : Scf.Loop 32 := ⟨0#32, 20#32, 1#32⟩

abbrev main_while3_count : Scf.Loop 32 := ⟨0#32, 20#32, 1#32⟩
-- ==== Proof.KI.Stages.lean ====
/-
  What the kernel's body computes at one grid point, as pure functions of the two blocks it loads (four images of logits
  and of targets): the printed payloads composed in the order of the body, the two while loops as their iterates.
-/
module

public import proofs.«01_k».proof.Proof.Gen.KernelIdeal
public import proofs.«01_k».proof.Proof.Gen.KernelIdeal.Skeleton
public import Idealize.ShloMosaic.Lib.Pipeline.FrameBody
public import Idealize.ShloMosaic.Lib.Tactic

@[expose] public section

noncomputable section

namespace Cert.Proof.KI

open Cert.KernelIdeal Cert.KernelIdeal.Gen
open Idealize.ShloMosaic Idealize.ShloMosaic.TcCoe

variable {F : FTy → Type} [FloatOps F]

/-! ## The two while loops -/

/-- The skeleton loop's carried values: the counter, the image, the skeleton so far, whether the image still has a pixel. -/
abbrev St1 := BitVec 32 × IVec S4x16x512 32 × IVec S4x16x512 32 × BitVec 1

/-- The skeleton loop's test. -/
def go1 (s : St1) : Prop := Scalar.andi (Scalar.cmpi .slt s.1 11#32) s.2.2.2 = 1#1

instance (s : St1) : Decidable (go1 s) := inferInstanceAs (Decidable (_ = _))

/-- One trip of the skeleton loop. -/
def step1 (F : FTy → Type) [FloatOps F] (s : St1) : St1 :=
  (Scalar.addi s.1 1#32, k0_pay119 s.2.1, k0_pay2 s.2.1 s.2.2.1 (k0_pay120 s.2.1) k0_pay121,
    Scalar.cmpf .ogt (k0_pay3 (F := F) s.2.1 (k0_pay119 s.2.1)) (Scalar.ofBits .f32 0x00000000#32))

/-- At most `k` trips of the skeleton loop. -/
def run1 (F : FTy → Type) [FloatOps F] : ℕ → St1 → St1
  | 0, s => s
  | k + 1, s => if go1 s then run1 F k (step1 F s) else s

/-- The distance loop's carried values: the counter, the eroded images, the weighted counts so far, whether a pixel is left. -/
abbrev St2 := BitVec 32 × IVec S2x4x16x512 32 × IVec S2x4x16x512 32 × BitVec 1

/-- The distance loop's test. -/
def go2 (s : St2) : Prop := Scalar.andi (Scalar.cmpi .slt s.1 20#32) s.2.2.2 = 1#1

instance (s : St2) : Decidable (go2 s) := inferInstanceAs (Decidable (_ = _))

/-- One trip of the distance loop, against the boundaries `b`. -/
def step2 (F : FTy → Type) [FloatOps F] (b : IVec S2x4x16x512 32) (s : St2) : St2 :=
  (Scalar.addi s.1 1#32, k0_pay5 s.2.1, k0_pay4 b s.2.1 s.2.2.1,
    Scalar.cmpf .ogt (k0_pay6 (F := F) s.2.1) (Scalar.ofBits .f32 0x00000000#32))

/-- At most `k` trips of the distance loop. -/
def run2 (F : FTy → Type) [FloatOps F] (b : IVec S2x4x16x512 32) : ℕ → St2 → St2
  | 0, s => s
  | k + 1, s => if go2 s then run2 F b k (step2 F b s) else s

/-! ## The body's values -/

/-- The iotas of the packing matrix. -/
def rowI : IVec S32x512 32 := iota .tc S32x512 32 [0] iota_S32x512_d0_w32
def colI : IVec S32x512 32 := iota .tc S32x512 32 [1] iota_S32x512_d1_w32

/-- The packing matrix. -/
def packW (F : FTy → Type) [FloatOps F] : FVec F S32x512 .f32 := k0_pay14 (F := F) rowI colI k0_pay11 k0_pay12 k0_pay13

section
variable (x : FVec F S4x1x512x512 .f32) (t : IVec S4x1x512x512 32)

/-- The targets as floats, the probabilities, the cross entropies. -/
def tF : FVec F S4x512x512 .f32 := k0_pay8 t
def pF : FVec F S4x512x512 .f32 := k0_pay9 x
def bceF : FVec F S4x512x512 .f32 := k0_pay10 x t

/-- The targets packed, -/
def tPack (F : FTy → Type) [FloatOps F] (t : IVec S4x1x512x512 32) : IVec S4x16x512 32 :=
  k0_pay17 (tF (F := F) t) (packW F) (k0_pay16 (tF (F := F) t) rowI colI k0_pay11 k0_pay12 k0_pay13)
/-- and the thresholded probabilities packed. -/
def pPack : IVec S4x16x512 32 :=
  k0_pay20 (packW F) (k0_pay15 (pF x)) (k0_pay18 (packW F) (k0_pay15 (pF x))) (k0_pay19 (packW F) (k0_pay15 (pF x)))
/-- The targets' boundary, packed. -/
def bPack (F : FTy → Type) [FloatOps F] (t : IVec S4x1x512x512 32) : IVec S4x16x512 32 :=
  k0_pay24 (tPack F t) (k0_pay22 (tPack F t)) (k0_pay23 (tPack F t))
/-- The fold of the float skeleton loop. -/
def skelFold : FVec F S4x512x512 .bf16 × FVec F S4x512x512 .bf16 :=
  Scf.fold (n := k0_t1_loop.trips) (fun _ a => (k0_pay27 a.1, k0_pay28 a.1 a.2)) (k0_pay25 (pF x), k0_pay26 (F := F))
/-- The skeleton of the probabilities. -/
def pSkel : FVec F S4x512x512 .f32 := k0_pay29 (skelFold x).2
/-- The skeleton of the targets, packed. -/
def tSkel (F : FTy → Type) [FloatOps F] (t : IVec S4x1x512x512 32) : IVec S4x16x512 32 :=
  (run1 F 11 (0#32, tPack F t, k0_pay30, 1#1)).2.2.1
/-- The unpacking product: eight byte planes side by side. -/
def unpackF (b s : IVec S4x16x512 32) : FVec F S512x4096 .f32 :=
  k0_pay55 (k0_pay31 (F := F)) (k0_pay37 s) (k0_pay38 s) (k0_pay39 (F := F) b)
    (k0_pay42 (k0_pay32 b) (k0_pay40 (F := F) b) (k0_pay41 b)) (k0_pay43 (F := F) (k0_pay33 b))
    (k0_pay45 (F := F) (k0_pay34 b) k0_pay44)
    (k0_pay50 (k0_pay46 (F := F) (k0_pay35 s)) (k0_pay47 (F := F) (k0_pay35 s)) (k0_pay48 (F := F) (k0_pay35 s)) (k0_pay49 (F := F) (k0_pay35 s)))
    (k0_pay51 (F := F) (k0_pay36 s)) (k0_pay52 (F := F) (k0_pay37 s)) (k0_pay53 (F := F) (k0_pay37 s)) (k0_pay54 (k0_pay37 s))
/-- The targets' boundary and skeleton, unpacked. -/
def bF (F : FTy → Type) [FloatOps F] (t : IVec S4x1x512x512 32) : FVec F S4x512x512 .f32 :=
  k0_pay59 (unpackF (F := F) (bPack F t) (tSkel F t)) k0_pay56 k0_pay57
def sF (F : FTy → Type) [FloatOps F] (t : IVec S4x1x512x512 32) : FVec F S4x512x512 .f32 :=
  k0_pay60 (unpackF (F := F) (bPack F t) (tSkel F t)) k0_pay56 k0_pay57
/-- The distance loop's result. -/
def dist : St2 :=
  run2 F (k0_pay62 (tPack F t) (pPack x)) 20 (0#32, k0_pay61 (tPack F t) (pPack x), k0_pay63, 1#1)
/-- The distance sums, both images, -/
def dSum : FVec F S2x4 .f32 :=
  k0_pay64 (F := F) (tPack F t) (pPack x) (dist x t).1 (dist x t).2.1 (dist x t).2.2.1
def dSum1 : FVec F S1x4 .f32 :=
  k0_pay65 (F := F) (tPack F t) (pPack x) (dist x t).1 (dist x t).2.1 (dist x t).2.2.1

/-- The sums the body takes, one value per image of the block, in the order the rows of the output hold them. -/
structure Sums (F : FTy → Type) where
  v510 : FVec F S4 .f32
  v512 : FVec F S4 .f32
  v513 : FVec F S4 .f32
  v515 : FVec F S4 .f32
  v516 : FVec F S4 .f32
  v519 : FVec F S4 .f32
  v524 : FVec F S4 .f32
  v526 : FVec F S4 .f32
  v527 : FVec F S4 .f32
  v529 : FVec F S4 .f32
  v532 : FVec F S4 .f32
  v535 : FVec F S4 .f32
  v536 : FVec F S4 .f32

/-- The body's sums. -/
def sums : Sums F where
  v510 := k0_pay66 (dSum1 x t)
  v512 := k0_pay67 (dSum x t)
  v513 := k0_pay68 (bceF x t)
  v515 := k0_pay69 (tF t) (pF x)
  v516 := k0_pay70 (pF x)
  v519 := k0_pay71 (F := F) (tPack F t)
  v524 := k0_pay72 (bceF x t) (bF F t)
  v526 := k0_pay73 (tF t) (pSkel x)
  v527 := k0_pay74 (pSkel x)
  v529 := k0_pay75 (pF x) (sF F t)
  v532 := k0_pay76 (F := F) (tSkel F t)
  v535 := k0_pay77 (F := F) (pPack x)
  v536 := k0_pay78 (F := F)

/-- The four slabs stored, one per image. -/
def slab0 : FVec F S1x16x128 .f32 :=
  k0_pay86 (sums x t).v510 (sums x t).v512 (sums x t).v529 (sums x t).v532 (sums x t).v535 (sums x t).v536
    (k0_pay79 (bceF x t)) (k0_pay80 (tF t) (pF x)) (k0_pay81 (pF x)) (k0_pay82 (F := F) (tPack F t))
    (k0_pay83 (bceF x t) (bF F t)) (k0_pay84 (tF t) (pSkel x)) (k0_pay85 (pSkel x))
def slab1 (s : Sums F) : FVec F S1x16x128 .f32 :=
  k0_pay96 s.v510 s.v512 s.v535 s.v536 (k0_pay87 s.v513) (k0_pay88 s.v515) (k0_pay89 s.v516) (k0_pay90 s.v519)
    (k0_pay91 s.v524) (k0_pay92 s.v526) (k0_pay93 s.v527) (k0_pay94 s.v529) (k0_pay95 s.v532)
def slab2 (s : Sums F) : FVec F S1x16x128 .f32 :=
  k0_pay107 s.v510 s.v512 s.v536 (k0_pay97 s.v513) (k0_pay98 s.v515) (k0_pay99 s.v516) (k0_pay100 s.v519)
    (k0_pay101 s.v524) (k0_pay102 s.v526) (k0_pay103 s.v527) (k0_pay104 s.v529) (k0_pay105 s.v532) (k0_pay106 s.v535)
def slab3 (s : Sums F) : FVec F S1x16x128 .f32 :=
  k0_pay1 s.v512 s.v536 (k0_pay108 s.v513) (k0_pay109 s.v515) (k0_pay110 s.v516) (k0_pay111 s.v519)
    (k0_pay112 s.v524) (k0_pay113 s.v526) (k0_pay114 s.v527) (k0_pay115 s.v529) (k0_pay116 s.v532) (k0_pay117 s.v535)
    (k0_pay118 s.v510)

/-- The rectangles of the two loads and the four stores. -/
abbrev rIn : Rect S4x1x512x512 := Rect.unit (s := S4x1x512x512) ![0, 0, 0, 0] S4x1x512x512.size inb_S4x1x512x512_S4x1x512x512_0_0_0_0
abbrev r0 : Rect S4x16x128 := Rect.unit (s := S4x16x128) ![0, 0, 0] S1x16x128.size inb_S4x16x128_S1x16x128_0_0_0
abbrev r1 : Rect S4x16x128 := Rect.unit (s := S4x16x128) ![1, 0, 0] S1x16x128.size inb_S4x16x128_S1x16x128_1_0_0
abbrev r2 : Rect S4x16x128 := Rect.unit (s := S4x16x128) ![2, 0, 0] S1x16x128.size inb_S4x16x128_S1x16x128_2_0_0
abbrev r3 : Rect S4x16x128 := Rect.unit (s := S4x16x128) ![3, 0, 0] S1x16x128.size inb_S4x16x128_S1x16x128_3_0_0

/-- The output block after the body: the four stores, last first. -/
def out : Vec F S4x16x128 .f32 :=
  View.canon [⟨r3, slab3 (sums x t)⟩, ⟨r2, slab2 (sums x t)⟩, ⟨r1, slab1 (sums x t)⟩, ⟨r0, slab0 x t⟩]
end

end Cert.Proof.KI

end
-- ==== Proof.KI.Body.lean ====
/-
  The run of the kernel's body at one grid point: the two while loops answered by their iterates, then the whole body.
-/
module

public import proofs.«01_k».proof.Proof.KI.Stages
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameSuffix

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The variants: the trips a while loop has left. -/
abbrev 𝒱₀ : Variants := Variants.nat

/-! ## The loops -/

/-- The skeleton loop's counter fails its test at 11, -/
theorem not_go1 (s : St1) (h : s.1 = BitVec.ofNat 32 11) : ¬ go1 s := by
  unfold go1; rw [h]; rcases s with ⟨_, _, _, b⟩
  show ¬ Scalar.andi (Scalar.cmpi .slt (BitVec.ofNat 32 11) 11#32) b = 1#1
  clear h; revert b; decide

/-- and the distance loop's at 20. -/
theorem not_go2 (s : St2) (h : s.1 = BitVec.ofNat 32 20) : ¬ go2 s := by
  unfold go2; rw [h]; rcases s with ⟨_, _, _, b⟩
  show ¬ Scalar.andi (Scalar.cmpi .slt (BitVec.ofNat 32 20) 20#32) b = 1#1
  clear h; revert b; decide

/-- A counter's successor is the next number's word. -/
theorem addi_succ (j : ℕ) : Scalar.addi (BitVec.ofNat 32 j) 1#32 = BitVec.ofNat 32 (j + 1) := by
  show BitVec.ofNat 32 j + 1#32 = _
  rw [BitVec.ofNat_add]

/-- The skeleton loop's label, entered with `k` trips possible, returns the iterate. -/
theorem loop1 (c : Dev nD) (E : Set ℕ) (i : grid0.Coords) : ∀ k j, j + k = 11 → ∀ s : St1, s.1 = BitVec.ofNat 32 j →
    ∀ K : St1 → sProp 𝕄, (pure (run1 F k s) : sWPT 𝕄 St1) K
      ⊢ wp frame (wpE (defs₀ (F := F)) 𝒱₀ (c : Thread nD τ) (some k)) E
          (defs₀ (F := F) .tc 1 ⟨i, s.1, s.2.1, s.2.2.1, s.2.2.2⟩) K := by
  intro k
  induction k with
  | zero =>
    intro j hj s hs K
    show K s ⊢ wp frame (wpE (defs₀ (F := F)) 𝒱₀ (c : Thread nD τ) (some 0)) E (cc0_while1 i s.1 s.2.1 s.2.2.1 s.2.2.2) K
    have ht : ¬ go1 s := not_go1 s (by rw [hs, show j = 11 by omega])
    unfold go1 at ht
    simp only [cc0_while1_eq_skeleton]; unfold cc0_while1_skel
    simp only [ht, ↓reduceIte, Prog.pure_eq_ret]
    iintro H; rw [wp_ret]; imodintro; iexact H
  | succ k ih =>
    intro j hj s hs K
    show K (run1 F (k + 1) s) ⊢ wp frame (wpE (defs₀ (F := F)) 𝒱₀ (c : Thread nD τ) (some (k + 1))) E (cc0_while1 i s.1 s.2.1 s.2.2.1 s.2.2.2) K
    rw [run1]
    by_cases ht : go1 s
    · rw [if_pos ht]
      unfold go1 at ht
      simp only [cc0_while1_eq_skeleton]; unfold cc0_while1_skel
      simp only [ht, ↓reduceIte, k0_part16_eq_skeleton]; unfold k0_part16_skel
      simp only [Prog.lift, Prog.bind_op, Prog.bind_ret, Prog.pure_eq_ret]
      have h1 : (step1 F s).1 = BitVec.ofNat 32 (j + 1) := by
        show Scalar.addi s.1 1#32 = _
        rw [hs, addi_succ]
      refine .trans ?_ (wp_call_spec 𝒱₀ (c : Thread nD τ) (some (k + 1)) E (pure (run1 F k (step1 F s))) k
        (fun u hu => by cases hu; exact Nat.lt_succ_self k) (ih (j + 1) (by omega) (step1 F s) h1))
      show K (run1 F k (step1 F s)) ⊢ wp frame (wpE (defs₀ (F := F)) 𝒱₀ (c : Thread nD τ) (some (k + 1))) E (.ret (run1 F k (step1 F s))) K
      iintro H; rw [wp_ret]; imodintro; iexact H
    · rw [if_neg ht]
      unfold go1 at ht
      simp only [cc0_while1_eq_skeleton]; unfold cc0_while1_skel
      simp only [ht, ↓reduceIte, Prog.pure_eq_ret]
      iintro H; rw [wp_ret]; imodintro; iexact H

/-- The distance loop's label, entered with `k` trips possible, returns the iterate. -/
theorem loop2 (c : Dev nD) (E : Set ℕ) (i : grid0.Coords) (b : IVec S2x4x16x512 32) : ∀ k j, j + k = 20 → ∀ s : St2, s.1 = BitVec.ofNat 32 j →
    ∀ K : St2 → sProp 𝕄, (pure (run2 F b k s) : sWPT 𝕄 St2) K
      ⊢ wp frame (wpE (defs₀ (F := F)) 𝒱₀ (c : Thread nD τ) (some k)) E
          (defs₀ (F := F) .tc 2 ⟨i, b, s.1, s.2.1, s.2.2.1, s.2.2.2⟩) K := by
  intro k
  induction k with
  | zero =>
    intro j hj s hs K
    show K s ⊢ wp frame (wpE (defs₀ (F := F)) 𝒱₀ (c : Thread nD τ) (some 0)) E (cc0_while2 i b s.1 s.2.1 s.2.2.1 s.2.2.2) K
    have ht : ¬ go2 s := not_go2 s (by rw [hs, show j = 20 by omega])
    unfold go2 at ht
    simp only [cc0_while2_eq_skeleton]; unfold cc0_while2_skel
    simp only [ht, ↓reduceIte, Prog.pure_eq_ret]
    iintro H; rw [wp_ret]; imodintro; iexact H
  | succ k ih =>
    intro j hj s hs K
    show K (run2 F b (k + 1) s) ⊢ wp frame (wpE (defs₀ (F := F)) 𝒱₀ (c : Thread nD τ) (some (k + 1))) E (cc0_while2 i b s.1 s.2.1 s.2.2.1 s.2.2.2) K
    rw [run2]
    by_cases ht : go2 s
    · rw [if_pos ht]
      unfold go2 at ht
      simp only [cc0_while2_eq_skeleton]; unfold cc0_while2_skel
      simp only [ht, ↓reduceIte]
      simp only [Prog.lift, Prog.bind_op, Prog.bind_ret, Prog.pure_eq_ret]
      have h1 : (step2 F b s).1 = BitVec.ofNat 32 (j + 1) := by
        show Scalar.addi s.1 1#32 = _
        rw [hs, addi_succ]
      refine .trans ?_ (wp_call_spec 𝒱₀ (c : Thread nD τ) (some (k + 1)) E (pure (run2 F b k (step2 F b s))) k
        (fun u hu => by cases hu; exact Nat.lt_succ_self k) (ih (j + 1) (by omega) (step2 F b s) h1))
      show K (run2 F b k (step2 F b s)) ⊢ wp frame (wpE (defs₀ (F := F)) 𝒱₀ (c : Thread nD τ) (some (k + 1))) E (.ret (run2 F b k (step2 F b s))) K
      iintro H; rw [wp_ret]; imodintro; iexact H
    · rw [if_neg ht]
      unfold go2 at ht
      simp only [cc0_while2_eq_skeleton]; unfold cc0_while2_skel
      simp only [ht, ↓reduceIte, Prog.pure_eq_ret]
      iintro H; rw [wp_ret]; imodintro; iexact H

/-- The skeleton loop called from the body: the rest runs from the iterate. -/
theorem call1 (c : Dev nD) (E : Set ℕ) (i : grid0.Coords) (v a : IVec S4x16x512 32) {α : Type}
    (k : St1 → Prog (TpuEff nD τ sig (Elt F) (Λ₀ F) .tc) α) (Q : α → sProp 𝕄) :
    wp frame (wpE (defs₀ (F := F)) 𝒱₀ (c : Thread nD τ) none) E
        (k ((run1 F 11 (0#32, v, a, 1#1)).1, (run1 F 11 (0#32, v, a, 1#1)).2.1, (run1 F 11 (0#32, v, a, 1#1)).2.2.1, (run1 F 11 (0#32, v, a, 1#1)).2.2.2)) Q
      ⊢ wp frame (wpE (defs₀ (F := F)) 𝒱₀ (c : Thread nD τ) none) E (.op (.call (1 : (Λ₀ F).Label) ⟨i, 0#32, v, a, 1#1⟩) k) Q := by
  have h : ∀ K : St1 → sProp 𝕄, (pure (run1 F 11 (0#32, v, a, 1#1)) : sWPT 𝕄 St1) K
      ⊢ wp frame (wpE (defs₀ (F := F)) 𝒱₀ (c : Thread nD τ) (some 11)) E (defs₀ (F := F) .tc 1 ⟨i, 0#32, v, a, 1#1⟩) K :=
    fun K => by have h := loop1 (F := F) c E i 11 0 rfl (0#32, v, a, 1#1) rfl K; dsimp only at h; exact h
  refine .trans ?_ (wp_call_spec 𝒱₀ (c : Thread nD τ) none E (pure (run1 F 11 (0#32, v, a, 1#1))) 11
    (fun u hu => nomatch hu) h)
  exact .rfl

/-- The distance loop called from the body: the rest runs from the iterate. -/
theorem call2 (c : Dev nD) (E : Set ℕ) (i : grid0.Coords) (b v a : IVec S2x4x16x512 32) {α : Type}
    (k : St2 → Prog (TpuEff nD τ sig (Elt F) (Λ₀ F) .tc) α) (Q : α → sProp 𝕄) :
    wp frame (wpE (defs₀ (F := F)) 𝒱₀ (c : Thread nD τ) none) E
        (k ((run2 F b 20 (0#32, v, a, 1#1)).1, (run2 F b 20 (0#32, v, a, 1#1)).2.1, (run2 F b 20 (0#32, v, a, 1#1)).2.2.1, (run2 F b 20 (0#32, v, a, 1#1)).2.2.2)) Q
      ⊢ wp frame (wpE (defs₀ (F := F)) 𝒱₀ (c : Thread nD τ) none) E (.op (.call (2 : (Λ₀ F).Label) ⟨i, b, 0#32, v, a, 1#1⟩) k) Q := by
  have h : ∀ K : St2 → sProp 𝕄, (pure (run2 F b 20 (0#32, v, a, 1#1)) : sWPT 𝕄 St2) K
      ⊢ wp frame (wpE (defs₀ (F := F)) 𝒱₀ (c : Thread nD τ) (some 20)) E (defs₀ (F := F) .tc 2 ⟨i, b, 0#32, v, a, 1#1⟩) K :=
    fun K => by have h := loop2 (F := F) c E i b 20 0 rfl (0#32, v, a, 1#1) rfl K; dsimp only at h; exact h
  refine .trans ?_ (wp_call_spec 𝒱₀ (c : Thread nD τ) none E (pure (run2 F b 20 (0#32, v, a, 1#1))) 20
    (fun u hu => nomatch hu) h)
  exact .rfl

/-! ## The body -/

/-- The four stores cover the output block. -/
theorem cover (p0 p1 p2 p3 : Vec F S1x16x128 .f32) (y : S4x16x128.Idx) :
    ∃ pc ∈ ([⟨r3, p3⟩, ⟨r2, p2⟩, ⟨r1, p1⟩, ⟨r0, p0⟩] : List (View.Piece (Elt F) S4x16x128 .f32)), y ∈ pc.1.set :=
  View.cover_of_tiled [⟨r3, p3⟩, ⟨r2, p2⟩, ⟨r1, p1⟩, ⟨r0, p0⟩] S1x16x128.size (by rfl) y

/-- The body on whole staging memrefs, the inputs' at `x` and `t`, the output's at anything: it runs to its end, the
    inputs as they were and the output at `out x t`. -/
theorem sound_kernel (c : Dev nD) (E : Set ℕ) (i : grid0.Coords) (arg1 : Memref sig .tc .vmem S4x1x512x512 .f32) (harg1 : arg1.IsWhole)
    (arg2 : Memref sig .tc .vmem S4x1x512x512 .i32) (harg2 : arg2.IsWhole) (arg3 : Memref sig .tc .vmem S4x16x128 .f32) (harg3 : arg3.IsWhole)
    (x : Vec F S4x1x512x512 .f32) (t : Vec F S4x1x512x512 .i32) (K : PUnit → sProp 𝕄) :
    iprop(owns (c : Thread nD τ) arg1 fullShare x ∗ owns (c : Thread nD τ) arg2 fullShare t ∗ (∃ d, owns (c : Thread nD τ) arg3 fullShare d)
        ∗ (iprop(owns (c : Thread nD τ) arg1 fullShare x ∗ owns (c : Thread nD τ) arg2 fullShare t
            ∗ owns (c : Thread nD τ) arg3 fullShare (out (View.ld x rIn) (View.ld t rIn))) -∗ K ⟨⟩))
      ⊢ wp frame (wpE (defs₀ (F := F)) 𝒱₀ c none) E (cc0__loss_body i arg1 harg1 arg2 harg2 arg3 harg3) K := by
  simp only [cc0__loss_body_eq_skeleton]; unfold cc0__loss_body_skel
  unfold owns
  iintro ⟨⟨%f0, %hf0, H0⟩, ⟨%f1, %hf1, H1⟩, ⟨%d2, %f2, -, H2⟩, Hk⟩
  subst hf0 hf1
  sl_exec
  iapply (call1 c E i _ _ _ _)
  sl_exec
  iapply (call2 c E i _ _ _ _ _)
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _ _ _ _)

end Cert.Proof.KI

end
-- ==== Proof.KI.Run.lean ====
/-
  The run of the whole program: the launch over the eight grid points, then the host's lines.
-/
module

public import proofs.«01_k».proof.Proof.KI.Body

@[expose] public section

set_option maxRecDepth 4000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the region finds: the launch memory (no host line comes before it). -/
def V₀ (c : Dev nD) : Valuation τ sig (Elt F) := fun b => m (c, b)

/-! ## The proof data -/

/-- Block `t` of input window 0 (the logits) and of input window 1 (the targets). -/
def xblk (c : Dev nD) (t : Fin (cfg0 (F := F)).N) : Vec F S4x1x512x512 .f32 :=
  (win0_0.blk t).view.read (Elt F) (m ((c : Thread nD τ).loc main_arg0))
def tblk (c : Dev nD) (t : Fin (cfg0 (F := F)).N) : Vec F S4x1x512x512 .i32 :=
  (win0_1.blk t).view.read (Elt F) (m ((c : Thread nD τ).loc main_arg1))

/-- The proof data: the arrays at their launch contents; after the body at point `t` the inputs' buffers at their
    blocks, the output's at what the body computes from them. -/
def dats (_ : Fin 1) (c : Dev nD) : Dat τ (Elt F) Unit ℕ (UR sig nD τ) ℕ (cfg0 (F := F)) c where
  A w := V₀ m c (Proc.devRef .tc (Pipeline.arrRef spec0 w))
  after w t := match w with
    | ⟨0, _⟩ => xblk m c t
    | ⟨1, _⟩ => tblk m c t
    | ⟨2, _⟩ => out (View.ld (xblk m c t) rIn) (View.ld (tblk m c t) rIn)
  Φ _ := Pipeline.ΦA spec0 c
  q _ := fullShare
  owed _ := 0

theorem A_eq (c : Dev nD) (w : Fin (cfg0 (F := F)).W) : (dats m 0 c).A w = V₀ m c (Proc.devRef .tc (Pipeline.arrRef spec0 w)) := by
  dsimp only [dats]

theorem after0_0 (c : Dev nD) (t : Fin (cfg0 (F := F)).N) : (dats m 0 c).after 0 t = xblk m c t := by dsimp only [dats]; rfl
theorem after0_1 (c : Dev nD) (t : Fin (cfg0 (F := F)).N) : (dats m 0 c).after 1 t = tblk m c t := by dsimp only [dats]; rfl
theorem after0_2 (c : Dev nD) (t : Fin (cfg0 (F := F)).N) :
    (dats m 0 c).after 2 t = out (View.ld (xblk m c t) rIn) (View.ld (tblk m c t) rIn) := by dsimp only [dats]; rfl

/-- The input windows fetch at every point, so their buffers hold their blocks. -/
theorem before0_0 (c : Dev nD) (t : Fin (cfg0 (F := F)).N) (d) : (dats m 0 c).before 0 t d = xblk m c t := by
  rw [Dat.before_fetched _ _ _ (fetch0_0 t)]; rfl
theorem before0_1 (c : Dev nD) (t : Fin (cfg0 (F := F)).N) (d) : (dats m 0 c).before 1 t d = tblk m c t := by
  rw [Dat.before_fetched _ _ _ (fetch0_1 t)]; rfl

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (xblk m c t) (tblk m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body there. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The host's lines -/

/-- The buffers the host's lines write, in order. -/
def hostW : List (Ref sig .tc) :=
  [ main_v1, main_v2, main_cst, main_v3, main_v4, main_v5, main_v6, main_v7, main_v8, main_v9, main_v10, main_v11,
    main_v12, main_v13, main_v14, main_v15, main_v16, main_v17, main_v18, main_v19, main_v20, main_v21, main_v22,
    main_v23, main_v24, main_v25, main_v26, main_v27, main_cst_0, main_v28, main_cst_1, main_v29, main_cst_2,
    main_v30, main_v31, main_cst_3, main_v32, main_v33, main_cst_4, main_v34, main_v35, main_v36, main_cst_5,
    main_v37, main_cst_6, main_v38, main_v39, main_cst_7, main_v40, main_v41, main_cst_8, main_v42, main_v43,
    main_cst_9, main_v44, main_cst_10, main_v45, main_cst_11, main_v46, main_cst_12, main_v47, main_cst_13,
    main_v48, main_v49, main_cst_14, main_v50, main_cst_15, main_v51, main_v52, main_cst_16, main_v53, main_v54,
    main_v55, main_v56, main_cst_17, main_v57, main_cst_18, main_v58, main_cst_19, main_v59, main_v60,
    main_cst_20, main_v61, main_cst_21, main_v62, main_v63, main_v64, main_cst_22, main_v65, main_cst_23,
    main_v66, main_cst_24, main_v67, main_v68, main_cst_25, main_v69, main_v70, main_cst_26, main_v71, main_v72,
    main_cst_27, main_v73, main_v74, main_cst_28, main_v75, main_v76 ]

/-- Each line writes its own buffer, -/
theorem ops_writes : (hostOps1 (F := F)).map HloOp.writes = hostW.map fun b => {Proc.devRef .tc b} := rfl

/-- and allocates none. -/
theorem ops_fresh : (hostOps1 (F := F)).map HloOp.fresh = List.replicate 106 ∅ := rfl

/-- What a line writes is one of the listed buffers. -/
theorem mem_hostW {op : HloOp τ sig (Elt F)} (h : op ∈ hostOps1 (F := F)) : ∃ b ∈ hostW, op.writes = {Proc.devRef .tc b} := by
  have := List.mem_map_of_mem (f := HloOp.writes) h
  rw [ops_writes] at this
  obtain ⟨b, hb, e⟩ := List.mem_map.mp this
  exact ⟨b, hb, e.symm⟩

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.mp hops
  exact Pipeline.sub_ucRefs op ((List.forall_iff_forall_mem.mp hostOps1_sub) op hop)

theorem fresh_of_mem {op : HloOp τ sig (Elt F)} (h : op ∈ hostOps1 (F := F)) : op.fresh = ∅ := by
  have := List.mem_map_of_mem (f := HloOp.fresh) h
  rw [ops_fresh] at this
  exact List.eq_of_mem_replicate this

theorem sfx_fresh : ∀ ops ∈ ([hostOps1] : List (List (HloOp τ sig (Elt F)))), ∀ op ∈ ops, op.fresh = ∅ := by
  intro ops hops op hop
  obtain rfl := List.mem_singleton.mp hops
  exact fresh_of_mem hop

theorem sfx_keeps : ∀ ops ∈ ([hostOps1] : List (List (HloOp τ sig (Elt F)))), ∀ op ∈ ops,
    ∀ w, Proc.devRef .tc (Pipeline.arrRef spec0 w) ∉ op.writes := by
  intro ops hops op hop w hb
  obtain rfl := List.mem_singleton.mp hops
  obtain ⟨b, hm, e⟩ := mem_hostW hop
  rw [e, Finset.mem_singleton] at hb
  exact (by decide +kernel : ∀ w, Pipeline.arrRef spec0 w ∉ hostW) w (Proc.devRef_injective _ hb ▸ hm)

/-! ## The launch -/

theorem hmain : Pipeline.HMainK (Ix := Unit) (Name := ℕ) (U := UR sig nD τ) (Lvl := ℕ) (cfgs (F := F)) 0 defs₀ 𝒱₀ m (main (F := F))
    (fun c b => V₀ m c (Proc.devRef .tc b)) (fun _ => Pipeline.chain (([hostOps1] : List (List (HloOp τ sig (Elt F)))).map StableHlo.seq)) :=
  Pipeline.hmain_around cfgs 0 defs₀ 𝒱₀ m main [] [hostOps1] trivial trivial (fun c => main_chain c)

set_option backward.isDefEq.respectTransparency.types false in
/-- THE RUN: every final state has the pipeline's arrays as computed from the proof data, every other unscoped buffer as
    the host's lines leave it, and every semaphore counter at zero. -/
theorem run_main : θ_run defs (onTc (τ := τ) (main (F := F))) ⟨m, fun _ => 0, ρ⟩
    (fun r => Pipeline.FramePost cfgs (dats m) 0 (Pipeline.afterTail₀ cfgs (dats m) 0 (V₀ m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V₀ m) (opss := [hostOps1]) (hsub := sfx_sub) (hfresh := sfx_fresh) (hkeep := sfx_keeps)
    (hmain := hmain m) (hA := A_eq m) (hΦ := fun _ _ => rfl)

/-- The two input arrays are only read. -/
theorem args_kept {r : PUnit × MemSt nD τ sig (Elt F)}
    (h : Pipeline.FramePost cfgs (dats m) 0 (Pipeline.afterTail₀ cfgs (dats m) 0 (V₀ m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 (0 : Fin 3)).trans ((dats m 0 c).arrAt_in (0 : Fin 3) rfl _), ((h c).1 (1 : Fin 3)).trans ((dats m 0 c).arrAt_in (1 : Fin 3) rfl _)⟩

/-- THE FRAME: the arguments end unchanged and every counter at zero. -/
theorem frame_main : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => args_kept m h.1 c, h.2⟩) (run_main m ρ)

end Cert.Proof.KI

end
-- ==== Proof.Math.Img.lean ====
/-
  Images of 512 rows and 512 columns, of extended reals and of truth values: the three-pixel minima and maxima, the soft
  skeleton and the distance to the background, and that they commute with reading a truth value as 0 or 1.
-/
module

public import Idealize.ShloMosaic.Lib.Pointwise

@[expose] public section

noncomputable section

namespace Cert.Proof

/-- An image of extended reals, and one of truth values. -/
abbrev Img := Fin 512 → Fin 512 → EReal
abbrev Bm := Fin 512 → Fin 512 → Bool

/-- The position before, and the position after, staying inside. -/
def dn (i : Fin 512) : Fin 512 := ⟨i.1 - 1, by omega⟩
def up (i : Fin 512) : Fin 512 := ⟨if i.1 < 511 then i.1 + 1 else 511, by split <;> omega⟩

/-- Positions at most one apart. -/
def Near (i j : Fin 512) : Prop := i.1 ≤ j.1 + 1 ∧ j.1 ≤ i.1 + 1

/-- The position before is near. -/
theorem near_dn (i : Fin 512) : Near i (dn i) := ⟨by show i.1 ≤ i.1 - 1 + 1; omega, by show i.1 - 1 ≤ i.1 + 1; omega⟩
/-- The position after is near. -/
theorem near_up (i : Fin 512) : Near i (up i) :=
  ⟨by show i.1 ≤ (if i.1 < 511 then i.1 + 1 else 511) + 1; split <;> omega, by show (if i.1 < 511 then i.1 + 1 else 511) ≤ i.1 + 1; split <;> omega⟩
/-- A position is near itself. -/
theorem near_self (i : Fin 512) : Near i i := ⟨by omega, by omega⟩

/-- A position at most one from `i` is the one before, `i`, or the one after. -/
theorem near_cases {i j : Fin 512} (h : Near i j) : j = dn i ∨ j = i ∨ j = up i := by
  obtain ⟨h1, h2⟩ := h
  have := i.2; have := j.2
  rcases Nat.lt_trichotomy j.1 i.1 with h | h | h
  · exact .inl (Fin.ext (by show j.1 = i.1 - 1; omega))
  · exact .inr (.inl (Fin.ext h))
  · exact .inr (.inr (Fin.ext (by show j.1 = if i.1 < 511 then i.1 + 1 else 511; split <;> omega)))

section
variable {α : Type} (f : α → α → α)

/-- Three pixels of a column, and of a row, folded. -/
def tri (A : Fin 512 → α) (i : Fin 512) : α := f (f (A (dn i)) (A i)) (A (up i))
def triV (A : Fin 512 → Fin 512 → α) : Fin 512 → Fin 512 → α := fun r c => tri f (fun r => A r c) r
def triH (A : Fin 512 → Fin 512 → α) : Fin 512 → Fin 512 → α := fun r c => tri f (A r) c
end

/-- A bound of three values folded by maximum is a bound of every value at most one away. -/
theorem tri_max_le (A : Fin 512 → EReal) (i : Fin 512) (y : EReal) : tri max A i ≤ y ↔ ∀ j, Near i j → A j ≤ y := by
  unfold tri
  rw [max_le_iff, max_le_iff]
  constructor
  · rintro ⟨⟨h1, h2⟩, h3⟩ j hj
    rcases near_cases hj with rfl | rfl | rfl
    exacts [h1, h2, h3]
  · intro h
    exact ⟨⟨h _ (near_dn i), h _ (near_self i)⟩, h _ (near_up i)⟩

/-- A bound from below of three values folded by minimum is one of every value at most one away. -/
theorem le_tri_min (A : Fin 512 → EReal) (i : Fin 512) (y : EReal) : y ≤ tri min A i ↔ ∀ j, Near i j → y ≤ A j := by
  unfold tri
  rw [le_min_iff, le_min_iff]
  constructor
  · rintro ⟨⟨h1, h2⟩, h3⟩ j hj
    rcases near_cases hj with rfl | rfl | rfl
    exacts [h1, h2, h3]
  · intro h
    exact ⟨⟨h _ (near_dn i), h _ (near_self i)⟩, h _ (near_up i)⟩

/-- The soft erosion, the dilation and the erosion of images. -/
def soft (A : Img) : Img := fun r c => min (triV min A r c) (triH min A r c)
def dil (A : Img) : Img := triH max (triV max A)
def ero (A : Img) : Img := triH min (triV min A)

/-- The same of images of truth values. -/
def softB (A : Bm) : Bm := fun r c => triV and A r c && triH and A r c
def dilB (A : Bm) : Bm := triH or (triV or A)
def eroB (A : Bm) : Bm := triH and (triV and A)

/-- A truth value as 0 or 1. -/
def ind (b : Bool) : EReal := if b then 1 else 0
/-- An image of truth values as one of 0 and 1. -/
def indI (B : Bm) : Img := fun r c => ind (B r c)

/-- A truth value's number is not negative. -/
theorem ind_nonneg (a : Bool) : 0 ≤ ind a := by cases a <;> simp [ind]
/-- And is the minimum. -/
theorem ind_and (a b : Bool) : ind (a && b) = min (ind a) (ind b) := by
  cases a <;> cases b <;> simp [ind]
/-- Or is the maximum. -/
theorem ind_or (a b : Bool) : ind (a || b) = max (ind a) (ind b) := by
  cases a <;> cases b <;> simp [ind]
/-- Not is one less the number. -/
theorem ind_not (a : Bool) : ind (!a) = 1 - ind a := by
  cases a <;> simp [ind]
  exact (EReal.sub_self (EReal.coe_ne_top 1) (EReal.coe_ne_bot 1)).symm
/-- And is the product. -/
theorem ind_mul (a b : Bool) : ind (a && b) = ind a * ind b := by
  cases a <;> cases b <;> simp [ind]
/-- And-not is the positive part of the difference. -/
theorem ind_diff (a b : Bool) : ind (a && !b) = max (ind a - ind b) 0 := by
  have h : (1 : EReal) - 1 = 0 := EReal.sub_self (EReal.coe_ne_top 1) (EReal.coe_ne_bot 1)
  cases a <;> cases b <;> simp [ind, h]
/-- A truth value's number is above a number between 0 and 1 just when it is true. -/
theorem half_lt_ind (a : Bool) {h : EReal} (h0 : 0 < h) (h1 : h < 1) : (h < ind a) ↔ a = true := by
  cases a <;> simp [ind, h1, h0.le]
/-- A truth value's number is below a number between 0 and 1 just when it is false. -/
theorem ind_lt_half (a : Bool) {h : EReal} (h0 : 0 < h) (h1 : h < 1) : (ind a < h) ↔ a = false := by
  cases a <;> simp [ind, h1.le, h0]

/-- The soft erosion of truth values. -/
theorem soft_ind (B : Bm) : soft (indI B) = indI (softB B) := by
  funext r c
  simp only [soft, indI, softB, triV, triH, tri, ind_and]
/-- The dilation of truth values. -/
theorem dil_ind (B : Bm) : dil (indI B) = indI (dilB B) := by
  funext r c
  simp only [dil, indI, dilB, triV, triH, tri, ind_or]
/-- The erosion of truth values. -/
theorem ero_ind (B : Bm) : ero (indI B) = indI (eroB B) := by
  funext r c
  simp only [ero, indI, eroB, triV, triH, tri, ind_and]

/-! ## The soft skeleton -/

/-- What an erosion takes away that a dilation does not give back. -/
def delta (A : Img) : Img := fun r c => max (A r c - dil (soft A) r c) 0
def deltaB (A : Bm) : Bm := fun r c => A r c && !(dilB (softB A) r c)
/-- A skeleton with a layer added. -/
def upd (s d : Img) : Img := fun r c => s r c + max (d r c - s r c * d r c) 0
/-- The skeleton of the first `k` layers. -/
def skel (A : Img) : ℕ → Img
  | 0 => fun _ _ => 0
  | k + 1 => upd (skel A k) (delta (soft^[k] A))
def skelB (A : Bm) : ℕ → Bm
  | 0 => fun _ _ => false
  | k + 1 => fun r c => skelB A k r c || deltaB (softB^[k] A) r c

/-- What commutes with reading truth values as numbers does so repeated. -/
theorem iter_ind (f : Img → Img) (g : Bm → Bm) (h : ∀ B, f (indI B) = indI (g B)) (B : Bm) : ∀ k, f^[k] (indI B) = indI (g^[k] B)
  | 0 => rfl
  | k + 1 => by rw [Function.iterate_succ_apply', Function.iterate_succ_apply', iter_ind f g h B k, h]

/-- What opening takes away, of truth values. -/
theorem delta_ind (B : Bm) : delta (indI B) = indI (deltaB B) := by
  funext r c
  simp only [delta, soft_ind, dil_ind]
  exact (ind_diff _ _).symm
/-- The skeleton's update, of truth values, is or. -/
theorem upd_ind (a b : Bool) : ind a + max (ind b - ind a * ind b) 0 = ind (a || b) := by
  have h : (1 : EReal) - 1 = 0 := EReal.sub_self (EReal.coe_ne_top 1) (EReal.coe_ne_bot 1)
  cases a <;> cases b <;> simp [ind, h]
/-- The skeleton of truth values. -/
theorem skel_ind (B : Bm) : ∀ k, skel (indI B) k = indI (skelB B k)
  | 0 => rfl
  | k + 1 => by
    funext r c
    rw [skel, skel_ind B k, iter_ind soft softB soft_ind, delta_ind]
    exact upd_ind _ _

/-- What opening takes away is not negative. -/
theorem delta_nonneg (A : Img) (r c : Fin 512) : 0 ≤ delta A r c := le_max_right _ _
/-- The first layer is the first skeleton. -/
theorem skel_one (A : Img) : skel A 1 = delta A := by
  funext r c
  show 0 + max (delta A r c - 0 * delta A r c) 0 = delta A r c
  rw [zero_add, zero_mul, sub_zero, max_eq_left (delta_nonneg A r c)]

/-- At a fixed point of the erosion a further layer adds nothing. -/
theorem skelB_fixed (A : Bm) {k : ℕ} (h : softB (softB^[k] A) = softB^[k] A) : ∀ n, skelB A (k + 1 + n) = skelB A (k + 1)
  | 0 => rfl
  | n + 1 => by
    have e : ∀ n, softB^[k + n] A = softB^[k] A := fun n => by
      induction n with
      | zero => rfl
      | succ n ih => rw [← Nat.add_assoc, Function.iterate_succ_apply', ih, h]
    funext r c
    show (skelB A (k + 1 + n) r c || deltaB (softB^[k + 1 + n] A) r c) = _
    rw [skelB_fixed A h n, show k + 1 + n = k + (1 + n) from by omega, e]
    show ((skelB A k r c || deltaB (softB^[k] A) r c) || deltaB (softB^[k] A) r c) = (skelB A k r c || deltaB (softB^[k] A) r c)
    rw [Bool.or_assoc, Bool.or_self]

/-! ## The distance -/

/-- Erosion only takes pixels away. -/
theorem eroB_le (A : Bm) {r c : Fin 512} (h : eroB A r c = true) : A r c = true := by
  simp only [eroB, triH, triV, tri, Bool.and_eq_true] at h
  exact h.1.2.1.2

/-- More erosions leave fewer pixels. -/
theorem eroB_iter_mono (A : Bm) {r c : Fin 512} {j k : ℕ} (hjk : j ≤ k) (h : eroB^[k] A r c = true) : eroB^[j] A r c = true := by
  induction k with
  | zero => obtain rfl : j = 0 := by omega
            exact h
  | succ k ih =>
    rcases Nat.lt_or_ge k j with h' | h'
    · obtain rfl : j = k + 1 := by omega
      exact h
    · rw [Function.iterate_succ_apply'] at h
      exact ih h' (eroB_le _ h)

/-- How many of the first `k` erosions still have the pixel. -/
def cnt (A : Bm) (k : ℕ) (r c : Fin 512) : ℕ := ∑ j ∈ Finset.range k, (eroB^[j] A r c).toNat

/-- The count of erosions that hold a pixel, one further. -/
theorem cnt_succ (A : Bm) (k : ℕ) (r c : Fin 512) : cnt A (k + 1) r c = cnt A k r c + (eroB^[k] A r c).toNat := Finset.sum_range_succ _ _

/-- A pixel that an erosion holds was held by all before it. -/
theorem cnt_of_true (A : Bm) {k : ℕ} {r c : Fin 512} (h : eroB^[k] A r c = true) : ∀ n, n ≤ k + 1 → cnt A n r c = n
  | 0, _ => rfl
  | n + 1, hn => by rw [cnt_succ, cnt_of_true A h n (by omega), eroB_iter_mono A (by omega) h, Bool.toNat_true]

/-- The distance recorded after `k` trips: nothing while the pixel is still there. -/
def dst (A : Bm) (k : ℕ) (r c : Fin 512) : ℕ := if eroB^[k] A r c then 0 else cnt A k r c

/-- One trip's record. -/
theorem dst_succ (A : Bm) (k : ℕ) (r c : Fin 512) :
    dst A (k + 1) r c = if eroB^[k] A r c = true ∧ eroB^[k + 1] A r c = false ∧ dst A k r c = 0 then k + 1 else dst A k r c := by
  unfold dst
  rw [cnt_succ]
  by_cases h : eroB^[k] A r c = true
  · by_cases h' : eroB^[k + 1] A r c = true
    · simp [h, h']
    · simp only [Bool.not_eq_true] at h'
      have := cnt_of_true A h k (by omega)
      simp [h, h', this]
  · have h' : eroB^[k + 1] A r c = false := by
      rw [Bool.eq_false_iff]; exact fun e => h (eroB_iter_mono A (by omega) e)
    simp only [Bool.not_eq_true] at h
    simp [h, h']

/-- The record at the end: the pixels never reached are given the bound. -/
theorem dst_final (A : Bm) (k : ℕ) (hk : 0 < k) (r c : Fin 512) :
    (if A r c = true ∧ dst A k r c = 0 then k else dst A k r c) = cnt A k r c := by
  unfold dst
  by_cases h : eroB^[k] A r c = true
  · have h0 : A r c = true := eroB_iter_mono A (j := 0) (Nat.zero_le k) h
    simp [h, h0, cnt_of_true A h k (by omega)]
  · simp only [Bool.not_eq_true] at h
    by_cases h0 : A r c = true
    · have : cnt A k r c ≠ 0 := by
        obtain ⟨k, rfl⟩ : ∃ m, k = m + 1 := ⟨k - 1, by omega⟩
        unfold cnt
        rw [Finset.sum_range_succ']
        show _ + (A r c).toNat ≠ 0
        rw [h0, Bool.toNat_true]; omega
      simp [h, this]
    · simp [h, h0]

end Cert.Proof

end
-- ==== Proof.KI.Slabs.lean ====
/-
  The block the body stores, read at an element: row `k` of slab `b` is the `k`-th sum of image `b`.
-/
module

public import proofs.«01_k».proof.Proof.KI.Run
public import proofs.«01_k».proof.Proof.Math.Img
public import Idealize.ShloMosaic.Lib.Pointwise.Index
import Idealize.ShloMosaic.Lib.Pointwise
import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe

/-- Row `k` among the slab's sixteen. -/
def rowOf (k : Fin 12) : Fin 16 := ⟨k.1, by omega⟩

/-- The sums in the order of the slab's rows; the last four rows are zero. -/
def lane (s : Sums Ideal) (k : Fin 16) : FVec Ideal S4 .f32 :=
  ![s.v513, s.v515, s.v516, s.v519, s.v524, s.v526, s.v527, s.v529, s.v532, s.v535, s.v510, s.v512, s.v536, s.v536, s.v536, s.v536] k

/-- A row of the slab: one entry of a vector, in every lane. -/
def rowv (n : ℕ) (h : S4.Slices ![n] S1) (v : FVec Ideal S4 .f32) : FVec Ideal S1x128 .f32 :=
  broadcast S1x128 (extractAt ![0] (extractStridedSlice S1 ![n] v h) inpos_S1_p0)

/-- A row holds its sum at every place. -/
theorem rowv_at (v : FVec Ideal S4 .f32) (n : ℕ) (hn : n < 4) (h : S4.Slices ![n] S1) (i : S1x128.Idx) : rowv n h v i = v (ix1 ⟨n, hn⟩) := by
  pointwise [rowv]

/-- Sixteen rows stacked under a new unit axis. -/
def stack (v : Fin 16 → FVec Ideal S1x128 .f32) : FVec Ideal S1x16x128 .f32 :=
  shapeCast S1x16x128 (concatenate S16x128 0 [⟨S1x128, v 0⟩, ⟨S1x128, v 1⟩, ⟨S1x128, v 2⟩, ⟨S1x128, v 3⟩, ⟨S1x128, v 4⟩, ⟨S1x128, v 5⟩, ⟨S1x128, v 6⟩, ⟨S1x128, v 7⟩,
      ⟨S1x128, v 8⟩, ⟨S1x128, v 9⟩, ⟨S1x128, v 10⟩, ⟨S1x128, v 11⟩, ⟨S1x128, v 12⟩, ⟨S1x128, v 13⟩, ⟨S1x128, v 14⟩, ⟨S1x128, v 15⟩] concatenates_S1x128_S1x128_S1x128_S1x128_S1x128_S1x128_S1x128_S1x128_S1x128_S1x128_S1x128_S1x128_S1x128_S1x128_S1x128_S1x128_S16x128_d0) shapeCasts_S16x128_S1x16x128

/-- A stack of rows under a new unit axis. -/
theorem cast_at (X : FVec Ideal S16x128 .f32) (k : Fin 16) : shapeCast S1x16x128 X shapeCasts_S16x128_S1x16x128 (ix3 0 k 0) = X (ix2 k 0) := by
  pointwise

/-- A family of rows at equal numbers has equal first elements. -/
theorem pick (v : Fin 16 → FVec Ideal S1x128 .f32) (k j : Fin 16) (h : k.1 = j.1) (i : S1x128.Idx) (h0 : (i 0).1 = 0) (h1 : (i 1).1 = 0) : v j i = v k (ix2 0 0) := by
  rw [Fin.ext h]
  refine congrArg (v j) (funext fun a => Fin.ext ?_)
  fin_cases a
  · exact h0
  · exact h1

/-- The stacked rows at a row's first place. -/
theorem stack_at (v : Fin 16 → FVec Ideal S1x128 .f32) (k : Fin 16) : stack v (ix3 0 k 0) = v k (ix2 0 0) := by
  unfold stack
  rw [cast_at]
  concat_tiles i h
  all_goals (refine pick v k _ ?_ i h0 h1; exact h)

/-- The second image's slab is the stack of its sums' rows. -/
theorem slab1_eq (s : Sums Ideal) : slab1 s = stack fun k => rowv 1 slices_S4_o1_S1 (lane s k) := rfl
/-- The third image's slab is the stack of its sums' rows. -/
theorem slab2_eq (s : Sums Ideal) : slab2 s = stack fun k => rowv 2 slices_S4_o2_S1 (lane s k) := rfl
/-- The fourth image's slab is the stack of its sums' rows. -/
theorem slab3_eq (s : Sums Ideal) : slab3 s = stack fun k => rowv 3 slices_S4_o3_S1 (lane s k) := rfl

/-- A slab at row `k`. -/
theorem slab_at {X : FVec Ideal S1x16x128 .f32} {s : Sums Ideal} {n : ℕ} (hn : n < 4) {h : S4.Slices ![n] S1} (e : X = stack fun k => rowv n h (lane s k)) (k : Fin 16) :
    X (ix3 0 k 0) = lane s k (ix1 ⟨n, hn⟩) := by
  rw [e, stack_at, rowv_at _ n hn]

section
variable (x : FVec Ideal S4x1x512x512 .f32) (t : IVec S4x1x512x512 32)

/-- The first image's slab is the stack of its sums' rows. -/
theorem slab0_eq : slab0 x t = stack fun k => rowv 0 slices_S4_o0_S1 (lane (sums x t) k) := by
  unfold slab0 sums
  rfl

/-- A slab's place in the block. -/
theorem place {X : FVec Ideal S1x16x128 .f32} {s : Sums Ideal} {n : ℕ} (hn : n < 4) (e : ∀ k, X (ix3 0 k 0) = lane s k (ix1 ⟨n, hn⟩)) (b : Fin 4) (k : Fin 16) (y : S1x16x128.Idx)
    (h0 : b.1 = n + (y 0).1) (y0 : (y 0).1 < 1) (h1 : k.1 = (y 1).1) (h2 : 0 = (y 2).1) : X y = lane s k (ix1 b) := by
  have hb : b = ⟨n, hn⟩ := Fin.ext (by show b.1 = n; omega)
  have hy : y = ix3 0 k 0 := by
    funext a
    apply Fin.ext
    fin_cases a
    · show (y 0).1 = 0; omega
    · exact h1.symm
    · exact h2.symm
  rw [hy, e, hb]

/-- The block's result at an image and a row is that image's sum. -/
theorem out_at (b : Fin 4) (k : Fin 16) : out (F := Ideal) x t (ix3 b k 0) = lane (sums x t) k (ix1 b) := by
  unfold out
  canon_tiles y h
  · exact place (by omega) (slab_at _ (slab3_eq _)) b k y h0 y0_lt h1 h2
  · exact place (by omega) (slab_at _ (slab2_eq _)) b k y h0 y0_lt h1 h2
  · exact place (by omega) (slab_at _ (slab1_eq _)) b k y h0 y0_lt h1 h2
  · exact place (by omega) (slab_at _ (slab0_eq x t)) b k y (by rw [Nat.zero_add]; exact h0) y0_lt h1 h2

end

end Cert.Proof.KI

end
-- ==== Proof.Math.Packed.lean ====
/-
  Images packed in words: 16 rows of 32-bit words hold 512 rows of pixels. The neighbours of a pixel read off shifted
  words, and the sums of pixels as sums of population counts.
-/
module

public import proofs.«01_k».proof.Proof.Math.Img

@[expose] public section

noncomputable section

namespace Cert.Proof

open Idealize.ShloMosaic

/-- The words of one packed image. -/
abbrev Words := Fin 16 → Fin 512 → BitVec 32

/-- The word a row lies in. -/
def wd (r : Fin 512) : Fin 16 := ⟨r.1 / 32, by omega⟩

/-- The pixels of a packed image. -/
def bits (W : Words) : Bm := fun r c => (W (wd r) c).getLsbD (r.1 % 32)

/-- The pixel after, and the pixel before, with a value for the one outside. -/
def nx (f : Bool) (A : Fin 512 → Bool) (i : Fin 512) : Bool := if h : i.1 < 511 then A ⟨i.1 + 1, by omega⟩ else f
def pv (f : Bool) (A : Fin 512 → Bool) (i : Fin 512) : Bool := if i.1 < 1 then f else A ⟨i.1 - 1, by omega⟩

/-- The last position has no other after it. -/
theorem up_last {i : Fin 512} (h : ¬ i.1 < 511) : up i = i := Fin.ext (by show (if i.1 < 511 then i.1 + 1 else 511) = i.1; rw [if_neg h]; omega)
/-- The first position has no other before it. -/
theorem dn_first {i : Fin 512} (h : i.1 < 1) : dn i = i := Fin.ext (by show i.1 - 1 = i.1; omega)

/-- Three pixels' and, with true outside. -/
theorem tri_and (A : Fin 512 → Bool) (i : Fin 512) : tri and A i = (A i && (nx true A i && pv true A i)) := by
  have hu : (A i && A (up i)) = (A i && nx true A i) := by
    unfold nx
    by_cases h : i.1 < 511
    · simp [h, up]
    · rw [up_last h]; simp [h]
  have hd : (A (dn i) && A i) = (pv true A i && A i) := by
    unfold pv
    by_cases h : i.1 < 1
    · rw [dn_first h]; simp [h]
    · simp [h, dn]
  unfold tri
  rw [hd, Bool.and_assoc, hu]
  cases A i <;> cases nx true A i <;> cases pv true A i <;> rfl

/-- Three pixels' or, with false outside. -/
theorem tri_or (A : Fin 512 → Bool) (i : Fin 512) : tri or A i = (A i || (nx false A i || pv false A i)) := by
  have hu : (A i || A (up i)) = (A i || nx false A i) := by
    unfold nx
    by_cases h : i.1 < 511
    · simp [h, up]
    · rw [up_last h]; simp [h]
  have hd : (A (dn i) || A i) = (pv false A i || A i) := by
    unfold pv
    by_cases h : i.1 < 1
    · rw [dn_first h]; simp [h]
    · simp [h, dn]
  unfold tri
  rw [hd, Bool.or_assoc, hu]
  cases A i <;> cases nx false A i <;> cases pv false A i <;> rfl

/-! ## Words shifted -/

/-- The bits of an and. -/
theorem andi_bit (x y : BitVec 32) (j : ℕ) : (IntOp.andi x y).getLsbD j = (x.getLsbD j && y.getLsbD j) := BitVec.getLsbD_and
/-- The bits of an or. -/
theorem ori_bit (x y : BitVec 32) (j : ℕ) : (IntOp.ori x y).getLsbD j = (x.getLsbD j || y.getLsbD j) := BitVec.getLsbD_or
/-- The bits of a complement. -/
theorem not_bit (x : BitVec 32) {j : ℕ} (hj : j < 32) : (IntOp.xori x 4294967295#32).getLsbD j = !x.getLsbD j := by
  rw [show IntOp.xori x 4294967295#32 = x ^^^ BitVec.allOnes 32 from rfl, BitVec.getLsbD_xor, BitVec.getLsbD_allOnes]
  simp [hj]
/-- The bits of a shift right by one. -/
theorem shr1_bit (x : BitVec 32) (j : ℕ) : (IntOp.shrui .vector x 1#32).getLsbD j = x.getLsbD (1 + j) := by
  rw [show IntOp.shrui .vector x 1#32 = x >>> 1 from rfl, BitVec.getLsbD_ushiftRight]
/-- The bits of a shift right by 31. -/
theorem shr31_bit (x : BitVec 32) (j : ℕ) : (IntOp.shrui .vector x 31#32).getLsbD j = x.getLsbD (31 + j) := by
  rw [show IntOp.shrui .vector x 31#32 = x >>> 31 from rfl, BitVec.getLsbD_ushiftRight]
/-- The bits of a shift left by one. -/
theorem shl1_bit (x : BitVec 32) (j : ℕ) : (IntOp.shli .vector x 1#32).getLsbD j = (decide (j < 32) && !decide (j < 1) && x.getLsbD (j - 1)) := by
  rw [show IntOp.shli .vector x 1#32 = x <<< 1 from rfl, BitVec.getLsbD_shiftLeft]
/-- The bits of a shift left by 31. -/
theorem shl31_bit (x : BitVec 32) (j : ℕ) : (IntOp.shli .vector x 31#32).getLsbD j = (decide (j < 32) && !decide (j < 31) && x.getLsbD (j - 31)) := by
  rw [show IntOp.shli .vector x 31#32 = x <<< 31 from rfl, BitVec.getLsbD_shiftLeft]

/-- The bits of the word of ones. -/
theorem ones_bit {j : ℕ} (h : j < 32) : (4294967295#32).getLsbD j = true := by
  rw [show (4294967295#32) = BitVec.allOnes 32 from rfl, BitVec.getLsbD_allOnes]
  simp [h]

/-- The words shifted towards the row before: the next row's bit, or the fill's. -/
theorem nxt_row (W : Words) (fill : BitVec 32) (r : Fin 512) (c : Fin 512) :
    ((IntOp.shrui .vector (W (wd r) c) 1#32).getLsbD (r.1 % 32)
      || (IntOp.shli .vector (if h : (wd r).1 < 15 then W ⟨1 + (wd r).1, by omega⟩ c else fill) 31#32).getLsbD (r.1 % 32))
      = nx (fill.getLsbD 0) (fun r => bits W r c) r := by
  rw [shr1_bit, shl31_bit]
  unfold nx bits
  by_cases h : r.1 % 32 < 31
  · have h1 : r.1 < 511 := by omega
    have hw : wd ⟨r.1 + 1, by omega⟩ = wd r := Fin.ext (by show (r.1 + 1) / 32 = r.1 / 32; omega)
    have hm : (r.1 + 1) % 32 = 1 + r.1 % 32 := by omega
    simp [h, h1, hw, hm]
  · have h31 : r.1 % 32 = 31 := by omega
    have hz : (W (wd r) c).getLsbD (1 + 31) = false := BitVec.getLsbD_of_ge _ _ (by omega)
    rw [h31, hz]
    by_cases h1 : r.1 < 511
    · have hk : (wd r).1 < 15 := by show r.1 / 32 < 15; omega
      have hw : wd ⟨r.1 + 1, by omega⟩ = ⟨1 + (wd r).1, by omega⟩ := Fin.ext (by show (r.1 + 1) / 32 = 1 + r.1 / 32; omega)
      have hm : (r.1 + 1) % 32 = 0 := by omega
      simp [h1, hk, hw, hm]
    · have hk : ¬ (wd r).1 < 15 := by show ¬ r.1 / 32 < 15; omega
      simp [h1, hk]

/-- The words shifted towards the row after: the row before's bit, or the fill's. -/
theorem prv_row (W : Words) (fill : BitVec 32) (r : Fin 512) (c : Fin 512) :
    ((IntOp.shli .vector (W (wd r) c) 1#32).getLsbD (r.1 % 32)
      || (IntOp.shrui .vector (if h : (wd r).1 < 1 then fill else W ⟨(wd r).1 - 1, by omega⟩ c) 31#32).getLsbD (r.1 % 32))
      = pv (fill.getLsbD 31) (fun r => bits W r c) r := by
  rw [shl1_bit, shr31_bit]
  unfold pv bits
  by_cases h : r.1 % 32 < 1
  · have h0 : r.1 % 32 = 0 := by omega
    rw [h0]
    by_cases h1 : r.1 < 1
    · have hk : (wd r).1 < 1 := by show r.1 / 32 < 1; omega
      simp [h1, hk]
    · have hk : ¬ (wd r).1 < 1 := by show ¬ r.1 / 32 < 1; omega
      have hw : wd ⟨r.1 - 1, by omega⟩ = ⟨(wd r).1 - 1, by omega⟩ := Fin.ext (by show (r.1 - 1) / 32 = r.1 / 32 - 1; omega)
      have hm : (r.1 - 1) % 32 = 31 := by omega
      simp only [h1, hk, hw, hm]
      simp
  · have h1 : ¬ r.1 < 1 := by omega
    have hw : wd ⟨r.1 - 1, by omega⟩ = wd r := Fin.ext (by show (r.1 - 1) / 32 = r.1 / 32; omega)
    have hm : (r.1 - 1) % 32 = r.1 % 32 - 1 := by omega
    have hz : ∀ w : BitVec 32, w.getLsbD (31 + r.1 % 32) = false := fun w => BitVec.getLsbD_of_ge _ _ (by omega)
    have h2 : r.1 % 32 < 32 := by omega
    rw [hz]
    simp only [h, h1, hw, hm, h2]
    simp

/-- The next column's word, or the fill. -/
theorem nxt_col (W : Words) (fill : BitVec 32) (r : Fin 512) (c : Fin 512) :
    (if h : c.1 < 511 then W (wd r) ⟨1 + c.1, by omega⟩ else fill).getLsbD (r.1 % 32) = nx (fill.getLsbD (r.1 % 32)) (bits W r) c := by
  unfold nx bits
  by_cases h : c.1 < 511
  · simp only [h, dite_true]
    simp only [Nat.add_comm]
  · simp [h]

/-- The column before's word, or the fill. -/
theorem prv_col (W : Words) (fill : BitVec 32) (r : Fin 512) (c : Fin 512) :
    (if h : c.1 < 1 then fill else W (wd r) ⟨c.1 - 1, by omega⟩).getLsbD (r.1 % 32) = pv (fill.getLsbD (r.1 % 32)) (bits W r) c := by
  unfold pv bits
  by_cases h : c.1 < 1 <;> simp [h]

/-! ## Sums of pixels -/

/-- A count as an extended real. -/
def natE (n : ℕ) : EReal := ((n : ℝ) : EReal)

/-- Zero, as an extended real. -/
theorem natE_zero : natE 0 = 0 := by simp [natE]
/-- One, as an extended real. -/
theorem natE_one : natE 1 = 1 := by simp [natE]
/-- Sums of naturals, as extended reals. -/
theorem natE_add (a b : ℕ) : natE (a + b) = natE a + natE b := by
  unfold natE
  rw [Nat.cast_add, EReal.coe_add]
/-- Products of naturals, as extended reals. -/
theorem natE_mul (a b : ℕ) : natE (a * b) = natE a * natE b := by
  unfold natE
  rw [Nat.cast_mul, EReal.coe_mul]
/-- Finite sums of naturals, as extended reals. -/
theorem natE_sum {ι : Type} (s : Finset ι) (f : ι → ℕ) : natE (∑ i ∈ s, f i) = ∑ i ∈ s, natE (f i) := by
  classical
  induction s using Finset.induction_on with
  | empty => exact natE_zero
  | insert a s ha ih => rw [Finset.sum_insert ha, Finset.sum_insert ha, natE_add, ih]
/-- A truth value's number as a natural's. -/
theorem ind_natE (b : Bool) : ind b = natE b.toNat := by
  cases b
  · exact natE_zero.symm
  · exact natE_one.symm

/-- The population count of a word is the sum of its bits. -/
theorem ctpop_toNat (x : BitVec 32) : (IntOp.ctpop x).toNat = ∑ j : Fin 32, (x.getLsbD j.1).toNat := by
  have h : ∀ n, ((List.range n).filter fun i => x.getLsbD i).length = ∑ j ∈ Finset.range n, (x.getLsbD j).toNat := fun n => by
    induction n with
    | zero => rfl
    | succ n ih =>
      rw [List.range_succ, List.filter_append, List.length_append, ih, Finset.sum_range_succ]
      cases hx : x.getLsbD n <;> simp [hx]
  have hle : ∑ j ∈ Finset.range 32, (x.getLsbD j).toNat ≤ 32 := by
    refine (Finset.sum_le_card_nsmul _ _ 1 fun j _ => Bool.toNat_le _).trans ?_
    simp
  unfold IntOp.ctpop
  rw [BitVec.toNat_ofNat, h, Nat.mod_eq_of_lt (by omega), Finset.sum_range]

/-- The rows of a packed image, word by word. -/
theorem sum_rows (f : Fin 512 → ℕ) : ∑ k : Fin 16, ∑ j : Fin 32, f ⟨32 * k.1 + j.1, by omega⟩ = ∑ r : Fin 512, f r := by
  rw [← Fintype.sum_prod_type']
  exact Fintype.sum_equiv (finProdFinEquiv (m := 16) (n := 32)) _ f fun p => congrArg f (Fin.ext (by
    show 32 * p.1.1 + p.2.1 = p.2.1 + 32 * p.1.1; omega))

/-- A packed image's population counts add up to the number of its pixels. -/
theorem sum_ctpop (W : Words) : ∑ k, ∑ c, (IntOp.ctpop (W k c)).toNat = ∑ r, ∑ c, (bits W r c).toNat := by
  rw [← sum_rows]
  refine Finset.sum_congr rfl fun k _ => ?_
  rw [Finset.sum_comm]
  refine Finset.sum_congr rfl fun c _ => ?_
  rw [ctpop_toNat]
  refine Finset.sum_congr rfl fun j _ => ?_
  unfold bits
  have hw : wd ⟨32 * k.1 + j.1, by omega⟩ = k := Fin.ext (by show (32 * k.1 + j.1) / 32 = k.1; omega)
  rw [hw, show (32 * k.1 + j.1) % 32 = j.1 from by omega]

end Cert.Proof

end
-- ==== Proof.KI.Packed.lean ====
/-
  The kernel's operations on packed images, read at a pixel, and its two loops on them.
-/
module

public import proofs.«01_k».proof.Proof.KI.Stages
public import proofs.«01_k».proof.Proof.Math.Packed

@[expose] public section

set_option maxRecDepth 16384

noncomputable section

namespace Cert.Proof.KI

open Cert.KernelIdeal Cert.KernelIdeal.Gen
open Idealize.ShloMosaic Idealize.ShloMosaic.TcCoe

/-- The words of one image of a stack, and of one image of two stacks. -/
def w3 (W : IVec S4x16x512 32) (b : Fin 4) : Words := fun k c => W (ix3 b k c)
def w4 (W : IVec S2x4x16x512 32) (a : Fin 2) (b : Fin 4) : Words := fun k c => W (ix4 a b k c)

/-- A row's place within its word is below 32. -/
theorem m32 (r : Fin 512) : r.1 % 32 < 32 := by omega

/-- The soft erosion of the packed images. -/
theorem bits_soft (W : IVec S4x16x512 32) (b : Fin 4) : bits (w3 (k0_pay119 W) b) = softB (bits (w3 W b)) := by
  funext r c
  have hn := nxt_row (w3 W b) 4294967295#32 r c
  have hp := prv_row (w3 W b) 4294967295#32 r c
  have hn' := nxt_col (w3 W b) 4294967295#32 r c
  have hp' := prv_col (w3 W b) 4294967295#32 r c
  rw [ones_bit (by omega)] at hn hp hn' hp'
  show (k0_pay119 W (ix3 b (wd r) c)).getLsbD (r.1 % 32) = _
  pointwise [k0_pay119]
  simp only [andi_bit, ori_bit]
  unfold w3 at hn hp hn' hp'
  rw [hn, hp, hn', hp']
  unfold softB triV triH
  rw [tri_and, tri_and]
  exact (by decide : ∀ a n p n' p' : Bool, (((a && (n && p)) && n') && p') = ((a && (n && p)) && (a && (n' && p')))) _ _ _ _ _

/-- The vertical part of the dilation of the soft erosion. -/
theorem bits_dilV (W : IVec S4x16x512 32) (b : Fin 4) : bits (w3 (k0_pay120 W) b) = triV or (softB (bits (w3 W b))) := by
  rw [← bits_soft]
  generalize hU : k0_pay119 W = U
  funext r c
  have hn := nxt_row (w3 U b) 0#32 r c
  have hp := prv_row (w3 U b) 0#32 r c
  rw [BitVec.getLsbD_zero] at hn hp
  show (k0_pay120 W (ix3 b (wd r) c)).getLsbD (r.1 % 32) = _
  unfold k0_pay120
  rw [hU]
  pointwise []
  simp only [andi_bit, ori_bit]
  unfold w3 at hn hp
  unfold triV
  rw [tri_or]
  unfold w3
  rw [← hn, ← hp]
  exact (by decide : ∀ a n n' p p' : Bool, ((((a || n) || n') || p) || p') = (a || ((n || n') || (p || p')))) _ _ _ _ _

/-- The skeleton with a layer added. -/
theorem bits_layer (W U V : IVec S4x16x512 32) (b : Fin 4) (r c : Fin 512) :
    bits (w3 (k0_pay2 W U V k0_pay121) b) r c = (bits (w3 U b) r c || (bits (w3 W b) r c && !(triH or (bits (w3 V b)) r c))) := by
  have hn := nxt_col (w3 V b) 0#32 r c
  have hp := prv_col (w3 V b) 0#32 r c
  rw [BitVec.getLsbD_zero] at hn hp
  show (k0_pay2 W U V k0_pay121 (ix3 b (wd r) c)).getLsbD (r.1 % 32) = _
  pointwise [k0_pay2, k0_pay121]
  simp only [andi_bit, ori_bit, not_bit _ (m32 r)]
  unfold w3 at hn hp
  unfold triH
  rw [tri_or, hn, hp, Bool.or_assoc]
  rfl

/-- The vertical erosion of the two packed stacks, and of one. -/
def eroV4 (W : IVec S2x4x16x512 32) : IVec S2x4x16x512 32 :=
  andi W (andi
    (ori (shrui W (broadcast S2x4x16x512 1#32))
      (shli (concatenate S2x4x16x512 2 [⟨S2x4x15x512, extractStridedSlice S2x4x15x512 ![0, 0, 1, 0] W slices_S2x4x16x512_o0_0_1_0_S2x4x15x512⟩, ⟨S2x4x1x512, broadcast S2x4x1x512 4294967295#32⟩]
        concatenates_S2x4x15x512_S2x4x1x512_S2x4x16x512_d2) (broadcast S2x4x16x512 31#32)))
    (ori (shli W (broadcast S2x4x16x512 1#32))
      (shrui (concatenate S2x4x16x512 2 [⟨S2x4x1x512, broadcast S2x4x1x512 4294967295#32⟩, ⟨S2x4x15x512, extractStridedSlice S2x4x15x512 ![0, 0, 0, 0] W slices_S2x4x16x512_o0_0_0_0_S2x4x15x512⟩]
        concatenates_S2x4x1x512_S2x4x15x512_S2x4x16x512_d2) (broadcast S2x4x16x512 31#32))))
def eroV3 (W : IVec S4x16x512 32) : IVec S4x16x512 32 :=
  andi W (andi
    (ori (shrui W (broadcast S4x16x512 1#32))
      (shli (concatenate S4x16x512 1 [⟨S4x15x512, extractStridedSlice S4x15x512 ![0, 1, 0] W slices_S4x16x512_o0_1_0_S4x15x512⟩, ⟨S4x1x512, broadcast S4x1x512 4294967295#32⟩]
        concatenates_S4x15x512_S4x1x512_S4x16x512_d1) (broadcast S4x16x512 31#32)))
    (ori (shli W (broadcast S4x16x512 1#32))
      (shrui (concatenate S4x16x512 1 [⟨S4x1x512, broadcast S4x1x512 4294967295#32⟩, ⟨S4x15x512, extractStridedSlice S4x15x512 ![0, 0, 0] W slices_S4x16x512_o0_0_0_S4x15x512⟩]
        concatenates_S4x1x512_S4x15x512_S4x16x512_d1) (broadcast S4x16x512 31#32))))

/-- The horizontal erosion of the two packed stacks, and of one, and the horizontal dilation. -/
def eroH4 (v : IVec S2x4x16x512 32) : IVec S2x4x16x512 32 :=
  andi (andi v (concatenate S2x4x16x512 3 [⟨S2x4x16x511, extractStridedSlice S2x4x16x511 ![0, 0, 0, 1] v slices_S2x4x16x512_o0_0_0_1_S2x4x16x511⟩, ⟨S2x4x16x1, broadcast S2x4x16x1 4294967295#32⟩]
      concatenates_S2x4x16x511_S2x4x16x1_S2x4x16x512_d3))
    (concatenate S2x4x16x512 3 [⟨S2x4x16x1, broadcast S2x4x16x1 4294967295#32⟩, ⟨S2x4x16x511, extractStridedSlice S2x4x16x511 ![0, 0, 0, 0] v slices_S2x4x16x512_o0_0_0_0_S2x4x16x511⟩]
      concatenates_S2x4x16x1_S2x4x16x511_S2x4x16x512_d3)
def eroH3 (v : IVec S4x16x512 32) : IVec S4x16x512 32 :=
  andi (andi v (concatenate S4x16x512 2 [⟨S4x16x511, extractStridedSlice S4x16x511 ![0, 0, 1] v slices_S4x16x512_o0_0_1_S4x16x511⟩, ⟨S4x16x1, broadcast S4x16x1 4294967295#32⟩]
      concatenates_S4x16x511_S4x16x1_S4x16x512_d2))
    (concatenate S4x16x512 2 [⟨S4x16x1, broadcast S4x16x1 4294967295#32⟩, ⟨S4x16x511, extractStridedSlice S4x16x511 ![0, 0, 0] v slices_S4x16x512_o0_0_0_S4x16x511⟩]
      concatenates_S4x16x1_S4x16x511_S4x16x512_d2)
def dilH3 (v : IVec S4x16x512 32) : IVec S4x16x512 32 :=
  ori (ori v (concatenate S4x16x512 2 [⟨S4x16x511, extractStridedSlice S4x16x511 ![0, 0, 1] v slices_S4x16x512_o0_0_1_S4x16x511⟩, ⟨S4x16x1, broadcast S4x16x1 0#32⟩]
      concatenates_S4x16x511_S4x16x1_S4x16x512_d2))
    (concatenate S4x16x512 2 [⟨S4x16x1, broadcast S4x16x1 0#32⟩, ⟨S4x16x511, extractStridedSlice S4x16x511 ![0, 0, 0] v slices_S4x16x512_o0_0_0_S4x16x511⟩]
      concatenates_S4x16x1_S4x16x511_S4x16x512_d2)

/-- The vertical erosion of a pair of stacks of words is that of its bits. -/
theorem bits_eroV4 (W : IVec S2x4x16x512 32) (a : Fin 2) (b : Fin 4) : bits (w4 (eroV4 W) a b) = triV and (bits (w4 W a b)) := by
  funext r c
  have hn := nxt_row (w4 W a b) 4294967295#32 r c
  have hp := prv_row (w4 W a b) 4294967295#32 r c
  rw [ones_bit (by omega)] at hn hp
  show (eroV4 W (ix4 a b (wd r) c)).getLsbD (r.1 % 32) = _
  pointwise [eroV4]
  simp only [andi_bit, ori_bit]
  unfold w4 at hn hp
  unfold triV
  rw [tri_and, hn, hp]
  rfl

/-- The vertical erosion of a stack of words is that of its bits. -/
theorem bits_eroV3 (W : IVec S4x16x512 32) (b : Fin 4) : bits (w3 (eroV3 W) b) = triV and (bits (w3 W b)) := by
  funext r c
  have hn := nxt_row (w3 W b) 4294967295#32 r c
  have hp := prv_row (w3 W b) 4294967295#32 r c
  rw [ones_bit (by omega)] at hn hp
  show (eroV3 W (ix3 b (wd r) c)).getLsbD (r.1 % 32) = _
  pointwise [eroV3]
  simp only [andi_bit, ori_bit]
  unfold w3 at hn hp
  unfold triV
  rw [tri_and, hn, hp]
  rfl

/-- The horizontal erosion of a pair of stacks of words is that of its bits. -/
theorem bits_eroH4 (W : IVec S2x4x16x512 32) (a : Fin 2) (b : Fin 4) : bits (w4 (eroH4 W) a b) = triH and (bits (w4 W a b)) := by
  funext r c
  have hn := nxt_col (w4 W a b) 4294967295#32 r c
  have hp := prv_col (w4 W a b) 4294967295#32 r c
  rw [ones_bit (by omega)] at hn hp
  show (eroH4 W (ix4 a b (wd r) c)).getLsbD (r.1 % 32) = _
  pointwise [eroH4]
  simp only [andi_bit, ori_bit]
  unfold w4 at hn hp
  unfold triH
  rw [tri_and, hn, hp, Bool.and_assoc]
  rfl

/-- The horizontal erosion of a stack of words is that of its bits. -/
theorem bits_eroH3 (W : IVec S4x16x512 32) (b : Fin 4) : bits (w3 (eroH3 W) b) = triH and (bits (w3 W b)) := by
  funext r c
  have hn := nxt_col (w3 W b) 4294967295#32 r c
  have hp := prv_col (w3 W b) 4294967295#32 r c
  rw [ones_bit (by omega)] at hn hp
  show (eroH3 W (ix3 b (wd r) c)).getLsbD (r.1 % 32) = _
  pointwise [eroH3]
  simp only [andi_bit, ori_bit]
  unfold w3 at hn hp
  unfold triH
  rw [tri_and, hn, hp, Bool.and_assoc]
  rfl

/-- The horizontal dilation of words is that of their bits. -/
theorem bits_dilH3 (W : IVec S4x16x512 32) (b : Fin 4) : bits (w3 (dilH3 W) b) = triH or (bits (w3 W b)) := by
  funext r c
  have hn := nxt_col (w3 W b) 0#32 r c
  have hp := prv_col (w3 W b) 0#32 r c
  rw [BitVec.getLsbD_zero] at hn hp
  show (dilH3 W (ix3 b (wd r) c)).getLsbD (r.1 % 32) = _
  pointwise [dilH3]
  simp only [andi_bit, ori_bit]
  unfold w3 at hn hp
  unfold triH
  rw [tri_or, hn, hp, Bool.or_assoc]
  rfl

/-- The vertical dilation of words is that of their bits. -/
theorem bits_dilV3 (W : IVec S4x16x512 32) (b : Fin 4) : bits (w3 (k0_pay21 W) b) = triV or (bits (w3 W b)) := by
  funext r c
  have hn := nxt_row (w3 W b) 0#32 r c
  have hp := prv_row (w3 W b) 0#32 r c
  rw [BitVec.getLsbD_zero] at hn hp
  show (k0_pay21 W (ix3 b (wd r) c)).getLsbD (r.1 % 32) = _
  pointwise [k0_pay21]
  simp only [andi_bit, ori_bit]
  unfold w3 at hn hp
  unfold triV
  rw [tri_or]
  unfold w3
  rw [← hn, ← hp]
  exact (by decide : ∀ a n n' p p' : Bool, ((((a || n) || n') || p) || p') = (a || ((n || n') || (p || p')))) _ _ _ _ _

/-- The erosion of the two packed stacks. -/
theorem bits_ero (W : IVec S2x4x16x512 32) (a : Fin 2) (b : Fin 4) : bits (w4 (k0_pay5 W) a b) = eroB (bits (w4 W a b)) := by
  rw [show k0_pay5 W = eroH4 (eroV4 W) from rfl, bits_eroH4, bits_eroV4]
  rfl

/-- The boundary of the packed targets. -/
theorem bits_bound (W : IVec S4x16x512 32) (b : Fin 4) (r c : Fin 512) :
    bits (w3 (k0_pay24 W (k0_pay22 W) (k0_pay23 W)) b) r c = (dilB (bits (w3 W b)) r c && !(eroB (bits (w3 W b)) r c)) := by
  rw [show k0_pay24 W (k0_pay22 W) (k0_pay23 W) = andi (dilH3 (k0_pay21 W)) (xori (eroH3 (eroV3 W)) (constantI S4x16x512 32 4294967295#32)) from rfl]
  have hd : dilB (bits (w3 W b)) = bits (w3 (dilH3 (k0_pay21 W)) b) := by rw [bits_dilH3, bits_dilV3]; rfl
  have he : eroB (bits (w3 W b)) = bits (w3 (eroH3 (eroV3 W)) b) := by rw [bits_eroH3, bits_eroV3]; rfl
  rw [hd, he]
  show (IntOp.andi _ (IntOp.xori _ 4294967295#32)).getLsbD _ = _
  rw [andi_bit, not_bit _ (m32 r)]
  rfl

/-! ## The skeleton loop -/

/-- A maximum over a set with a one in it is positive. -/
theorem low_le {ι : Type} (s : Finset ι) (f : ι → EReal) (b : EReal) (i : ι) (hi : i ∈ s) (h : f i = 1) : 0 < Finset.fold max b f s :=
  lt_of_lt_of_le zero_lt_one ((Finset.le_fold_max _).mpr (.inr ⟨i, hi, h.ge⟩))

/-- Where a loop's flag is down the erosion changed nothing. -/
theorem flag1 (W U : IVec S4x16x512 32) (h : ¬ Scalar.cmpf (F := Ideal) .ogt (k0_pay3 (F := Ideal) W U) (Scalar.ofBits (F := Ideal) .f32 0x00000000#32) = 1#1) : U = W := by
  by_contra hne
  apply h
  obtain ⟨i, hi⟩ := Function.ne_iff.mp hne
  obtain ⟨b, k, c, rfl⟩ : ∃ b k c, i = ix3 b k c := ⟨i 0, i 1, i 2, by funext j; fin_cases j <;> rfl⟩
  unfold k0_pay3
  pointwise []
  have := low_le {i | reduces_S1x4x16x512_S1.drop i = ix1 0} (fun x => Scalar.select (IntOp.cmpi CmpIPredicate.ne (U (ix3 (x 1) (x 2) (x 3))) (W (ix3 (x 1) (x 2) (x 3)))) (1 : EReal) 0)
    (Ideal.ofBits FTy.f32 4286578688#32) (ix4 0 b k c)
    (Finset.mem_filter.mpr ⟨Finset.mem_univ _, by
      funext j
      obtain rfl : j = 0 := Subsingleton.elim _ _
      exact Subsingleton.elim (α := Fin 1) _ _⟩)
    (by show Scalar.select (IntOp.cmpi CmpIPredicate.ne (U (ix3 b k c)) (W (ix3 b k c))) (1 : EReal) 0 = 1
        have hb : (U (ix3 b k c) != W (ix3 b k c)) = true := bne_iff_ne.mpr hi
        simp [IntOp.cmpi, Scalar.select, hb])
  simp [this]

/-- Where the distance loop's flag is down, the erosion changed nothing. -/
theorem flag2 (W : IVec S2x4x16x512 32) (h : ¬ Scalar.cmpf (F := Ideal) .ogt (k0_pay6 (F := Ideal) W) (Scalar.ofBits (F := Ideal) .f32 0x00000000#32) = 1#1) : k0_pay5 W = W := by
  by_contra hne
  apply h
  obtain ⟨i, hi⟩ := Function.ne_iff.mp hne
  obtain ⟨a, b, k, c, rfl⟩ : ∃ a b k c, i = ix4 a b k c := ⟨i 0, i 1, i 2, i 3, by funext j; fin_cases j <;> rfl⟩
  unfold k0_pay6
  generalize k0_pay5 W = U at hi
  pointwise []
  have := low_le {i | reduces_S1x2x4x16x512_S1.drop i = ix1 0} (fun x => Scalar.select (IntOp.cmpi CmpIPredicate.ne (U (ix4 (x 1) (x 2) (x 3) (x 4))) (W (ix4 (x 1) (x 2) (x 3) (x 4)))) (1 : EReal) 0)
    (Ideal.ofBits FTy.f32 4286578688#32) (ix5 0 a b k c)
    (Finset.mem_filter.mpr ⟨Finset.mem_univ _, by
      funext j
      obtain rfl : j = 0 := Subsingleton.elim _ _
      exact Subsingleton.elim (α := Fin 1) _ _⟩)
    (by show Scalar.select (IntOp.cmpi CmpIPredicate.ne (U (ix4 a b k c)) (W (ix4 a b k c))) (1 : EReal) 0 = 1
        have hb : (U (ix4 a b k c) != W (ix4 a b k c)) = true := bne_iff_ne.mpr hi
        simp [IntOp.cmpi, Scalar.select, hb])
  simp [this]

/-- The test of a loop, its counter in range, is its flag. -/
theorem go_iff {j n : ℕ} (hj : j < n) (hn : n ≤ 20) (v : BitVec 1) :
    Scalar.andi (Scalar.cmpi .slt (BitVec.ofNat 32 j) (BitVec.ofNat 32 n)) v = 1#1 ↔ v = 1#1 := by
  have : Scalar.cmpi .slt (BitVec.ofNat 32 j) (BitVec.ofNat 32 n) = 1#1 := by
    have h1 : ∀ n ≤ 20, ∀ j < n, Scalar.cmpi .slt (BitVec.ofNat 32 j) (BitVec.ofNat 32 n) = 1#1 := by decide
    exact h1 n hn j hj
  rw [this]
  revert v
  decide

/-- The counter's next value. -/
theorem ctr_next {j : ℕ} (x : BitVec 32) (h : x = BitVec.ofNat 32 j) : Scalar.addi x 1#32 = BitVec.ofNat 32 (j + 1) := by
  rw [h, BitVec.ofNat_add]
  rfl

/-- The skeleton loop's flag is that of its erosion's change. -/
theorem step1_flag (s : St1) (h : ¬ (step1 Ideal s).2.2.2 = 1#1) :
    ¬ Scalar.cmpf (F := Ideal) .ogt (k0_pay3 (F := Ideal) s.2.1 (k0_pay119 s.2.1)) (Scalar.ofBits (F := Ideal) .f32 0x00000000#32) = 1#1 := by
  unfold step1 at h
  dsimp only at h
  exact h
/-- The distance loop's flag is that of its erosion's change. -/
theorem step2_flag (w : IVec S2x4x16x512 32) (s : St2) (h : ¬ (step2 Ideal w s).2.2.2 = 1#1) :
    ¬ Scalar.cmpf (F := Ideal) .ogt (k0_pay6 (F := Ideal) s.2.1) (Scalar.ofBits (F := Ideal) .f32 0x00000000#32) = 1#1 := by
  unfold step2 at h
  dsimp only at h
  exact h

/-- The skeleton loop ends at the skeleton of eleven layers. -/
theorem run1_val (A : IVec S4x16x512 32) : ∀ (n j : ℕ) (s : St1), n + j = 11 → s.1 = BitVec.ofNat 32 j →
    (∀ b, bits (w3 s.2.1 b) = softB^[j] (bits (w3 A b))) → (∀ b, bits (w3 s.2.2.1 b) = skelB (bits (w3 A b)) j) →
    (s.2.2.2 = 1#1 ∨ (0 < j ∧ ∀ b, softB (softB^[j - 1] (bits (w3 A b))) = softB^[j - 1] (bits (w3 A b)))) →
    ∀ b, bits (w3 (run1 Ideal n s).2.2.1 b) = skelB (bits (w3 A b)) 11
  | 0, j, s, hn, _, _, hs, _, b => by
    obtain rfl : j = 11 := by omega
    exact hs b
  | n + 1, j, s, hn, hc, hi, hs, hf, b => by
    rw [run1]
    by_cases hg : go1 s
    · rw [if_pos hg]
      refine run1_val A n (j + 1) _ (by omega) ?_ (fun b => ?_) (fun b => ?_) ?_ b
      · exact ctr_next _ hc
      · show bits (w3 (k0_pay119 s.2.1) b) = _
        rw [bits_soft, hi b, Function.iterate_succ_apply']
      · show bits (w3 (k0_pay2 s.2.1 s.2.2.1 (k0_pay120 s.2.1) k0_pay121) b) = _
        funext r c
        rw [bits_layer, bits_dilV, hi b, hs b]
        rfl
      · rcases Classical.em ((step1 Ideal s).2.2.2 = 1#1) with hflag | hflag
        · exact .inl hflag
        · refine .inr ⟨by omega, fun b => ?_⟩
          rw [Nat.add_sub_cancel, ← hi b, ← bits_soft, flag1 _ _ (step1_flag s hflag)]
    · rw [if_neg hg]
      have hv : ¬ s.2.2.2 = 1#1 := fun h => hg (by
        show Scalar.andi (Scalar.cmpi .slt s.1 11#32) s.2.2.2 = 1#1
        rw [hc]
        exact (go_iff (n := 11) (by omega) (by omega) _).mpr h)
      obtain ⟨h0, hfix⟩ := hf.resolve_left hv
      rw [hs b]
      have := skelB_fixed _ (hfix b) n
      rw [show j - 1 + 1 + n = 10 from by omega, show j - 1 + 1 = j from by omega] at this
      have h2 := skelB_fixed _ (hfix b) (n + 1)
      rw [show j - 1 + 1 + (n + 1) = 11 from by omega, show j - 1 + 1 = j from by omega] at h2
      exact h2.symm

/-- The skeleton of the targets. -/
theorem tSkel_val (t : IVec S4x1x512x512 32) (b : Fin 4) : bits (w3 (tSkel Ideal t) b) = skelB (bits (w3 (tPack Ideal t) b)) 11 := by
  unfold tSkel
  refine run1_val (tPack Ideal t) 11 0 (0#32, tPack Ideal t, k0_pay30, 1#1) rfl rfl (fun b => rfl) (fun b => ?_) (.inl rfl) b
  funext r c
  show (k0_pay30 (ix3 b (wd r) c)).getLsbD (r.1 % 32) = false
  exact BitVec.getLsbD_zero

/-! ## The distance loop -/

/-- The distance loop ends at a fixed point, or after its twenty trips. -/
theorem run2_val (w E : IVec S2x4x16x512 32) : ∀ (n j : ℕ) (s : St2), n + j = 20 → s.1 = BitVec.ofNat 32 j → s.2.1 = k0_pay5^[j] E →
    (∀ i, (s.2.2.1 i).toNat = ∑ l ∈ Finset.range j, (IntOp.ctpop (IntOp.andi (k0_pay5^[l] E i) (w i))).toNat) →
    (s.2.2.2 = 1#1 ∨ k0_pay5 (k0_pay5^[j] E) = k0_pay5^[j] E) →
    ∃ j ≤ 20, (run2 Ideal w n s).1 = BitVec.ofNat 32 j ∧ (run2 Ideal w n s).2.1 = k0_pay5^[j] E ∧
      (∀ i, ((run2 Ideal w n s).2.2.1 i).toNat = ∑ l ∈ Finset.range j, (IntOp.ctpop (IntOp.andi (k0_pay5^[l] E i) (w i))).toNat) ∧
      (j = 20 ∨ k0_pay5 (k0_pay5^[j] E) = k0_pay5^[j] E)
  | 0, j, s, hn, hc, hi, hs, _ => ⟨j, by omega, hc, hi, hs, .inl (by omega)⟩
  | n + 1, j, s, hn, hc, hi, hs, hf => by
    rw [run2]
    by_cases hg : go2 s
    · rw [if_pos hg]
      refine run2_val w E n (j + 1) _ (by omega) ?_ ?_ (fun i => ?_) ?_
      · exact ctr_next _ hc
      · show k0_pay5 s.2.1 = _
        rw [hi, Function.iterate_succ_apply']
      · show (s.2.2.1 i + IntOp.ctpop (IntOp.andi (s.2.1 i) (w i))).toNat = _
        have hle : ∀ x : BitVec 32, (IntOp.ctpop x).toNat ≤ 32 := fun x => by
          rw [ctpop_toNat]
          refine (Finset.sum_le_card_nsmul _ _ 1 fun j _ => Bool.toNat_le _).trans ?_
          simp
        have hsum : ∑ l ∈ Finset.range j, (IntOp.ctpop (IntOp.andi (k0_pay5^[l] E i) (w i))).toNat ≤ j * 32 := by
          refine (Finset.sum_le_card_nsmul _ _ 32 fun l _ => hle _).trans ?_
          simp
        rw [Finset.sum_range_succ, BitVec.toNat_add, hs i, hi]
        have := hle (IntOp.andi (k0_pay5^[j] E i) (w i))
        exact Nat.mod_eq_of_lt (by omega)
      · rcases Classical.em ((step2 Ideal w s).2.2.2 = 1#1) with hflag | hflag
        · exact .inl hflag
        · have := flag2 _ (step2_flag w s hflag)
          rw [hi] at this
          exact .inr (by rw [Function.iterate_succ_apply', this, this])
    · rw [if_neg hg]
      have hv : ¬ s.2.2.2 = 1#1 := fun h => hg (by
        show Scalar.andi (Scalar.cmpi .slt s.1 20#32) s.2.2.2 = 1#1
        rw [hc]
        exact (go_iff (n := 20) (by omega) (by omega) _).mpr h)
      exact ⟨j, by omega, hc, hi, hs, .inr (hf.resolve_left hv)⟩

/-- The number of steps not taken, read as a real. -/
theorem natE_int (j : ℕ) (h : j ≤ 20) : (((Scalar.subi 20#32 (BitVec.ofNat 32 j)).toInt : ℝ) : EReal) = natE (20 - j) := by
  have : ∀ j ≤ 20, (Scalar.subi 20#32 (BitVec.ofNat 32 j)).toInt = ((20 - j : ℕ) : ℤ) := by decide
  rw [this j h]
  unfold natE
  simp

/-- Erosions of packed words, one after the other, are those of their bits. -/
theorem bits_iter (E : IVec S2x4x16x512 32) (a : Fin 2) (b : Fin 4) : ∀ l, bits (w4 (k0_pay5^[l] E) a b) = eroB^[l] (bits (w4 E a b))
  | 0 => rfl
  | l + 1 => by rw [Function.iterate_succ_apply', bits_ero, bits_iter E a b l, Function.iterate_succ_apply']

/-- The weighted counts, added up, are the distances added up where the second image has a pixel. -/
theorem counts (w E : IVec S2x4x16x512 32) (a : Fin 2) (b : Fin 4) :
    ∑ k : Fin 16, ∑ c : Fin 512, ∑ l ∈ Finset.range 20, (IntOp.ctpop (IntOp.andi (k0_pay5^[l] E (ix4 a b k c)) (w (ix4 a b k c)))).toNat
      = ∑ r, ∑ c, cnt (bits (w4 E a b)) 20 r c * (bits (w4 w a b) r c).toNat := by
  have h1 : ∀ l, ∑ k : Fin 16, ∑ c : Fin 512, (IntOp.ctpop (IntOp.andi (k0_pay5^[l] E (ix4 a b k c)) (w (ix4 a b k c)))).toNat
      = ∑ r, ∑ c, (eroB^[l] (bits (w4 E a b)) r c).toNat * (bits (w4 w a b) r c).toNat := fun l => by
    rw [sum_ctpop (fun k c => IntOp.andi (k0_pay5^[l] E (ix4 a b k c)) (w (ix4 a b k c)))]
    refine Finset.sum_congr rfl fun r _ => Finset.sum_congr rfl fun c _ => ?_
    rw [← bits_iter]
    show (((IntOp.andi _ _).getLsbD _)).toNat = _
    rw [andi_bit]
    exact (by decide : ∀ a b : Bool, (a && b).toNat = a.toNat * b.toNat) _ _
  simp only [Finset.sum_comm (t := Finset.range 20)]
  simp only [h1]
  rw [Finset.sum_comm]
  refine Finset.sum_congr rfl fun r _ => ?_
  rw [Finset.sum_comm]
  refine Finset.sum_congr rfl fun c _ => ?_
  unfold cnt
  rw [Finset.sum_mul]

end Cert.Proof.KI

end
-- ==== Proof.KI.Pack.lean ====
/-
  Packing a 0/1 image into words by a product with powers of two, and unpacking words into 0/1 images by a one-hot
  product and a power of two.
-/
module

public import proofs.«01_k».proof.Proof.KI.Stages
public import proofs.«01_k».proof.Proof.KI.Packed
public import proofs.«01_k».proof.Proof.Math.Packed

@[expose] public section

set_option maxRecDepth 16384

noncomputable section

namespace Cert.Proof.KI

open Cert.KernelIdeal Cert.KernelIdeal.Gen
open Idealize.ShloMosaic Idealize.ShloMosaic.TcCoe

/-! ## Binary sums -/

/-- The number with the binary digits `b`. -/
def bin (b : ℕ → Bool) (n : ℕ) : ℕ := ∑ j ∈ Finset.range n, 2 ^ j * (b j).toNat

/-- A further bit adds its power of two. -/
theorem bin_succ (b : ℕ → Bool) (n : ℕ) : bin b (n + 1) = 2 ^ n * (b n).toNat + bin b n := by
  unfold bin
  rw [Finset.sum_range_succ, Nat.add_comm]

/-- A number of `n` bits is below `2 ^ n`. -/
theorem bin_lt (b : ℕ → Bool) : ∀ n, bin b n < 2 ^ n
  | 0 => by simp [bin]
  | n + 1 => by
    have := bin_lt b n
    rw [bin_succ, pow_succ]
    cases b n <;> simp <;> omega

/-- The bits of the number are the given ones. -/
theorem bin_testBit (b : ℕ → Bool) : ∀ n i, (bin b n).testBit i = (decide (i < n) && b i)
  | 0, i => by simp [bin]
  | n + 1, i => by
    rw [bin_succ, Nat.testBit_two_pow_mul_add _ (bin_lt b n), bin_testBit b n]
    by_cases h : i < n
    · simp [h, Nat.lt_succ_of_lt h]
    · rcases Nat.eq_or_lt_of_le (Nat.le_of_not_lt h) with rfl | h'
      · cases b n <;> simp
      · have h1 : ¬ i < n + 1 := by omega
        have h2 : i - n ≠ 0 := by omega
        rw [if_neg h]
        have h3 : (b n).toNat.testBit (i - n) = false := Nat.testBit_lt_two_pow (lt_of_lt_of_le (Bool.toNat_lt _) (by
          calc 2 = 2 ^ 1 := rfl
            _ ≤ 2 ^ (i - n) := Nat.pow_le_pow_right (by norm_num) (by omega)))
        rw [h3, decide_eq_false h1, Bool.false_and]

/-! ## Packing -/

/-- Two comparisons, joined, select as one condition does. -/
theorem sel_and (A B C D : BitVec 32) (x y : EReal) (a b c d : ℕ) (hA : A = BitVec.ofNat 32 a) (hB : B = BitVec.ofNat 32 b) (hC : C = BitVec.ofNat 32 c)
    (hD : D = BitVec.ofNat 32 d) (ha : a < 512) (hb : b < 512) (hc : c < 512) (hd : d < 512) :
    Scalar.select (IntOp.andi (IntOp.cmpi .eq A B) (IntOp.cmpi .eq C D)) x y = if a = b ∧ c = d then x else y := by
  have h : ∀ a b : ℕ, a < 512 → b < 512 → (IntOp.cmpi .eq (BitVec.ofNat 32 a) (BitVec.ofNat 32 b) = BitVec.ofBool (decide (a = b))) := fun a b ha hb => by
    have : (BitVec.ofNat 32 a == BitVec.ofNat 32 b) = decide (a = b) := by
      rw [Bool.eq_iff_iff, beq_iff_eq, decide_eq_true_eq]
      constructor
      · intro h
        have := congrArg BitVec.toNat h
        rw [BitVec.toNat_ofNat, BitVec.toNat_ofNat] at this
        omega
      · rintro rfl; rfl
    show BitVec.ofBool (BitVec.ofNat 32 a == BitVec.ofNat 32 b) = _
    rw [this]
  rw [hA, hB, hC, hD, h a b ha hb, h c d hc hd]
  by_cases h1 : a = b <;> by_cases h2 : c = d <;> simp [h1, h2, Scalar.select, IntOp.andi]

/-- The packing matrix. -/
theorem packW_at (m : Fin 32) (r : Fin 512) :
    packW Ideal (ix2 m r) = natE (if r.1 / 32 = m.1 % 16 ∧ r.1 / 16 % 2 = m.1 / 16 then 2 ^ (r.1 % 16) else 0) := by
  unfold packW
  pointwise [k0_pay14, k0_pay11, k0_pay12, k0_pay13, rowI, colI]
  refine (sel_and _ _ _ _ _ _ (r.1 / 32) (m.1 % 16) (r.1 / 16 % 2) (m.1 / 16) ?_ ?_ ?_ ?_ (by omega) (by omega) (by omega) (by omega)).trans ?_
  · revert r; decide +kernel
  · revert m; decide +kernel
  · revert r; decide +kernel
  · revert m; decide +kernel
  · split
    · have h : ∀ r : Fin 512, (IntOp.shli ArithUnit.vector (1#32) (IntOp.andi (BitVec.ofNat 32 r.1) 15#32)).toInt = ((2 ^ (r.1 % 16) : ℕ) : ℤ) := by decide +kernel
      show (((IntOp.shli ArithUnit.vector (1#32) (IntOp.andi (BitVec.ofNat 32 r.1) 15#32)).toInt : ℝ) : EReal) = _
      rw [h r]
      unfold natE
      simp
    · exact natE_zero.symm

/-- The cast of a natural number to an integer is that number. -/
theorem fptosi_natE {n : ℕ} (h : n < 2 ^ 31) : (FloatOps.fptosi (F := Ideal) (φ := .f32) 32 (natE n)) = BitVec.ofNat 32 n := by
  show BitVec.ofInt 32 (Ideal.toIntClamped (-(2 ^ (32 - 1) : Nat)) ((2 ^ (32 - 1) : Nat) - 1) (((n : ℝ)) : EReal)) = _
  have e : Ideal.toIntClamped (-(2 ^ (32 - 1) : Nat)) ((2 ^ (32 - 1) : Nat) - 1) (((n : ℝ)) : EReal) = (n : ℤ) := by
    show max _ (min _ (if (0 : ℝ) ≤ (n : ℝ) then ⌊(n : ℝ)⌋ else ⌈(n : ℝ)⌉)) = _
    rw [if_pos (Nat.cast_nonneg n), Int.floor_natCast]
    have : (n : ℤ) < 2 ^ 31 := by exact_mod_cast h
    rw [min_eq_right (by norm_num; omega), max_eq_right (by norm_num)]
  rw [e, BitVec.ofInt_natCast]

/-- A row of the packing product. -/
theorem pack_sum (B : Fin 512 → Bool) (m : Fin 32) :
    ∑ r : Fin 512, packW Ideal (ix2 m r) * ind (B r) = natE (bin (fun j => B ⟨(32 * (m.1 % 16) + 16 * (m.1 / 16) + j) % 512, by omega⟩) 16) := by
  have h : ∀ r : Fin 512, packW Ideal (ix2 m r) * ind (B r) = natE ((if r.1 / 32 = m.1 % 16 ∧ r.1 / 16 % 2 = m.1 / 16 then 2 ^ (r.1 % 16) else 0) * (B r).toNat) := fun r => by
    rw [packW_at, ind_natE, natE_mul]
  rw [Finset.sum_congr rfl fun r _ => h r, ← natE_sum]
  refine congrArg natE ?_
  have hm : (m.1 / 16 = 0 ∧ m.1 % 16 = m.1) ∨ (m.1 / 16 = 1 ∧ m.1 % 16 = m.1 - 16) := by omega
  unfold bin
  rw [Finset.sum_range]
  refine (Finset.sum_of_injOn (fun j : Fin 16 => (⟨(32 * (m.1 % 16) + 16 * (m.1 / 16) + j.1) % 512, by omega⟩ : Fin 512)) ?_ (fun _ _ => Finset.mem_coe.mpr (Finset.mem_univ _)) ?_ ?_).symm
  · intro i _ j _ hij
    have := congrArg Fin.val hij
    simp only at this
    exact Fin.ext (by omega)
  · intro r _ hr
    rw [if_neg, Nat.zero_mul]
    rintro ⟨h1, h2⟩
    exact hr ⟨⟨r.1 % 16, by omega⟩, Finset.mem_coe.mpr (Finset.mem_univ _), Fin.ext (by
      show (32 * (m.1 % 16) + 16 * (m.1 / 16) + r.1 % 16) % 512 = r.1
      have := m.2
      rcases hm with ⟨h3, h4⟩ | ⟨h3, h4⟩ <;> rw [h4] at h1 <;> rw [h3] at h2 <;> rw [h3, h4] <;> omega)⟩
  · intro j _
    have hj := j.2
    have h : (32 * (m.1 % 16) + 16 * (m.1 / 16) + j.1) % 512 = 32 * (m.1 % 16) + 16 * (m.1 / 16) + j.1 := by omega
    simp only [h]
    rw [if_pos (by rcases hm with ⟨h3, h4⟩ | ⟨h3, h4⟩ <;> rw [h3, h4] <;> constructor <;> omega),
      show (32 * (m.1 % 16) + 16 * (m.1 / 16) + j.1) % 16 = j.1 by omega]

/-- The word of two packed halves, read at a bit. -/
theorem word_bit (B : Fin 512 → Bool) (k : Fin 16) (j : ℕ) (hj : j < 32) :
    (IntOp.ori (FloatOps.fptosi (F := Ideal) (φ := .f32) 32 (∑ r : Fin 512, packW Ideal (ix2 ⟨k.1, by omega⟩ r) * ind (B r)))
      (IntOp.shli .vector (FloatOps.fptosi (F := Ideal) (φ := .f32) 32 (∑ r : Fin 512, packW Ideal (ix2 ⟨16 + k.1, by omega⟩ r) * ind (B r))) 16#32)).getLsbD j
      = B ⟨32 * k.1 + j, by omega⟩ := by
  rw [pack_sum, pack_sum, fptosi_natE (lt_trans (bin_lt _ 16) (by norm_num)), fptosi_natE (lt_trans (bin_lt _ 16) (by norm_num)), ori_bit]
  rw [show ∀ x : BitVec 32, IntOp.shli .vector x 16#32 = x <<< 16 from fun _ => rfl, BitVec.getLsbD_shiftLeft, BitVec.getLsbD_ofNat, BitVec.getLsbD_ofNat,
    bin_testBit, bin_testBit]
  by_cases h : j < 16
  · simp only [h, hj, decide_true, Bool.true_and, Bool.not_true, Bool.false_and, Bool.and_false, Bool.or_false]
    congr 1
    have h4 : k.1 / 16 = 0 := by omega
    have h5 : k.1 % 16 = k.1 := by omega
    exact Fin.ext (by simp only [h4, h5]; omega)
  · have h2 : j - 16 < 16 := by omega
    have h3 : j - 16 < 32 := by omega
    simp only [h, hj, h2, h3, decide_true, decide_false, Bool.true_and, Bool.not_false, Bool.false_and, Bool.and_false, Bool.false_or]
    congr 1
    have h4 : (16 + k.1) / 16 = 1 := by omega
    have h5 : (16 + k.1) % 16 = k.1 := by omega
    exact Fin.ext (by simp only [h4, h5]; omega)

/-- The pixels of four packed 0/1 images. -/
theorem bits_pack (X : FVec Ideal S4x512x512 .f32) (B : Fin 4 → Bm) (hX : ∀ b r c, X (ix3 b r c) = ind (B b r c)) (b : Fin 4) :
    bits (w3 (k0_pay17 X (packW Ideal) (k0_pay18 (packW Ideal) X)) b) = B b := by
  funext r c
  show (k0_pay17 X (packW Ideal) (k0_pay18 (packW Ideal) X) (ix3 b (wd r) c)).getLsbD (r.1 % 32) = _
  have key := fun b : Fin 4 => word_bit (fun r => B b r c) (wd r) (r.1 % 32) (m32 r)
  have hr : (⟨32 * (wd r).1 + r.1 % 32, by have := (wd r).2; omega⟩ : Fin 512) = r := Fin.ext (by show 32 * (r.1 / 32) + r.1 % 32 = r.1; omega)
  simp only [hr] at key
  generalize packW Ideal = P at key ⊢
  pointwise [k0_pay17, k0_pay18]
  simp only [hX]
  fin_cases b
  · exact key 0
  · exact key 1
  · exact key 2
  · exact key 3

end Cert.Proof.KI

end
-- ==== Proof.KI.Unpack.lean ====
/-
  Unpacking words into 0/1 images by a one-hot product and a power of two.
-/
module

public import proofs.«01_k».proof.Proof.KI.Stages
public import proofs.«01_k».proof.Proof.KI.Packed
public import proofs.«01_k».proof.Proof.Math.Packed

@[expose] public section

set_option maxRecDepth 16384

noncomputable section

namespace Cert.Proof.KI

open Cert.KernelIdeal Cert.KernelIdeal.Gen
open Idealize.ShloMosaic Idealize.ShloMosaic.TcCoe

/-- Eight byte planes side by side, each row taken eight times. -/
def spread (P : Fin 8 → FVec Ideal S64x512 .f32) : FVec Ideal S512x4096 .f32 :=
  matmul dot_S512x64_S64x4096_S512x4096_1_0_0_1_n_n none (k0_pay31 (F := Ideal))
    (concatenate S64x4096 1 [⟨S64x512, P 0⟩, ⟨S64x512, P 1⟩, ⟨S64x512, P 2⟩, ⟨S64x512, P 3⟩, ⟨S64x512, P 4⟩, ⟨S64x512, P 5⟩, ⟨S64x512, P 6⟩, ⟨S64x512, P 7⟩]
      concatenates_S64x512_S64x512_S64x512_S64x512_S64x512_S64x512_S64x512_S64x512_S64x4096_d1)
    (constant S512x4096 .f32 0x00000000#32)

/-- The eight planes of two packed images. -/
def planes (b s : IVec S4x16x512 32) : Fin 8 → FVec Ideal S64x512 .f32 :=
  ![k0_pay43 (k0_pay35 b), k0_pay43 (k0_pay32 b), k0_pay43 (k0_pay33 b), k0_pay43 (k0_pay34 b),
    k0_pay43 (k0_pay35 s), k0_pay43 (k0_pay36 s), k0_pay43 (k0_pay37 s), k0_pay43 (k0_pay38 s)]

/-- The unpacking spreads the words' byte planes. -/
theorem unpackF_eq (b s : IVec S4x16x512 32) : unpackF (F := Ideal) b s = spread (planes b s) := rfl

/-- The one-hot matrix. -/
theorem hot_at (r : Fin 512) (q : Fin 64) : k0_pay31 (F := Ideal) (ix2 r q) = if q = ⟨r.1 / 8, by omega⟩ then (1 : EReal) else 0 := by
  pointwise [k0_pay31]
  have h : ∀ r : Fin 512, IntOp.shrsi ArithUnit.vector (BitVec.ofNat 32 r.1) 3#32 = BitVec.ofNat 32 (r.1 / 8) := by decide +kernel
  rw [h r]
  by_cases e : q = ⟨r.1 / 8, by omega⟩
  · rw [if_pos e, e]
    simp only [IntOp.cmpi, beq_self_eq_true]
    show (((BitVec.setWidth 32 (BitVec.ofBool true)).toInt : ℝ) : EReal) = 1
    rw [show (BitVec.setWidth 32 (BitVec.ofBool true)).toInt = 1 by decide]
    norm_num
  · rw [if_neg e]
    have : BitVec.ofNat 32 (r.1 / 8) ≠ BitVec.ofNat 32 q.1 := fun h => e (Fin.ext (by
      have := congrArg BitVec.toNat h
      rw [BitVec.toNat_ofNat, BitVec.toNat_ofNat] at this
      show q.1 = r.1 / 8
      omega))
    have e2 : (BitVec.ofNat 32 (r.1 / 8) == BitVec.ofNat 32 q.1) = false := beq_eq_false_iff_ne.mpr this
    simp only [IntOp.cmpi, e2]
    show (((BitVec.setWidth 32 (BitVec.ofBool false)).toInt : ℝ) : EReal) = 0
    rw [show (BitVec.setWidth 32 (BitVec.ofBool false)).toInt = 0 by decide]
    norm_num

set_option maxHeartbeats 1000000 in
/-- The spread planes at an element. -/
theorem spread_at (P : Fin 8 → FVec Ideal S64x512 .f32) (i : Fin 8) (r : Fin 512) (c : Fin 512) :
    spread P (ix2 r ⟨512 * i.1 + c.1, by omega⟩) = P i (ix2 ⟨r.1 / 8, by omega⟩ c) := by
  have key : ∀ Q : FVec Ideal S64x4096 .f32, matmul dot_S512x64_S64x4096_S512x4096_1_0_0_1_n_n none (k0_pay31 (F := Ideal)) Q
      (constant S512x4096 .f32 0x00000000#32) (ix2 r ⟨512 * i.1 + c.1, by omega⟩) = Q (ix2 ⟨r.1 / 8, by omega⟩ ⟨512 * i.1 + c.1, by omega⟩) := fun Q => by
    have e : ∀ O : FVec Ideal S512x64 .f32, (∀ q, O (ix2 r q) = if q = ⟨r.1 / 8, by omega⟩ then (1 : EReal) else 0) →
        matmul dot_S512x64_S64x4096_S512x4096_1_0_0_1_n_n none O Q
          (constant S512x4096 .f32 0x00000000#32) (ix2 r ⟨512 * i.1 + c.1, by omega⟩) = Q (ix2 ⟨r.1 / 8, by omega⟩ ⟨512 * i.1 + c.1, by omega⟩) := fun O hO => by
      pointwise
      simp only [hO, ite_mul, one_mul, zero_mul, Finset.sum_ite_eq', Finset.mem_univ, if_true]
    exact e _ (hot_at r)
  unfold spread
  rw [key]
  fin_cases i
  all_goals pointwise
  all_goals split_ifs <;> first | omega | (congr 2; exact Fin.ext (by simp only; omega))

/-! ## Bytes and bits -/

/-- A bit of a byte, by division, is the word's bit. -/
theorem byte_bit (w : BitVec 32) (k b : ℕ) (hb : b < 8) : natE (w.toNat / 2 ^ (8 * k) % 2 ^ 8 / 2 ^ b % 2) = ind (w.getLsbD (8 * k + b)) := by
  rw [ind_natE]
  congr 1
  have h := Nat.testBit_eq_decide_div_mod_eq (x := w.toNat / 2 ^ (8 * k) % 2 ^ 8) (i := b)
  rw [Nat.testBit_mod_two_pow, Nat.testBit_div_two_pow, decide_eq_true hb, Bool.true_and] at h
  have e : w.getLsbD (8 * k + b) = w.toNat.testBit (b + 8 * k) := by rw [Nat.add_comm]; rfl
  rw [e, show b + 8 * k = b + 8 * k from rfl]
  have h2 : ∀ n : ℕ, n % 2 = (decide (n % 2 = 1)).toNat := fun n => by rcases Nat.mod_two_eq_zero_or_one n with h | h <;> simp [h]
  rw [h2, ← h]

/-- A byte of a word, by shift and mask, is its quotient's remainder. -/
theorem byte_of (w : BitVec 32) (k : BitVec 32) (n : ℕ) (hk : k.toNat = n) (hn : n < 32) :
    (FloatOps.sitofp (F := Ideal) .f32 (IntOp.andi (IntOp.shrui .vector w k) 255#32)) = natE (w.toNat / 2 ^ n % 2 ^ 8) := by
  have e : (IntOp.andi (IntOp.shrui .vector w k) 255#32).toNat = w.toNat / 2 ^ n % 2 ^ 8 := by
    have h1 : IntOp.shrui .vector w k = w >>> n := by
      unfold IntOp.shrui
      simp [hk, hn]
    rw [h1]
    show (w >>> n &&& 255#32).toNat = _
    rw [BitVec.toNat_and, BitVec.toNat_ushiftRight, Nat.shiftRight_eq_div_pow]
    exact Nat.and_two_pow_sub_one_eq_mod _ 8
  show (((IntOp.andi (IntOp.shrui .vector w k) 255#32).toInt : ℝ) : EReal) = _
  have h2 : (IntOp.andi (IntOp.shrui .vector w k) 255#32).toInt = ((w.toNat / 2 ^ n % 2 ^ 8 : ℕ) : ℤ) := by
    rw [BitVec.toInt_eq_toNat_of_lt (by rw [e]; have := Nat.mod_lt (w.toNat / 2 ^ n) (show 2 ^ 8 > 0 by norm_num); omega), e]
  rw [h2]
  unfold natE
  rw [Int.cast_natCast]

/-- The byte plane of a packed image. -/
theorem plane_at (v : IVec S16x512 32) (q : Fin 64) (c : Fin 512) :
    k0_pay43 (F := Ideal) v (ix2 q c) = natE ((v (ix2 ⟨q.1 / 4, by omega⟩ c)).toNat / 2 ^ (8 * (q.1 % 4)) % 2 ^ 8) := by
  pointwise [k0_pay43]
  have h : q.1 % 4 = 0 ∨ q.1 % 4 = 1 ∨ q.1 % 4 = 2 ∨ q.1 % 4 = 3 := by omega
  rcases h with h | h | h | h <;> simp only [h] <;> exact byte_of _ _ _ rfl (by norm_num)

/-- The power of two a row is scaled by. -/
theorem scale_of (r : Fin 512) :
    Ideal.ofBits .f32 (IntOp.shli .vector (IntOp.subi 127#32 (IntOp.andi (BitVec.ofNat 32 r.1) 7#32)) 23#32) = (((1 : ℝ) / ((2 ^ (r.1 % 8) : ℕ) : ℝ) : ℝ) : EReal) := by
  have h : ∀ r : Fin 512, IntOp.shli .vector (IntOp.subi 127#32 (IntOp.andi (BitVec.ofNat 32 r.1) 7#32)) 23#32 = BitVec.ofNat 32 ((127 - r.1 % 8) * 2 ^ 23) := by decide +kernel
  rw [h r]
  have h2 : r.1 % 8 < 8 := by omega
  generalize r.1 % 8 = b at h2
  interval_cases b <;> simp [Ideal.ofBits, Ideal.ieee, -EReal.coe_mul] <;> norm_num

/-- The literal one half. -/
theorem half_of : Ideal.ofBits .f32 1056964608#32 = (((1 : ℝ) / ((2 ^ 1 : ℕ) : ℝ) : ℝ) : EReal) := by
  simp [Ideal.ofBits, Ideal.ieee, -EReal.coe_mul]; norm_num

/-- The literal two. -/
theorem two_of : Ideal.ofBits .f32 1073741824#32 = natE 2 := by
  unfold natE
  simp [Ideal.ofBits, Ideal.ieee, -EReal.coe_mul]; norm_num

/-- The floor of a quotient of naturals is the natural quotient. -/
theorem floor_div (n d : ℕ) (hd : 0 < d) : ⌊(n : ℝ) / (d : ℝ)⌋ = ((n / d : ℕ) : ℤ) := by
  have hd' : (0 : ℝ) < (d : ℝ) := Nat.cast_pos.mpr hd
  rw [Int.floor_eq_iff, Int.cast_natCast, le_div_iff₀ hd', div_lt_iff₀ hd']
  have h1 := Nat.div_mul_le_self n d
  have h2 : n < (n / d + 1) * d := by
    have := Nat.div_add_mod n d
    have := Nat.mod_lt n hd
    rw [Nat.add_mul, Nat.one_mul, Nat.mul_comm (n / d) d]
    omega
  exact ⟨by exact_mod_cast h1, by exact_mod_cast h2⟩

/-- The floor of a number over a power of two is the natural quotient. -/
theorem floor_natE (n b : ℕ) : Ideal.liftRound Int.floor (natE n * (((1 : ℝ) / ((2 ^ b : ℕ) : ℝ) : ℝ) : EReal)) = natE (n / 2 ^ b) := by
  unfold natE
  rw [← EReal.coe_mul, mul_one_div]
  show (((⌊((n : ℝ) / ((2 ^ b : ℕ) : ℝ))⌋ : ℤ) : ℝ) : EReal) = _
  rw [floor_div n (2 ^ b) (by positivity), Int.cast_natCast]

/-- A number less twice its half's floor is its last bit. -/
theorem odd_natE (n : ℕ) : natE n - natE 2 * natE (n / 2 ^ 1) = natE (n % 2) := by
  unfold natE
  rw [← EReal.coe_mul, ← EReal.coe_sub]
  congr 1
  have := Nat.div_add_mod n 2
  have h : (n : ℝ) = 2 * ((n / 2 : ℕ) : ℝ) + ((n % 2 : ℕ) : ℝ) := by exact_mod_cast this.symm
  rw [pow_one, h]
  push_cast
  ring

/-- A bit taken out of a byte. -/
theorem bit_out (U : FVec Ideal S512x4096 .f32) (r : Fin 512) (c : Fin 4096) (w : BitVec 32)
    (h : U (ix2 r c) = natE (w.toNat / 2 ^ (8 * (r.1 / 8 % 4)) % 2 ^ 8)) :
    k0_pay58 U k0_pay56 k0_pay57 (ix2 r c) = ind (w.getLsbD (r.1 % 32)) := by
  pointwise [k0_pay58, k0_pay56, k0_pay57]
  rw [h, scale_of, floor_natE, half_of, two_of]
  have e := floor_natE (w.toNat / 2 ^ (8 * (r.1 / 8 % 4)) % 2 ^ 8 / 2 ^ (r.1 % 8)) 1
  rw [e, odd_natE, byte_bit _ _ _ (by omega)]
  congr 2
  omega

/-- The spread planes' bits. -/
theorem spread_bit (P : Fin 8 → FVec Ideal S64x512 .f32) (i : Fin 8) (r c : Fin 512) (v : IVec S16x512 32) (hP : P i = k0_pay43 v) :
    k0_pay58 (spread P) k0_pay56 k0_pay57 (ix2 r ⟨512 * i.1 + c.1, by omega⟩) = ind ((v (ix2 (wd r) c)).getLsbD (r.1 % 32)) := by
  refine bit_out _ r _ (v (ix2 (wd r) c)) ?_
  rw [spread_at, hP, plane_at]
  have : (⟨r.1 / 8 / 4, by omega⟩ : Fin 16) = wd r := Fin.ext (by show r.1 / 8 / 4 = r.1 / 32; omega)
  simp only [this]

/-- Each image cut out of the stack, element by element. -/
theorem row_at (w : IVec S4x16x512 32) (k : Fin 16) (c : Fin 512) :
    k0_pay35 w (ix2 k c) = w (ix3 0 k c) ∧ k0_pay32 w (ix2 k c) = w (ix3 1 k c) ∧ k0_pay33 w (ix2 k c) = w (ix3 2 k c) ∧ k0_pay34 w (ix2 k c) = w (ix3 3 k c)
      ∧ k0_pay36 w (ix2 k c) = w (ix3 1 k c) ∧ k0_pay37 w (ix2 k c) = w (ix3 2 k c) ∧ k0_pay38 w (ix2 k c) = w (ix3 3 k c) := by
  refine ⟨?_, ?_, ?_, ?_, ?_, ?_, ?_⟩
  · pointwise [k0_pay35]
  · pointwise [k0_pay32]
  · pointwise [k0_pay33]
  · pointwise [k0_pay34]
  · pointwise [k0_pay36]
  · pointwise [k0_pay37]
  · pointwise [k0_pay38]

/-- The boundary as a float image. -/
theorem bF_at (t : IVec S4x1x512x512 32) (b : Fin 4) (r c : Fin 512) : bF Ideal t (ix3 b r c) = ind (bits (w3 (bPack Ideal t) b) r c) := by
  unfold bF
  rw [unpackF_eq]
  generalize bPack Ideal t = B
  generalize tSkel Ideal t = S
  have h := fun i v hv => spread_bit (planes B S) i r c v hv
  have h0 := h 0 _ rfl
  have h1 := h 1 _ rfl
  have h2 := h 2 _ rfl
  have h3 := h 3 _ rfl
  rw [(row_at B (wd r) c).1] at h0
  rw [(row_at B (wd r) c).2.1] at h1
  rw [(row_at B (wd r) c).2.2.1] at h2
  rw [(row_at B (wd r) c).2.2.2.1] at h3
  clear h
  unfold k0_pay59
  generalize k0_pay58 (spread (planes B S)) k0_pay56 k0_pay57 = X at *
  fin_cases b
  · refine Eq.trans ?_ h0
    pointwise
  · refine Eq.trans ?_ h1
    pointwise
  · refine Eq.trans ?_ h2
    pointwise
  · refine Eq.trans ?_ h3
    pointwise

/-- The targets' skeleton as a float image. -/
theorem sF_at (t : IVec S4x1x512x512 32) (b : Fin 4) (r c : Fin 512) : sF Ideal t (ix3 b r c) = ind (bits (w3 (tSkel Ideal t) b) r c) := by
  unfold sF
  rw [unpackF_eq]
  generalize bPack Ideal t = B
  generalize tSkel Ideal t = S
  have h := fun i v hv => spread_bit (planes B S) i r c v hv
  have h0 := h 4 _ rfl
  have h1 := h 5 _ rfl
  have h2 := h 6 _ rfl
  have h3 := h 7 _ rfl
  rw [(row_at S (wd r) c).1] at h0
  rw [(row_at S (wd r) c).2.2.2.2.1] at h1
  rw [(row_at S (wd r) c).2.2.2.2.2.1] at h2
  rw [(row_at S (wd r) c).2.2.2.2.2.2] at h3
  clear h
  unfold k0_pay60
  generalize k0_pay58 (spread (planes B S)) k0_pay56 k0_pay57 = X at *
  fin_cases b
  · refine Eq.trans ?_ h0
    pointwise
  · refine Eq.trans ?_ h1
    pointwise
  · refine Eq.trans ?_ h2
    pointwise
  · refine Eq.trans ?_ h3
    pointwise

end Cert.Proof.KI

end
-- ==== Proof.KI.Skel.lean ====
/-
  The kernel's skeleton of the probabilities, image by image.
-/
module

public import proofs.«01_k».proof.Proof.KI.Stages
public import proofs.«01_k».proof.Proof.Math.Img
import Idealize.ShloMosaic.Lib.Exec.Context

@[expose] public section

set_option maxRecDepth 16384

noncomputable section

namespace Cert.Proof.KI

open Cert.KernelIdeal Cert.KernelIdeal.Gen
open Idealize.ShloMosaic Idealize.ShloMosaic.TcCoe

/-- Image `b` of a block. -/
def im3 (X : S4x512x512.Idx → EReal) (b : Fin 4) : Img := fun r c => X (ix3 b r c)

/-- The value before, and after, as a choice between two reads. -/
theorem pick_dn {α : Type} (A : Fin 512 → α) (k : Fin 512) :
    (if h : k.1 < 1 then A k else A ⟨k.1 - 1, by omega⟩) = A (dn k) := by
  split
  · congr 1; exact Fin.ext (by show k.1 = k.1 - 1; omega)
  · rfl

/-- The position after, as the concatenation chooses it. -/
theorem pick_up {α : Type} (A : Fin 512 → α) (k : Fin 512) :
    (if h : k.1 < 511 then A ⟨1 + k.1, by omega⟩ else A ⟨511 + (k.1 - 511), by omega⟩) = A (up k) := by
  split
  · next h => congr 1; exact Fin.ext (by show 1 + k.1 = if k.1 < 511 then k.1 + 1 else 511; rw [if_pos h]; omega)
  · next h => congr 1; exact Fin.ext (by show 511 + (k.1 - 511) = if k.1 < 511 then k.1 + 1 else 511; rw [if_neg h]; omega)

/-- The block's soft erosion is each image's. -/
theorem im_pay27 (X : FVec Ideal S4x512x512 .bf16) (b : Fin 4) : im3 (k0_pay27 X) b = soft (im3 X b) := by
  funext r c
  show k0_pay27 X (ix3 b r c) = _
  pointwise [k0_pay27]
  exact congrArg₂ min (congrArg₂ min (congrArg₂ min (pick_dn (fun r => X (ix3 b r c)) r) rfl) (pick_up (fun r => X (ix3 b r c)) r))
    (congrArg₂ min (congrArg₂ min (pick_dn (fun c => X (ix3 b r c)) c) rfl) (pick_up (fun c => X (ix3 b r c)) c))

/-- The vertical and the horizontal three-pixel maximum. -/
def maxV3 (U : FVec Ideal S4x512x512 .bf16) : FVec Ideal S4x512x512 .bf16 :=
  maximumf (maximumf (concatenate S4x512x512 1 [⟨S4x1x512, extractStridedSlice S4x1x512 ![0, 0, 0] U slices_S4x512x512_o0_0_0_S4x1x512⟩,
      ⟨S4x511x512, extractStridedSlice S4x511x512 ![0, 0, 0] U slices_S4x512x512_o0_0_0_S4x511x512⟩] concatenates_S4x1x512_S4x511x512_S4x512x512_d1) U)
    (concatenate S4x512x512 1 [⟨S4x511x512, extractStridedSlice S4x511x512 ![0, 1, 0] U slices_S4x512x512_o0_1_0_S4x511x512⟩,
      ⟨S4x1x512, extractStridedSlice S4x1x512 ![0, 511, 0] U slices_S4x512x512_o0_511_0_S4x1x512⟩] concatenates_S4x511x512_S4x1x512_S4x512x512_d1)
def maxH3 (U : FVec Ideal S4x512x512 .bf16) : FVec Ideal S4x512x512 .bf16 :=
  maximumf (maximumf (concatenate S4x512x512 2 [⟨S4x512x1, extractStridedSlice S4x512x1 ![0, 0, 0] U slices_S4x512x512_o0_0_0_S4x512x1⟩,
      ⟨S4x512x511, extractStridedSlice S4x512x511 ![0, 0, 0] U slices_S4x512x512_o0_0_0_S4x512x511⟩] concatenates_S4x512x1_S4x512x511_S4x512x512_d2) U)
    (concatenate S4x512x512 2 [⟨S4x512x511, extractStridedSlice S4x512x511 ![0, 0, 1] U slices_S4x512x512_o0_0_1_S4x512x511⟩,
      ⟨S4x512x1, extractStridedSlice S4x512x1 ![0, 0, 511] U slices_S4x512x512_o0_0_511_S4x512x1⟩] concatenates_S4x512x511_S4x512x1_S4x512x512_d2)

/-- The block's vertical maximum is each image's. -/
theorem im_maxV3 (X : FVec Ideal S4x512x512 .bf16) (b : Fin 4) : im3 (maxV3 X) b = triV max (im3 X b) := by
  funext r c
  show maxV3 X (ix3 b r c) = _
  pointwise [maxV3]
  exact congrArg₂ max (congrArg₂ max (pick_dn (fun r => X (ix3 b r c)) r) rfl) (pick_up (fun r => X (ix3 b r c)) r)

/-- The block's horizontal maximum is each image's. -/
theorem im_maxH3 (X : FVec Ideal S4x512x512 .bf16) (b : Fin 4) : im3 (maxH3 X) b = triH max (im3 X b) := by
  funext r c
  show maxH3 X (ix3 b r c) = _
  pointwise [maxH3]
  exact congrArg₂ max (congrArg₂ max (pick_dn (fun c => X (ix3 b r c)) c) rfl) (pick_up (fun c => X (ix3 b r c)) c)

/-- The zero word is zero. -/
theorem zero_bf16 : (Scalar.ofBits (F := Ideal) .bf16 0x0000#16) = (0 : EReal) := by
  show Ideal.ofBits .bf16 0#16 = 0
  simp [Ideal.ofBits, Ideal.ieee]

/-- The block's skeleton update is each image's. -/
theorem im_pay28 (E K : FVec Ideal S4x512x512 .bf16) (b : Fin 4) : im3 (k0_pay28 E K) b = upd (im3 K b) (delta (im3 E b)) := by
  funext r c
  show im3 K b r c + max (max (im3 E b r c - im3 (maxH3 (maxV3 (k0_pay27 E))) b r c) (Scalar.ofBits (F := Ideal) .bf16 0x0000#16)
    - im3 K b r c * max (im3 E b r c - im3 (maxH3 (maxV3 (k0_pay27 E))) b r c) (Scalar.ofBits (F := Ideal) .bf16 0x0000#16)) (Scalar.ofBits (F := Ideal) .bf16 0x0000#16) = _
  rw [zero_bf16, im_maxH3, im_maxV3, im_pay27]
  rfl

/-- A fold that ignores the list's elements iterates. -/
theorem foldl_const {α β : Type} (f : α → α) : ∀ (l : List β) (a : α), l.foldl (fun a _ => f a) a = f^[l.length] a
  | [], _ => rfl
  | _ :: l, a => foldl_const f l (f a)

/-- A loop whose body ignores the counter iterates. -/
theorem fold_iter {α : Type} (n : ℕ) (f : α → α) (a : α) : Scf.fold (n := n) (fun _ a => f a) a = f^[n] a := by
  rw [Scf.fold_eq, foldl_const, List.length_finRange]

/-- The loop's state after some trips: the eroded image, and the skeleton. -/
theorem sk_iter (X : FVec Ideal S4x512x512 .bf16) (b : Fin 4) : ∀ n,
    im3 (((fun a : FVec Ideal S4x512x512 .bf16 × FVec Ideal S4x512x512 .bf16 => (k0_pay27 a.1, k0_pay28 a.1 a.2))^[n] (X, k0_pay26)).1) b = soft^[n] (im3 X b)
    ∧ im3 (((fun a : FVec Ideal S4x512x512 .bf16 × FVec Ideal S4x512x512 .bf16 => (k0_pay27 a.1, k0_pay28 a.1 a.2))^[n] (X, k0_pay26)).2) b = skel (im3 X b) n
  | 0 => ⟨rfl, by funext r c; exact zero_bf16⟩
  | n + 1 => by
    obtain ⟨h1, h2⟩ := sk_iter X b n
    rw [Function.iterate_succ_apply']
    generalize (fun a : FVec Ideal S4x512x512 .bf16 × FVec Ideal S4x512x512 .bf16 => (k0_pay27 a.1, k0_pay28 a.1 a.2))^[n] (X, k0_pay26) = s at h1 h2 ⊢
    constructor
    · show im3 (k0_pay27 s.1) b = _
      rw [im_pay27, h1, Function.iterate_succ_apply']
    · show im3 (k0_pay28 s.1 s.2) b = _
      rw [im_pay28, h1, h2]
      rfl

/-- The kernel's skeleton of the probabilities. -/
theorem pSkel_val (x : FVec Ideal S4x1x512x512 .f32) (b : Fin 4) : im3 (pSkel x) b = skel (im3 (pF x) b) 11 := by
  have h := (sk_iter (k0_pay25 (pF x)) b 11).2
  have e : skelFold x = (fun a : FVec Ideal S4x512x512 .bf16 × FVec Ideal S4x512x512 .bf16 => (k0_pay27 a.1, k0_pay28 a.1 a.2))^[11] (k0_pay25 (pF x), k0_pay26) := by
    have ht : k0_t1_loop.trips = 11 := by decide +kernel
    unfold skelFold
    rw [fold_iter, ht]
  show im3 (skelFold x).2 b = _
  rw [e]
  exact h

end Cert.Proof.KI

end
-- ==== Proof.Math.Value.lean ====
/-
  What the loss takes of one image: the pixel functions, the twelve sums, and the sums the weighted losses take from them.
-/
module

public import proofs.«01_k».proof.Proof.Math.Img
public import proofs.«01_k».proof.Proof.Math.Packed

@[expose] public section

noncomputable section

namespace Cert.Proof

open Idealize.ShloMosaic

/-- The logistic function, and the cross entropy of a logit and a target. -/
def sg (y : EReal) : EReal := Ideal.div 1 (1 + Ideal.exp (-y))
def bc (y t : EReal) : EReal := max y 0 - y * t + Ideal.log1p (Ideal.exp (-(max y (-y))))

/-- One half. -/
def hf : EReal := Ideal.ofBits .f32 0x3F000000#32

/-- The sum over an image. -/
def tot1 (A : Img) : EReal := ∑ r, ∑ c, A r c

section
variable (X : Img) (T : Bm)

/-- The probabilities, the thresholded ones, the cross entropies, the boundary. -/
def prob : Img := fun r c => sg (X r c)
def thr : Bm := fun r c => decide (hf < prob X r c)
def ent : Img := fun r c => bc (X r c) (ind (T r c))
def bnd : Bm := fun r c => dilB T r c && !eroB T r c

/-- The twelve sums of an image. -/
def sBce : EReal := tot1 (ent X T)
def sPt : EReal := tot1 fun r c => prob X r c * ind (T r c)
def sP : EReal := tot1 (prob X)
def sT : EReal := tot1 (indI T)
def sW : EReal := tot1 (ent X T) + natE 3 * tot1 fun r c => ind (bnd T r c) * ent X T r c
def sSpt : EReal := tot1 fun r c => skel (prob X) 11 r c * ind (T r c)
def sSp : EReal := tot1 (skel (prob X) 11)
def sStp : EReal := tot1 fun r c => ind (skelB T 11 r c) * prob X r c
def sSt : EReal := tot1 (indI (skelB T 11))
def sPb : EReal := tot1 (indI (thr X))
def sDf : EReal := tot1 fun r c => natE (cnt (fun r c => !thr X r c) 20 r c) * ind (T r c)
def sDb : EReal := tot1 fun r c => natE (cnt (fun r c => !T r c) 20 r c) * ind (thr X r c)

end

/-! ## Sums of extended reals -/

/-- A finite factor that is not negative goes into a sum. -/
theorem mul_sum_of {ι : Type} (a : EReal) (h0 : 0 ≤ a) (h1 : a ≠ ⊤) (s : Finset ι) (f : ι → EReal) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- A finite sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Three is not negative. -/
theorem three_nonneg : (0 : EReal) ≤ natE 3 := by unfold natE; exact EReal.coe_nonneg.mpr (by positivity)
/-- Three is finite. -/
theorem three_ne_top : natE 3 ≠ ⊤ := EReal.coe_ne_top _

/-- A weighted cross entropy. -/
theorem weigh (a b : Bool) (hab : b = true → a = true) (e : EReal) : (1 + natE 3 * (ind a - ind b)) * e = e + natE 3 * (ind (a && !b) * e) := by
  have h : (1 : EReal) - 1 = 0 := EReal.sub_self (EReal.coe_ne_top 1) (EReal.coe_ne_bot 1)
  have hi : ind a - ind b = ind (a && !b) := by
    cases a <;> cases b <;> simp_all [ind]
  rw [hi, EReal.right_distrib_of_nonneg zero_le_one (mul_nonneg three_nonneg (ind_nonneg _)), one_mul, mul_assoc]

/-- A pixel that erosion holds, dilation holds. -/
theorem erode_dilate (T : Bm) {r c : Fin 512} (h : eroB T r c = true) : dilB T r c = true := by
  have h1 := eroB_le T h
  simp [dilB, triH, triV, tri, h1]

/-- The weighted cross entropies' sum. -/
theorem sW_eq (X : Img) (T : Bm) : tot1 (fun r c => (1 + natE 3 * (dil (indI T) r c - ero (indI T) r c)) * ent X T r c) = sW X T := by
  unfold sW tot1
  rw [mul_sum_of _ three_nonneg three_ne_top, ← Finset.sum_add_distrib]
  refine Finset.sum_congr rfl fun r _ => ?_
  rw [mul_sum_of _ three_nonneg three_ne_top, ← Finset.sum_add_distrib]
  refine Finset.sum_congr rfl fun c _ => ?_
  rw [dil_ind, ero_ind]
  exact weigh _ _ (erode_dilate T) _

end Cert.Proof

end
-- ==== Proof.KI.Sums.lean ====
/-
  The kernel's per-image sums, as functions of the image and its targets.
-/
module

public import proofs.«01_k».proof.Proof.KI.Pack
public import proofs.«01_k».proof.Proof.KI.Unpack
public import proofs.«01_k».proof.Proof.KI.Skel
public import proofs.«01_k».proof.Proof.Math.Value

@[expose] public section

set_option maxRecDepth 16384

noncomputable section

namespace Cert.Proof.KI

open Cert.KernelIdeal Cert.KernelIdeal.Gen
open Idealize.ShloMosaic Idealize.ShloMosaic.TcCoe

section
variable (x : FVec Ideal S4x1x512x512 .f32) (t : IVec S4x1x512x512 32)

/-- Image `b` of a block of logits. -/
def imX (b : Fin 4) : Img := fun r c => x (ix4 b 0 r c)

/-- The block's targets are the truth values `T`. -/
def Tgt (T : Fin 4 → Bm) : Prop := ∀ b r c, t (ix4 b 0 r c) = BitVec.ofNat 32 (T b r c).toNat

/-- The targets as floats are their truth values read as 0 or 1. -/
theorem tF_at {T : Fin 4 → Bm} (h : Tgt t T) (b : Fin 4) (r c : Fin 512) : tF (F := Ideal) t (ix3 b r c) = ind (T b r c) := by
  pointwise [tF, k0_pay8]
  rw [h b r c]
  show (((BitVec.ofNat 32 (T b r c).toNat).toInt : ℝ) : EReal) = _
  cases T b r c <;> simp [ind]

/-- The probabilities, pixel by pixel. -/
theorem pF_at (b : Fin 4) (r c : Fin 512) : pF (F := Ideal) x (ix3 b r c) = prob (imX x b) r c := by
  pointwise [pF, k0_pay9, k0_pay7]
  rfl

/-- The cross entropies, pixel by pixel. -/
theorem bceF_at {T : Fin 4 → Bm} (h : Tgt t T) (b : Fin 4) (r c : Fin 512) : bceF (F := Ideal) x t (ix3 b r c) = ent (imX x b) (T b) r c := by
  have ht := tF_at t h b r c
  unfold tF at ht
  unfold bceF k0_pay10
  generalize k0_pay8 (F := Ideal) t = U at ht
  pointwise [k0_pay7]
  rw [ht]
  unfold ent bc imX
  rw [show ∀ y : EReal, (0 : EReal) - y = -y from fun y => zero_sub y]
  rfl

/-- The thresholded probabilities, pixel by pixel. -/
theorem thr_at (b : Fin 4) (r c : Fin 512) : k0_pay15 (F := Ideal) (pF x) (ix3 b r c) = ind (thr (imX x b) r c) := by
  have hp := pF_at x b r c
  generalize pF (F := Ideal) x = P at hp
  pointwise [k0_pay15]
  rw [hp]
  unfold thr hf
  show (((BitVec.setWidth 32 (BitVec.ofBool (decide (Ideal.ofBits .f32 0x3F000000#32 < prob (imX x b) r c)))).toInt : ℝ) : EReal) = _
  cases decide (Ideal.ofBits .f32 0x3F000000#32 < prob (imX x b) r c)
  · rw [show (BitVec.setWidth 32 (BitVec.ofBool false)).toInt = 0 by decide]
    simp [ind]
  · rw [show (BitVec.setWidth 32 (BitVec.ofBool true)).toInt = 1 by decide]
    simp [ind]

/-! ## The packed images -/

/-- The packed targets' bits are the targets. -/
theorem bits_tPack {T : Fin 4 → Bm} (h : Tgt t T) (b : Fin 4) : bits (w3 (tPack Ideal t) b) = T b :=
  bits_pack (tF t) T (fun b r c => tF_at t h b r c) b

/-- The packed thresholded probabilities, by the packing's own name. -/
theorem pPack_eq : pPack (F := Ideal) x = k0_pay17 (k0_pay15 (pF x)) (packW Ideal) (k0_pay18 (packW Ideal) (k0_pay15 (pF x))) := by
  unfold pPack k0_pay20 k0_pay17 k0_pay19
  rfl

/-- The packed thresholded probabilities' bits are the thresholded probabilities. -/
theorem bits_pPack (b : Fin 4) : bits (w3 (pPack (F := Ideal) x) b) = thr (imX x b) := by
  rw [pPack_eq]
  exact bits_pack _ (fun b => thr (imX x b)) (fun b r c => thr_at x b r c) b

/-- The unpacked boundary is the target's boundary. -/
theorem bF_val {T : Fin 4 → Bm} (h : Tgt t T) (b : Fin 4) (r c : Fin 512) : bF Ideal t (ix3 b r c) = ind (bnd (T b) r c) := by
  rw [bF_at]
  unfold bPack
  rw [bits_bound, bits_tPack t h]
  rfl

/-- The unpacked skeleton is the target's skeleton. -/
theorem sF_val {T : Fin 4 → Bm} (h : Tgt t T) (b : Fin 4) (r c : Fin 512) : sF Ideal t (ix3 b r c) = ind (skelB (T b) 11 r c) := by
  rw [sF_at, tSkel_val, bits_tPack t h]

/-! ## Counts of pixels -/

/-- The cast of a word to a float is its number. -/
theorem uitofp_natE (w : BitVec 32) : FloatOps.uitofp (F := Ideal) .f32 w = natE w.toNat := rfl

/-- The words' bit counts, summed, are the number of true pixels. -/
theorem count (W : IVec S4x16x512 32) (b : Fin 4) :
    ∑ k : Fin 16, ∑ c : Fin 512, FloatOps.uitofp (F := Ideal) .f32 (IntOp.ctpop (W (ix3 b k c))) = tot1 (indI (bits (w3 W b))) := by
  unfold tot1 indI
  simp only [uitofp_natE, ind_natE, ← natE_sum]
  exact congrArg natE (sum_ctpop (w3 W b))

/-! ## The distance sums -/

/-- The stack of the two complements, element by element. -/
theorem not_at (W V : IVec S4x16x512 32) (b : Fin 4) (k : Fin 16) (c : Fin 512) :
    k0_pay61 W V (ix4 0 b k c) = IntOp.xori (V (ix3 b k c)) 4294967295#32 ∧ k0_pay61 W V (ix4 1 b k c) = IntOp.xori (W (ix3 b k c)) 4294967295#32 := by
  constructor <;> pointwise [k0_pay61]
/-- The stack of the two, element by element. -/
theorem same_at (W V : IVec S4x16x512 32) (b : Fin 4) (k : Fin 16) (c : Fin 512) :
    k0_pay62 W V (ix4 0 b k c) = W (ix3 b k c) ∧ k0_pay62 W V (ix4 1 b k c) = V (ix3 b k c) := by
  constructor <;> pointwise [k0_pay62]

/-- The bits of the stacked complements. -/
theorem bits_not (W V : IVec S4x16x512 32) (b : Fin 4) :
    bits (w4 (k0_pay61 W V) 0 b) = (fun r c => !bits (w3 V b) r c) ∧ bits (w4 (k0_pay61 W V) 1 b) = (fun r c => !bits (w3 W b) r c) := by
  constructor <;> funext r c
  · show (k0_pay61 W V (ix4 0 b (wd r) c)).getLsbD (r.1 % 32) = _
    rw [(not_at W V b (wd r) c).1, not_bit _ (m32 r)]
    rfl
  · show (k0_pay61 W V (ix4 1 b (wd r) c)).getLsbD (r.1 % 32) = _
    rw [(not_at W V b (wd r) c).2, not_bit _ (m32 r)]
    rfl
/-- The bits of the stacked words. -/
theorem bits_same (W V : IVec S4x16x512 32) (b : Fin 4) :
    bits (w4 (k0_pay62 W V) 0 b) = bits (w3 W b) ∧ bits (w4 (k0_pay62 W V) 1 b) = bits (w3 V b) := by
  constructor <;> funext r c
  · exact congrArg (fun w : BitVec 32 => w.getLsbD (r.1 % 32)) (same_at W V b (wd r) c).1
  · exact congrArg (fun w : BitVec 32 => w.getLsbD (r.1 % 32)) (same_at W V b (wd r) c).2

/-- The distance sums' shape at an element. -/
theorem pay64_at (W V : IVec S4x16x512 32) (n : BitVec 32) (E A : IVec S2x4x16x512 32) (a : Fin 2) (b : Fin 4) :
    k0_pay64 (F := Ideal) W V n E A (ix2 a b) = ∑ k : Fin 16, ∑ c : Fin 512, natE (A (ix4 a b k c)).toNat
      + (((Scalar.subi 20#32 n).toInt : ℝ) : EReal) * ∑ k : Fin 16, ∑ c : Fin 512, natE (IntOp.ctpop (IntOp.andi (E (ix4 a b k c)) (k0_pay62 W V (ix4 a b k c)))).toNat := by
  unfold k0_pay64
  generalize k0_pay62 W V = U
  pointwise
  rfl

/-- An iteration that came to rest stays there. -/
theorem iter_const {α : Type} (f : α → α) (a : α) (j : ℕ) (h : f (f^[j] a) = f^[j] a) : ∀ l, j ≤ l → f^[l] a = f^[j] a
  | 0, hl => by obtain rfl : j = 0 := by omega
                rfl
  | l + 1, hl => by
    rcases Nat.lt_or_ge l j with h' | h'
    · obtain rfl : j = l + 1 := by omega
      rfl
    · rw [Function.iterate_succ_apply', iter_const f a j h l h', h]

/-- The first `j` counts and the rest at the fixed point are the twenty counts. -/
theorem split_sum (g : ℕ → ℕ) (j : ℕ) (hj : j ≤ 20) (h : ∀ l, j ≤ l → l < 20 → g l = g j) :
    ∑ l ∈ Finset.range j, g l + (20 - j) * g j = ∑ l ∈ Finset.range 20, g l := by
  obtain ⟨d, hd⟩ : ∃ d, 20 = j + d := ⟨20 - j, by omega⟩
  have e : 20 - j = d := by omega
  rw [e, hd, Finset.sum_range_add]
  congr 1
  rw [Finset.sum_congr rfl fun l hl => h (j + l) (by omega) (by have := Finset.mem_range.mp hl; omega), Finset.sum_const, Finset.card_range, smul_eq_mul]

/-- The distance loop's sums, with the term for the steps not taken, are the sums of all steps. -/
theorem dSum_val (a : Fin 2) (b : Fin 4) :
    dSum (F := Ideal) x t (ix2 a b) = tot1 fun r c => natE (cnt (bits (w4 (k0_pay61 (tPack Ideal t) (pPack x)) a b)) 20 r c)
      * ind (bits (w4 (k0_pay62 (tPack Ideal t) (pPack x)) a b) r c) := by
  unfold dSum
  rw [pay64_at]
  obtain ⟨j, hj, h1, h2, h3, h4⟩ := run2_val (k0_pay62 (tPack Ideal t) (pPack x)) (k0_pay61 (tPack Ideal t) (pPack x)) 20 0
    (0#32, k0_pay61 (tPack Ideal t) (pPack x), k0_pay63, 1#1) rfl rfl rfl (fun i => rfl) (.inl rfl)
  change (dist (F := Ideal) x t).1 = _ at h1
  change (dist (F := Ideal) x t).2.1 = _ at h2
  change ∀ i, ((dist (F := Ideal) x t).2.2.1 i).toNat = _ at h3
  rw [h1, h2, natE_int j hj]
  generalize k0_pay61 (tPack Ideal t) (pPack x) = E at *
  generalize k0_pay62 (tPack Ideal t) (pPack x) = w at *
  unfold tot1
  simp only [h3, ind_natE, ← natE_sum, ← natE_mul, ← natE_add]
  refine congrArg natE ?_
  rw [← counts w E a b, Finset.mul_sum, ← Finset.sum_add_distrib]
  refine Finset.sum_congr rfl fun k _ => ?_
  rw [Finset.mul_sum, ← Finset.sum_add_distrib]
  refine Finset.sum_congr rfl fun c _ => ?_
  refine split_sum (fun l => (IntOp.ctpop (IntOp.andi (k0_pay5^[l] E (ix4 a b k c)) (w (ix4 a b k c)))).toNat) j hj fun l hl hl2 => ?_
  rcases h4 with h4 | h4
  · omega
  · show (IntOp.ctpop (IntOp.andi (k0_pay5^[l] E (ix4 a b k c)) _)).toNat = (IntOp.ctpop (IntOp.andi (k0_pay5^[j] E (ix4 a b k c)) _)).toNat
    rw [iter_const k0_pay5 E j h4 l hl]

/-! ## The twelve sums -/

section
variable {T : Fin 4 → Bm} (h : Tgt t T) (b : Fin 4)
include h

/-- The sum of the cross entropies. -/
theorem v513_val : (sums (F := Ideal) x t).v513 (ix1 b) = sBce (imX x b) (T b) := by
  show k0_pay68 (bceF x t) (ix1 b) = _
  have e := fun r c => bceF_at x t h b r c
  generalize bceF (F := Ideal) x t = U at e
  pointwise [k0_pay68]
  simp only [e]
  rfl

/-- The sum of probability times target. -/
theorem v515_val : (sums (F := Ideal) x t).v515 (ix1 b) = sPt (imX x b) (T b) := by
  show k0_pay69 (tF t) (pF x) (ix1 b) = _
  have e := fun r c => tF_at t h b r c
  have e2 := fun r c => pF_at x b r c
  generalize tF (F := Ideal) t = U at e
  generalize pF (F := Ideal) x = V at e2
  pointwise [k0_pay69]
  simp only [e, e2]
  rfl

omit h in
/-- The sum of the probabilities. -/
theorem v516_val : (sums (F := Ideal) x t).v516 (ix1 b) = sP (imX x b) := by
  show k0_pay70 (pF x) (ix1 b) = _
  have e2 := fun r c => pF_at x b r c
  generalize pF (F := Ideal) x = V at e2
  pointwise [k0_pay70]
  simp only [e2]
  rfl

/-- The sum of the targets. -/
theorem v519_val : (sums (F := Ideal) x t).v519 (ix1 b) = sT (T b) := by
  show k0_pay71 (F := Ideal) (tPack Ideal t) (ix1 b) = _
  have e := count (tPack Ideal t) b
  rw [bits_tPack t h] at e
  generalize tPack Ideal t = W at e
  pointwise [k0_pay71]
  exact e

/-- The sum of the cross entropies weighted at the boundary. -/
theorem v524_val : (sums (F := Ideal) x t).v524 (ix1 b) = sW (imX x b) (T b) := by
  show k0_pay72 (bceF x t) (bF Ideal t) (ix1 b) = _
  have e := fun r c => bceF_at x t h b r c
  have e2 := fun r c => bF_val t h b r c
  generalize bceF (F := Ideal) x t = U at e
  generalize bF Ideal t = V at e2
  pointwise [k0_pay72, k0_pay68]
  simp only [e, e2]
  have h3 : Ideal.ofBits .f32 1077936128#32 = natE 3 := by
    unfold natE
    simp [Ideal.ofBits, Ideal.ieee, -EReal.coe_mul]; norm_num
  rw [h3]
  rfl

/-- The sum of the prediction's skeleton times target. -/
theorem v526_val : (sums (F := Ideal) x t).v526 (ix1 b) = sSpt (imX x b) (T b) := by
  show k0_pay73 (tF t) (pSkel x) (ix1 b) = _
  have e := fun r c => tF_at t h b r c
  have e2 : ∀ r c, pSkel x (ix3 b r c) = skel (prob (imX x b)) 11 r c := fun r c => by
    have := congrFun (congrFun (pSkel_val x b) r) c
    rw [show im3 (pF x) b = prob (imX x b) from funext fun r => funext fun c => pF_at x b r c] at this
    exact this
  generalize tF (F := Ideal) t = U at e
  generalize pSkel (F := Ideal) x = V at e2
  pointwise [k0_pay73]
  simp only [e, e2]
  rfl

omit h in
/-- The sum of the prediction's skeleton. -/
theorem v527_val : (sums (F := Ideal) x t).v527 (ix1 b) = sSp (imX x b) := by
  show k0_pay74 (pSkel x) (ix1 b) = _
  have e2 : ∀ r c, pSkel x (ix3 b r c) = skel (prob (imX x b)) 11 r c := fun r c => by
    have := congrFun (congrFun (pSkel_val x b) r) c
    rw [show im3 (pF x) b = prob (imX x b) from funext fun r => funext fun c => pF_at x b r c] at this
    exact this
  generalize pSkel (F := Ideal) x = V at e2
  pointwise [k0_pay74]
  simp only [e2]
  rfl

/-- The sum of the target's skeleton times probability. -/
theorem v529_val : (sums (F := Ideal) x t).v529 (ix1 b) = sStp (imX x b) (T b) := by
  show k0_pay75 (pF x) (sF Ideal t) (ix1 b) = _
  have e := fun r c => sF_val t h b r c
  have e2 := fun r c => pF_at x b r c
  generalize sF Ideal t = U at e
  generalize pF (F := Ideal) x = V at e2
  pointwise [k0_pay75]
  simp only [e, e2]
  rfl

/-- The sum of the target's skeleton. -/
theorem v532_val : (sums (F := Ideal) x t).v532 (ix1 b) = sSt (T b) := by
  show k0_pay76 (F := Ideal) (tSkel Ideal t) (ix1 b) = _
  have e := count (tSkel Ideal t) b
  rw [tSkel_val, bits_tPack t h] at e
  generalize tSkel Ideal t = W at e
  pointwise [k0_pay76]
  exact e

omit h in
/-- The number of the probabilities above the threshold. -/
theorem v535_val : (sums (F := Ideal) x t).v535 (ix1 b) = sPb (imX x b) := by
  show k0_pay77 (F := Ideal) (pPack x) (ix1 b) = _
  have e := count (pPack (F := Ideal) x) b
  rw [bits_pPack] at e
  generalize pPack (F := Ideal) x = W at e
  pointwise [k0_pay77]
  exact e

/-- The prediction's distances summed over the target. -/
theorem v510_val : (sums (F := Ideal) x t).v510 (ix1 b) = sDf (imX x b) (T b) := by
  have e := dSum_val x t 0 b
  rw [(bits_not _ _ b).1, (bits_same _ _ b).1, bits_pPack, bits_tPack t h] at e
  show k0_pay66 (extractStridedSlice S1x4 ![0, 0] (dSum (F := Ideal) x t) slices_S2x4_o0_0_S1x4) (ix1 b) = _
  generalize dSum (F := Ideal) x t = D at e
  pointwise [k0_pay66]
  exact e

/-- The target's distances summed over the thresholded prediction. -/
theorem v512_val : (sums (F := Ideal) x t).v512 (ix1 b) = sDb (imX x b) (T b) := by
  have e := dSum_val x t 1 b
  rw [(bits_not _ _ b).2, (bits_same _ _ b).2, bits_pPack, bits_tPack t h] at e
  show k0_pay67 (dSum (F := Ideal) x t) (ix1 b) = _
  generalize dSum (F := Ideal) x t = D at e
  pointwise [k0_pay67]
  exact e

end
end

end Cert.Proof.KI

end
-- ==== Proof.RI.Ops.lean ====
/-
  The host reference as data: its operations as lists (a call of a small function being a stretch of its own, that
  function's operations at the call's buffers), the bodies and conditions of its four counted loops as lists, and the
  equations saying that the program and the loops' bodies are the chains of those stretches.
-/
module

public import proofs.«01_k».proof.Proof.Gen.ReferenceIdeal
public import Idealize.ShloMosaic.Lib.StableHlo.RunLoop
public import Idealize.ShloMosaic.Lib.StableHlo.RunRead
public import Idealize.ShloMosaic.Lib.Pipeline.Regions

@[expose] public section

set_option maxHeartbeats 4000000
set_option maxRecDepth 20000

noncomputable section

namespace Cert.Proof.RI

open Cert.ReferenceIdeal Cert.ReferenceIdeal.Facts₀

open Idealize.ShloMosaic Idealize.ShloMosaic.TcCoe
open Idealize.SL.Sem

variable {F : FTy → Type} [FloatOps F]

/-- 9 consecutive host operations of the host program, in order (window 0). -/
abbrev m0_0 : List (HloOp τ sig (Elt F)) :=
  ( StableHlo.unary main_arg1 main_v0 (sitofp .f32 : (⟨S32x1x512x512, .i32⟩ : BufTy).Contents (Elt F) → (⟨S32x1x512x512, .f32⟩ : BufTy).Contents (Elt F))
  :: StableHlo.unary main_arg0 main_v1 (Host.negf : (⟨S32x1x512x512, .f32⟩ : BufTy).Contents (Elt F) → (⟨S32x1x512x512, .f32⟩ : BufTy).Contents (Elt F))
  :: StableHlo.unary main_v1 main_v2 (Host.exp : (⟨S32x1x512x512, .f32⟩ : BufTy).Contents (Elt F) → (⟨S32x1x512x512, .f32⟩ : BufTy).Contents (Elt F))
  :: StableHlo.nullary main_cst (constant S_ .f32 0x3F800000#32)
  :: StableHlo.unary main_cst main_v3 (broadcastInDim S32x1x512x512 ![] bcast_S_S32x1x512x512 : (⟨S_, .f32⟩ : BufTy).Contents (Elt F) → (⟨S32x1x512x512, .f32⟩ : BufTy).Contents (Elt F))
  :: StableHlo.binary main_v3 main_v2 main_v4 (addf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_0 (constant S_ .f32 0x3F800000#32)
  :: StableHlo.unary main_cst_0 main_v5 (broadcastInDim S32x1x512x512 ![] bcast_S_S32x1x512x512 : (⟨S_, .f32⟩ : BufTy).Contents (Elt F) → (⟨S32x1x512x512, .f32⟩ : BufTy).Contents (Elt F))
  :: StableHlo.binary main_v5 main_v4 main_v6 (Host.divf : (⟨S32x1x512x512, .f32⟩ : BufTy).Contents (Elt F) → (⟨S32x1x512x512, .f32⟩ : BufTy).Contents (Elt F) → (⟨S32x1x512x512, .f32⟩ : BufTy).Contents (Elt F))
  :: [] )
theorem m0_0_sub : (m0_0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- 3 consecutive host operations of the host program, in order (window 0). -/
abbrev m0_1 : List (HloOp τ sig (Elt F)) :=
  ( StableHlo.nullary main_call0_cst (constant S_ .f32 0x00000000#32)
  :: StableHlo.unary main_call0_cst main_call0_v0 (broadcastInDim S32x1x512x512 ![] bcast_S_S32x1x512x512 : (⟨S_, .f32⟩ : BufTy).Contents (Elt F) → (⟨S32x1x512x512, .f32⟩ : BufTy).Contents (Elt F))
  :: StableHlo.binary main_arg0 main_call0_v0 main_v7 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem m0_1_sub : (m0_1 : List (HloOp τ sig (Elt F))).Forall fun op => op.bufs ⊆ StableHlo.tcRefs τ sig :=
  ⟨StableHlo.nullary_bufs_sub .., StableHlo.unary_bufs_sub .., StableHlo.binary_bufs_sub ..⟩

/-- 50 consecutive host operations of the host program, in order (window 0). -/
abbrev m0_2 : List (HloOp τ sig (Elt F)) :=
  ( StableHlo.binary main_arg0 main_v0 main_v8 (mulf : (⟨S32x1x512x512, .f32⟩ : BufTy).Contents (Elt F) → (⟨S32x1x512x512, .f32⟩ : BufTy).Contents (Elt F) → (⟨S32x1x512x512, .f32⟩ : BufTy).Contents (Elt F))
  :: StableHlo.binary main_v7 main_v8 main_v9 (subf : (⟨S32x1x512x512, .f32⟩ : BufTy).Contents (Elt F) → (⟨S32x1x512x512, .f32⟩ : BufTy).Contents (Elt F) → (⟨S32x1x512x512, .f32⟩ : BufTy).Contents (Elt F))
  :: StableHlo.unary main_arg0 main_v10 (Host.absf : (⟨S32x1x512x512, .f32⟩ : BufTy).Contents (Elt F) → (⟨S32x1x512x512, .f32⟩ : BufTy).Contents (Elt F))
  :: StableHlo.unary main_v10 main_v11 (Host.negf : (⟨S32x1x512x512, .f32⟩ : BufTy).Contents (Elt F) → (⟨S32x1x512x512, .f32⟩ : BufTy).Contents (Elt F))
  :: StableHlo.unary main_v11 main_v12 (Host.exp : (⟨S32x1x512x512, .f32⟩ : BufTy).Contents (Elt F) → (⟨S32x1x512x512, .f32⟩ : BufTy).Contents (Elt F))
  :: StableHlo.unary main_v12 main_v13 (Host.log1p : (⟨S32x1x512x512, .f32⟩ : BufTy).Contents (Elt F) → (⟨S32x1x512x512, .f32⟩ : BufTy).Contents (Elt F))
  :: StableHlo.binary main_v9 main_v13 main_v14 (addf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_1 (constant S_ .f32 0x00000000#32)
  :: StableHlo.binary main_v14 main_cst_1 main_v15 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_2 (constant S_ .f32 0x4B000000#32)
  :: StableHlo.binary main_v15 main_cst_2 main_v16 (Host.divf : (⟨S_, .f32⟩ : BufTy).Contents (Elt F) → (⟨S_, .f32⟩ : BufTy).Contents (Elt F) → (⟨S_, .f32⟩ : BufTy).Contents (Elt F))
  :: StableHlo.reshape main_v6 main_v17 (rfl : (.f32 : EltTy) = .f32) shapeCasts_S32x1x512x512_S8388608
  :: StableHlo.reshape main_v0 main_v18 (rfl : (.f32 : EltTy) = .f32) shapeCasts_S32x1x512x512_S8388608
  :: StableHlo.binary main_v17 main_v18 main_v19 (mulf : (⟨S8388608, .f32⟩ : BufTy).Contents (Elt F) → (⟨S8388608, .f32⟩ : BufTy).Contents (Elt F) → (⟨S8388608, .f32⟩ : BufTy).Contents (Elt F))
  :: StableHlo.nullary main_cst_3 (constant S_ .f32 0x00000000#32)
  :: StableHlo.binary main_v19 main_cst_3 main_v20 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F))
  :: StableHlo.nullary main_cst_4 (constant S_ .f32 0x40000000#32)
  :: StableHlo.binary main_cst_4 main_v20 main_v21 (mulf : (⟨S_, .f32⟩ : BufTy).Contents (Elt F) → (⟨S_, .f32⟩ : BufTy).Contents (Elt F) → (⟨S_, .f32⟩ : BufTy).Contents (Elt F))
  :: StableHlo.nullary main_cst_5 (constant S_ .f32 0x3F800000#32)
  :: StableHlo.binary main_v21 main_cst_5 main_v22 (addf : (⟨S_, .f32⟩ : BufTy).Contents (Elt F) → (⟨S_, .f32⟩ : BufTy).Contents (Elt F) → (⟨S_, .f32⟩ : BufTy).Contents (Elt F))
  :: StableHlo.nullary main_cst_6 (constant S_ .f32 0x00000000#32)
  :: StableHlo.binary main_v17 main_cst_6 main_v23 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F))
  :: StableHlo.nullary main_cst_7 (constant S_ .f32 0x00000000#32)
  :: StableHlo.binary main_v18 main_cst_7 main_v24 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F))
  :: StableHlo.binary main_v23 main_v24 main_v25 (addf : (⟨S_, .f32⟩ : BufTy).Contents (Elt F) → (⟨S_, .f32⟩ : BufTy).Contents (Elt F) → (⟨S_, .f32⟩ : BufTy).Contents (Elt F))
  :: StableHlo.nullary main_cst_8 (constant S_ .f32 0x3F800000#32)
  :: StableHlo.binary main_v25 main_cst_8 main_v26 (addf : (⟨S_, .f32⟩ : BufTy).Contents (Elt F) → (⟨S_, .f32⟩ : BufTy).Contents (Elt F) → (⟨S_, .f32⟩ : BufTy).Contents (Elt F))
  :: StableHlo.binary main_v22 main_v26 main_v27 (Host.divf : (⟨S_, .f32⟩ : BufTy).Contents (Elt F) → (⟨S_, .f32⟩ : BufTy).Contents (Elt F) → (⟨S_, .f32⟩ : BufTy).Contents (Elt F))
  :: StableHlo.nullary main_cst_9 (constant S_ .f32 0x3F800000#32)
  :: StableHlo.binary main_cst_9 main_v27 main_v28 (subf : (⟨S_, .f32⟩ : BufTy).Contents (Elt F) → (⟨S_, .f32⟩ : BufTy).Contents (Elt F) → (⟨S_, .f32⟩ : BufTy).Contents (Elt F))
  :: StableHlo.nullary main_cst_10 (constant S_ .f32 0x3F800000#32)
  :: StableHlo.unary main_cst_10 main_v29 (broadcastInDim S8388608 ![] bcast_S_S8388608 : (⟨S_, .f32⟩ : BufTy).Contents (Elt F) → (⟨S8388608, .f32⟩ : BufTy).Contents (Elt F))
  :: StableHlo.binary main_v29 main_v18 main_v30 (subf : (⟨S8388608, .f32⟩ : BufTy).Contents (Elt F) → (⟨S8388608, .f32⟩ : BufTy).Contents (Elt F) → (⟨S8388608, .f32⟩ : BufTy).Contents (Elt F))
  :: StableHlo.binary main_v17 main_v30 main_v31 (mulf : (⟨S8388608, .f32⟩ : BufTy).Contents (Elt F) → (⟨S8388608, .f32⟩ : BufTy).Contents (Elt F) → (⟨S8388608, .f32⟩ : BufTy).Contents (Elt F))
  :: StableHlo.nullary main_cst_11 (constant S_ .f32 0x00000000#32)
  :: StableHlo.binary main_v31 main_cst_11 main_v32 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F))
  :: StableHlo.nullary main_cst_12 (constant S_ .f32 0x3F800000#32)
  :: StableHlo.unary main_cst_12 main_v33 (broadcastInDim S8388608 ![] bcast_S_S8388608 : (⟨S_, .f32⟩ : BufTy).Contents (Elt F) → (⟨S8388608, .f32⟩ : BufTy).Contents (Elt F))
  :: StableHlo.binary main_v33 main_v17 main_v34 (subf : (⟨S8388608, .f32⟩ : BufTy).Contents (Elt F) → (⟨S8388608, .f32⟩ : BufTy).Contents (Elt F) → (⟨S8388608, .f32⟩ : BufTy).Contents (Elt F))
  :: StableHlo.binary main_v34 main_v18 main_v35 (mulf : (⟨S8388608, .f32⟩ : BufTy).Contents (Elt F) → (⟨S8388608, .f32⟩ : BufTy).Contents (Elt F) → (⟨S8388608, .f32⟩ : BufTy).Contents (Elt F))
  :: StableHlo.nullary main_cst_13 (constant S_ .f32 0x00000000#32)
  :: StableHlo.binary main_v35 main_cst_13 main_v36 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F))
  :: StableHlo.nullary main_cst_14 (constant S_ .f32 0x3F800000#32)
  :: StableHlo.binary main_v20 main_cst_14 main_v37 (addf : (⟨S_, .f32⟩ : BufTy).Contents (Elt F) → (⟨S_, .f32⟩ : BufTy).Contents (Elt F) → (⟨S_, .f32⟩ : BufTy).Contents (Elt F))
  :: StableHlo.nullary main_cst_15 (constant S_ .f32 0x3E99999A#32)
  :: StableHlo.binary main_cst_15 main_v32 main_v38 (mulf : (⟨S_, .f32⟩ : BufTy).Contents (Elt F) → (⟨S_, .f32⟩ : BufTy).Contents (Elt F) → (⟨S_, .f32⟩ : BufTy).Contents (Elt F))
  :: StableHlo.binary main_v20 main_v38 main_v39 (addf : (⟨S_, .f32⟩ : BufTy).Contents (Elt F) → (⟨S_, .f32⟩ : BufTy).Contents (Elt F) → (⟨S_, .f32⟩ : BufTy).Contents (Elt F))
  :: StableHlo.nullary main_cst_16 (constant S_ .f32 0x3F333333#32)
  :: StableHlo.binary main_cst_16 main_v36 main_v40 (mulf : (⟨S_, .f32⟩ : BufTy).Contents (Elt F) → (⟨S_, .f32⟩ : BufTy).Contents (Elt F) → (⟨S_, .f32⟩ : BufTy).Contents (Elt F))
  :: StableHlo.binary main_v39 main_v40 main_v41 (addf : (⟨S_, .f32⟩ : BufTy).Contents (Elt F) → (⟨S_, .f32⟩ : BufTy).Contents (Elt F) → (⟨S_, .f32⟩ : BufTy).Contents (Elt F))
  :: [] )
theorem m0_2_sub : (m0_2 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.reshape_bufs_sub .., StableHlo.reshape_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub ..⟩

/-- 22 consecutive host operations of the host program, in order (window 1). -/
abbrev m1_0 : List (HloOp τ sig (Elt F)) :=
  ( StableHlo.nullary main_cst_17 (constant S_ .f32 0x3F800000#32)
  :: StableHlo.binary main_v41 main_cst_17 main_v42 (addf : (⟨S_, .f32⟩ : BufTy).Contents (Elt F) → (⟨S_, .f32⟩ : BufTy).Contents (Elt F) → (⟨S_, .f32⟩ : BufTy).Contents (Elt F))
  :: StableHlo.binary main_v37 main_v42 main_v43 (Host.divf : (⟨S_, .f32⟩ : BufTy).Contents (Elt F) → (⟨S_, .f32⟩ : BufTy).Contents (Elt F) → (⟨S_, .f32⟩ : BufTy).Contents (Elt F))
  :: StableHlo.nullary main_cst_18 (constant S_ .f32 0x3F800000#32)
  :: StableHlo.binary main_cst_18 main_v43 main_v44 (subf : (⟨S_, .f32⟩ : BufTy).Contents (Elt F) → (⟨S_, .f32⟩ : BufTy).Contents (Elt F) → (⟨S_, .f32⟩ : BufTy).Contents (Elt F))
  :: StableHlo.nullary main_cst_19 (constant S_ .f32 0x3FAA3D71#32)
  :: StableHlo.binary main_v44 main_cst_19 main_v45 (Host.powf : (⟨S_, .f32⟩ : BufTy).Contents (Elt F) → (⟨S_, .f32⟩ : BufTy).Contents (Elt F) → (⟨S_, .f32⟩ : BufTy).Contents (Elt F))
  :: StableHlo.nullary main_cst_20 (constant S_ .f32 0xFF800000#32)
  :: StableHlo.unary main_cst_20 main_v46 (broadcastInDim S_ ![] bcast_S_S_ : (⟨S_, .f32⟩ : BufTy).Contents (Elt F) → (⟨S_, .f32⟩ : BufTy).Contents (Elt F))
  :: StableHlo.binary main_v0 main_v46 main_v47 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_v0 main_v48 (Host.negf : (⟨S32x1x512x512, .f32⟩ : BufTy).Contents (Elt F) → (⟨S32x1x512x512, .f32⟩ : BufTy).Contents (Elt F))
  :: StableHlo.nullary main_cst_21 (constant S_ .f32 0xFF800000#32)
  :: StableHlo.unary main_cst_21 main_v49 (broadcastInDim S_ ![] bcast_S_S_ : (⟨S_, .f32⟩ : BufTy).Contents (Elt F) → (⟨S_, .f32⟩ : BufTy).Contents (Elt F))
  :: StableHlo.binary main_v48 main_v49 main_v50 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_v50 main_v51 (Host.negf : (⟨S32x1x512x512, .f32⟩ : BufTy).Contents (Elt F) → (⟨S32x1x512x512, .f32⟩ : BufTy).Contents (Elt F))
  :: StableHlo.binary main_v47 main_v51 main_v52 (subf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_22 (constant S_ .f32 0x40400000#32)
  :: StableHlo.unary main_cst_22 main_v53 (broadcastInDim S32x1x512x512 ![] bcast_S_S32x1x512x512 : (⟨S_, .f32⟩ : BufTy).Contents (Elt F) → (⟨S32x1x512x512, .f32⟩ : BufTy).Contents (Elt F))
  :: StableHlo.binary main_v53 main_v52 main_v54 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_23 (constant S_ .f32 0x3F800000#32)
  :: StableHlo.unary main_cst_23 main_v55 (broadcastInDim S32x1x512x512 ![] bcast_S_S32x1x512x512 : (⟨S_, .f32⟩ : BufTy).Contents (Elt F) → (⟨S32x1x512x512, .f32⟩ : BufTy).Contents (Elt F))
  :: StableHlo.binary main_v55 main_v54 main_v56 (addf : (⟨S32x1x512x512, .f32⟩ : BufTy).Contents (Elt F) → (⟨S32x1x512x512, .f32⟩ : BufTy).Contents (Elt F) → (⟨S32x1x512x512, .f32⟩ : BufTy).Contents (Elt F))
  :: [] )
theorem m1_0_sub : (m1_0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

/-- 3 consecutive host operations of the host program, in order (window 1). -/
abbrev m1_1 : List (HloOp τ sig (Elt F)) :=
  ( StableHlo.nullary main_call1_cst (constant S_ .f32 0x00000000#32)
  :: StableHlo.unary main_call1_cst main_call1_v0 (broadcastInDim S32x1x512x512 ![] bcast_S_S32x1x512x512 : (⟨S_, .f32⟩ : BufTy).Contents (Elt F) → (⟨S32x1x512x512, .f32⟩ : BufTy).Contents (Elt F))
  :: StableHlo.binary main_arg0 main_call1_v0 main_v57 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem m1_1_sub : (m1_1 : List (HloOp τ sig (Elt F))).Forall fun op => op.bufs ⊆ StableHlo.tcRefs τ sig :=
  ⟨StableHlo.nullary_bufs_sub .., StableHlo.unary_bufs_sub .., StableHlo.binary_bufs_sub ..⟩

/-- 27 consecutive host operations of the host program, in order (window 1). -/
abbrev m1_2 : List (HloOp τ sig (Elt F)) :=
  ( StableHlo.binary main_arg0 main_v0 main_v58 (mulf : (⟨S32x1x512x512, .f32⟩ : BufTy).Contents (Elt F) → (⟨S32x1x512x512, .f32⟩ : BufTy).Contents (Elt F) → (⟨S32x1x512x512, .f32⟩ : BufTy).Contents (Elt F))
  :: StableHlo.binary main_v57 main_v58 main_v59 (subf : (⟨S32x1x512x512, .f32⟩ : BufTy).Contents (Elt F) → (⟨S32x1x512x512, .f32⟩ : BufTy).Contents (Elt F) → (⟨S32x1x512x512, .f32⟩ : BufTy).Contents (Elt F))
  :: StableHlo.unary main_arg0 main_v60 (Host.absf : (⟨S32x1x512x512, .f32⟩ : BufTy).Contents (Elt F) → (⟨S32x1x512x512, .f32⟩ : BufTy).Contents (Elt F))
  :: StableHlo.unary main_v60 main_v61 (Host.negf : (⟨S32x1x512x512, .f32⟩ : BufTy).Contents (Elt F) → (⟨S32x1x512x512, .f32⟩ : BufTy).Contents (Elt F))
  :: StableHlo.unary main_v61 main_v62 (Host.exp : (⟨S32x1x512x512, .f32⟩ : BufTy).Contents (Elt F) → (⟨S32x1x512x512, .f32⟩ : BufTy).Contents (Elt F))
  :: StableHlo.unary main_v62 main_v63 (Host.log1p : (⟨S32x1x512x512, .f32⟩ : BufTy).Contents (Elt F) → (⟨S32x1x512x512, .f32⟩ : BufTy).Contents (Elt F))
  :: StableHlo.binary main_v59 main_v63 main_v64 (addf : (⟨S32x1x512x512, .f32⟩ : BufTy).Contents (Elt F) → (⟨S32x1x512x512, .f32⟩ : BufTy).Contents (Elt F) → (⟨S32x1x512x512, .f32⟩ : BufTy).Contents (Elt F))
  :: StableHlo.binary main_v56 main_v64 main_v65 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_24 (constant S_ .f32 0x00000000#32)
  :: StableHlo.binary main_v65 main_cst_24 main_v66 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_25 (constant S_ .f32 0x4B000000#32)
  :: StableHlo.binary main_v66 main_cst_25 main_v67 (Host.divf : (⟨S_, .f32⟩ : BufTy).Contents (Elt F) → (⟨S_, .f32⟩ : BufTy).Contents (Elt F) → (⟨S_, .f32⟩ : BufTy).Contents (Elt F))
  :: StableHlo.unary main_v6 main_v68 (Host.negf : (⟨S32x1x512x512, .f32⟩ : BufTy).Contents (Elt F) → (⟨S32x1x512x512, .f32⟩ : BufTy).Contents (Elt F))
  :: StableHlo.nullary main_cst_26 (constant S_ .f32 0xFF800000#32)
  :: StableHlo.unary main_cst_26 main_v69 (broadcastInDim S_ ![] bcast_S_S_ : (⟨S_, .f32⟩ : BufTy).Contents (Elt F) → (⟨S_, .f32⟩ : BufTy).Contents (Elt F))
  :: StableHlo.binary main_v68 main_v69 main_v70 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_v70 main_v71 (Host.negf : (⟨S32x1x512x512, .f32⟩ : BufTy).Contents (Elt F) → (⟨S32x1x512x512, .f32⟩ : BufTy).Contents (Elt F))
  :: StableHlo.unary main_v6 main_v72 (Host.negf : (⟨S32x1x512x512, .f32⟩ : BufTy).Contents (Elt F) → (⟨S32x1x512x512, .f32⟩ : BufTy).Contents (Elt F))
  :: StableHlo.nullary main_cst_27 (constant S_ .f32 0xFF800000#32)
  :: StableHlo.unary main_cst_27 main_v73 (broadcastInDim S_ ![] bcast_S_S_ : (⟨S_, .f32⟩ : BufTy).Contents (Elt F) → (⟨S_, .f32⟩ : BufTy).Contents (Elt F))
  :: StableHlo.binary main_v72 main_v73 main_v74 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_v74 main_v75 (Host.negf : (⟨S32x1x512x512, .f32⟩ : BufTy).Contents (Elt F) → (⟨S32x1x512x512, .f32⟩ : BufTy).Contents (Elt F))
  :: StableHlo.binary main_v71 main_v75 main_v76 (minimumf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_28 (constant S_ .f32 0xFF800000#32)
  :: StableHlo.unary main_cst_28 main_v77 (broadcastInDim S_ ![] bcast_S_S_ : (⟨S_, .f32⟩ : BufTy).Contents (Elt F) → (⟨S_, .f32⟩ : BufTy).Contents (Elt F))
  :: StableHlo.binary main_v76 main_v77 main_v78 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.binary main_v6 main_v78 main_v79 (subf : (⟨S32x1x512x512, .f32⟩ : BufTy).Contents (Elt F) → (⟨S32x1x512x512, .f32⟩ : BufTy).Contents (Elt F) → (⟨S32x1x512x512, .f32⟩ : BufTy).Contents (Elt F))
  :: [] )
theorem m1_2_sub : (m1_2 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- 3 consecutive host operations of the host program, in order (window 1). -/
abbrev m1_3 : List (HloOp τ sig (Elt F)) :=
  ( StableHlo.nullary main_call2_cst (constant S_ .f32 0x00000000#32)
  :: StableHlo.unary main_call2_cst main_call2_v0 (broadcastInDim S32x1x512x512 ![] bcast_S_S32x1x512x512 : (⟨S_, .f32⟩ : BufTy).Contents (Elt F) → (⟨S32x1x512x512, .f32⟩ : BufTy).Contents (Elt F))
  :: StableHlo.binary main_v79 main_call2_v0 main_v80 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem m1_3_sub : (m1_3 : List (HloOp τ sig (Elt F))).Forall fun op => op.bufs ⊆ StableHlo.tcRefs τ sig :=
  ⟨StableHlo.nullary_bufs_sub .., StableHlo.unary_bufs_sub .., StableHlo.binary_bufs_sub ..⟩

/-- 6 consecutive host operations of the host program, in order (window 1). -/
abbrev m1_4 : List (HloOp τ sig (Elt F)) :=
  ( StableHlo.nullary main_c (constantI S_ 32 0#32)
  :: StableHlo.nullary main_c_29 (constantI S_ 32 0#32)
  :: StableHlo.unary main_c_29 main_v81_0 id
  :: StableHlo.unary main_c main_v81_1 id
  :: StableHlo.unary main_v6 main_v81_2 id
  :: StableHlo.unary main_v80 main_v81_3 id
  :: [] )
theorem m1_4_sub : (m1_4 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub ..⟩

/-- 2 consecutive host operations of the host program, in order (window 1). -/
abbrev m1_5 : List (HloOp τ sig (Elt F)) :=
  ( StableHlo.unary main_v0 main_v82 (Host.negf : (⟨S32x1x512x512, .f32⟩ : BufTy).Contents (Elt F) → (⟨S32x1x512x512, .f32⟩ : BufTy).Contents (Elt F))
  :: StableHlo.nullary main_cst_30 (constant S_ .f32 0xFF800000#32)
  :: [] )
theorem m1_5_sub : (m1_5 : List (HloOp τ sig (Elt F))).Forall fun op => op.bufs ⊆ StableHlo.tcRefs τ sig :=
  ⟨StableHlo.unary_bufs_sub .., StableHlo.nullary_bufs_sub ..⟩

/-- 13 consecutive host operations of the host program, in order (window 2). -/
abbrev m2_0 : List (HloOp τ sig (Elt F)) :=
  ( StableHlo.unary main_cst_30 main_v83 (broadcastInDim S_ ![] bcast_S_S_ : (⟨S_, .f32⟩ : BufTy).Contents (Elt F) → (⟨S_, .f32⟩ : BufTy).Contents (Elt F))
  :: StableHlo.binary main_v82 main_v83 main_v84 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_v84 main_v85 (Host.negf : (⟨S32x1x512x512, .f32⟩ : BufTy).Contents (Elt F) → (⟨S32x1x512x512, .f32⟩ : BufTy).Contents (Elt F))
  :: StableHlo.unary main_v0 main_v86 (Host.negf : (⟨S32x1x512x512, .f32⟩ : BufTy).Contents (Elt F) → (⟨S32x1x512x512, .f32⟩ : BufTy).Contents (Elt F))
  :: StableHlo.nullary main_cst_31 (constant S_ .f32 0xFF800000#32)
  :: StableHlo.unary main_cst_31 main_v87 (broadcastInDim S_ ![] bcast_S_S_ : (⟨S_, .f32⟩ : BufTy).Contents (Elt F) → (⟨S_, .f32⟩ : BufTy).Contents (Elt F))
  :: StableHlo.binary main_v86 main_v87 main_v88 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_v88 main_v89 (Host.negf : (⟨S32x1x512x512, .f32⟩ : BufTy).Contents (Elt F) → (⟨S32x1x512x512, .f32⟩ : BufTy).Contents (Elt F))
  :: StableHlo.binary main_v85 main_v89 main_v90 (minimumf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_32 (constant S_ .f32 0xFF800000#32)
  :: StableHlo.unary main_cst_32 main_v91 (broadcastInDim S_ ![] bcast_S_S_ : (⟨S_, .f32⟩ : BufTy).Contents (Elt F) → (⟨S_, .f32⟩ : BufTy).Contents (Elt F))
  :: StableHlo.binary main_v90 main_v91 main_v92 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.binary main_v0 main_v92 main_v93 (subf : (⟨S32x1x512x512, .f32⟩ : BufTy).Contents (Elt F) → (⟨S32x1x512x512, .f32⟩ : BufTy).Contents (Elt F) → (⟨S32x1x512x512, .f32⟩ : BufTy).Contents (Elt F))
  :: [] )
theorem m2_0_sub : (m2_0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- 3 consecutive host operations of the host program, in order (window 2). -/
abbrev m2_1 : List (HloOp τ sig (Elt F)) :=
  ( StableHlo.nullary main_call5_cst (constant S_ .f32 0x00000000#32)
  :: StableHlo.unary main_call5_cst main_call5_v0 (broadcastInDim S32x1x512x512 ![] bcast_S_S32x1x512x512 : (⟨S_, .f32⟩ : BufTy).Contents (Elt F) → (⟨S32x1x512x512, .f32⟩ : BufTy).Contents (Elt F))
  :: StableHlo.binary main_v93 main_call5_v0 main_v94 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem m2_1_sub : (m2_1 : List (HloOp τ sig (Elt F))).Forall fun op => op.bufs ⊆ StableHlo.tcRefs τ sig :=
  ⟨StableHlo.nullary_bufs_sub .., StableHlo.unary_bufs_sub .., StableHlo.binary_bufs_sub ..⟩

/-- 6 consecutive host operations of the host program, in order (window 2). -/
abbrev m2_2 : List (HloOp τ sig (Elt F)) :=
  ( StableHlo.nullary main_c_33 (constantI S_ 32 0#32)
  :: StableHlo.nullary main_c_34 (constantI S_ 32 0#32)
  :: StableHlo.unary main_c_34 main_v95_0 id
  :: StableHlo.unary main_c_33 main_v95_1 id
  :: StableHlo.unary main_v0 main_v95_2 id
  :: StableHlo.unary main_v94 main_v95_3 id
  :: [] )
theorem m2_2_sub : (m2_2 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub ..⟩

/-- 39 consecutive host operations of the host program, in order (window 2). -/
abbrev m2_3 : List (HloOp τ sig (Elt F)) :=
  ( StableHlo.binary main_v81_3 main_v0 main_v96 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_35 (constant S_ .f32 0x00000000#32)
  :: StableHlo.binary main_v96 main_cst_35 main_v97 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_36 (constant S_ .f32 0x3F800000#32)
  :: StableHlo.binary main_v97 main_cst_36 main_v98 (addf : (⟨S_, .f32⟩ : BufTy).Contents (Elt F) → (⟨S_, .f32⟩ : BufTy).Contents (Elt F) → (⟨S_, .f32⟩ : BufTy).Contents (Elt F))
  :: StableHlo.nullary main_cst_37 (constant S_ .f32 0x00000000#32)
  :: StableHlo.binary main_v81_3 main_cst_37 main_v99 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_38 (constant S_ .f32 0x3F800000#32)
  :: StableHlo.binary main_v99 main_cst_38 main_v100 (addf : (⟨S_, .f32⟩ : BufTy).Contents (Elt F) → (⟨S_, .f32⟩ : BufTy).Contents (Elt F) → (⟨S_, .f32⟩ : BufTy).Contents (Elt F))
  :: StableHlo.binary main_v98 main_v100 main_v101 (Host.divf : (⟨S_, .f32⟩ : BufTy).Contents (Elt F) → (⟨S_, .f32⟩ : BufTy).Contents (Elt F) → (⟨S_, .f32⟩ : BufTy).Contents (Elt F))
  :: StableHlo.binary main_v95_3 main_v6 main_v102 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_39 (constant S_ .f32 0x00000000#32)
  :: StableHlo.binary main_v102 main_cst_39 main_v103 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_40 (constant S_ .f32 0x3F800000#32)
  :: StableHlo.binary main_v103 main_cst_40 main_v104 (addf : (⟨S_, .f32⟩ : BufTy).Contents (Elt F) → (⟨S_, .f32⟩ : BufTy).Contents (Elt F) → (⟨S_, .f32⟩ : BufTy).Contents (Elt F))
  :: StableHlo.nullary main_cst_41 (constant S_ .f32 0x00000000#32)
  :: StableHlo.binary main_v95_3 main_cst_41 main_v105 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_42 (constant S_ .f32 0x3F800000#32)
  :: StableHlo.binary main_v105 main_cst_42 main_v106 (addf : (⟨S_, .f32⟩ : BufTy).Contents (Elt F) → (⟨S_, .f32⟩ : BufTy).Contents (Elt F) → (⟨S_, .f32⟩ : BufTy).Contents (Elt F))
  :: StableHlo.binary main_v104 main_v106 main_v107 (Host.divf : (⟨S_, .f32⟩ : BufTy).Contents (Elt F) → (⟨S_, .f32⟩ : BufTy).Contents (Elt F) → (⟨S_, .f32⟩ : BufTy).Contents (Elt F))
  :: StableHlo.nullary main_cst_43 (constant S_ .f32 0x40000000#32)
  :: StableHlo.binary main_cst_43 main_v101 main_v108 (mulf : (⟨S_, .f32⟩ : BufTy).Contents (Elt F) → (⟨S_, .f32⟩ : BufTy).Contents (Elt F) → (⟨S_, .f32⟩ : BufTy).Contents (Elt F))
  :: StableHlo.binary main_v108 main_v107 main_v109 (mulf : (⟨S_, .f32⟩ : BufTy).Contents (Elt F) → (⟨S_, .f32⟩ : BufTy).Contents (Elt F) → (⟨S_, .f32⟩ : BufTy).Contents (Elt F))
  :: StableHlo.binary main_v101 main_v107 main_v110 (addf : (⟨S_, .f32⟩ : BufTy).Contents (Elt F) → (⟨S_, .f32⟩ : BufTy).Contents (Elt F) → (⟨S_, .f32⟩ : BufTy).Contents (Elt F))
  :: StableHlo.binary main_v109 main_v110 main_v111 (Host.divf : (⟨S_, .f32⟩ : BufTy).Contents (Elt F) → (⟨S_, .f32⟩ : BufTy).Contents (Elt F) → (⟨S_, .f32⟩ : BufTy).Contents (Elt F))
  :: StableHlo.nullary main_cst_44 (constant S_ .f32 0x3F800000#32)
  :: StableHlo.binary main_cst_44 main_v111 main_v112 (subf : (⟨S_, .f32⟩ : BufTy).Contents (Elt F) → (⟨S_, .f32⟩ : BufTy).Contents (Elt F) → (⟨S_, .f32⟩ : BufTy).Contents (Elt F))
  :: StableHlo.nullary main_cst_45 (constant S_ .f32 0x3F000000#32)
  :: StableHlo.unary main_cst_45 main_v113 (broadcastInDim S32x1x512x512 ![] bcast_S_S32x1x512x512 : (⟨S_, .f32⟩ : BufTy).Contents (Elt F) → (⟨S32x1x512x512, .f32⟩ : BufTy).Contents (Elt F))
  :: StableHlo.binary main_v6 main_v113 main_v114 (cmpf .ogt : (⟨S32x1x512x512, .f32⟩ : BufTy).Contents (Elt F) → (⟨S32x1x512x512, .f32⟩ : BufTy).Contents (Elt F) → (⟨S32x1x512x512, .i1⟩ : BufTy).Contents (Elt F))
  :: StableHlo.unary main_v114 main_v115 (uitofp .f32 : (⟨S32x1x512x512, .i1⟩ : BufTy).Contents (Elt F) → (⟨S32x1x512x512, .f32⟩ : BufTy).Contents (Elt F))
  :: StableHlo.nullary main_cst_46 (constant S_ .f32 0x3F800000#32)
  :: StableHlo.unary main_cst_46 main_v116 (broadcastInDim S32x1x512x512 ![] bcast_S_S32x1x512x512 : (⟨S_, .f32⟩ : BufTy).Contents (Elt F) → (⟨S32x1x512x512, .f32⟩ : BufTy).Contents (Elt F))
  :: StableHlo.binary main_v116 main_v115 main_v117 (subf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_47 (constant S_ .f32 0x00000000#32)
  :: StableHlo.unary main_cst_47 main_v118 (broadcastInDim S32x1x512x512 ![] bcast_S_S32x1x512x512 : (⟨S_, .f32⟩ : BufTy).Contents (Elt F) → (⟨S32x1x512x512, .f32⟩ : BufTy).Contents (Elt F))
  :: StableHlo.nullary main_c_48 (constantI S_ 32 1#32)
  :: StableHlo.nullary main_c_49 (constantI S_ 32 0#32)
  :: StableHlo.unary main_c_49 main_v119_0 id
  :: [] )
theorem m2_3_sub : (m2_3 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub ..⟩

/-- 3 consecutive host operations of the host program, in order (window 3). -/
abbrev m3_0 : List (HloOp τ sig (Elt F)) :=
  ( StableHlo.unary main_c_48 main_v119_1 id
  :: StableHlo.unary main_v117 main_v119_2 id
  :: StableHlo.unary main_v118 main_v119_3 id
  :: [] )
theorem m3_0_sub : (m3_0 : List (HloOp τ sig (Elt F))).Forall fun op => op.bufs ⊆ StableHlo.tcRefs τ sig :=
  ⟨StableHlo.unary_bufs_sub .., StableHlo.unary_bufs_sub .., StableHlo.unary_bufs_sub ..⟩

/-- 8 consecutive host operations of the host program, in order (window 3). -/
abbrev m3_1 : List (HloOp τ sig (Elt F)) :=
  ( StableHlo.nullary main_cst_50 (constant S_ .f32 0x3F000000#32)
  :: StableHlo.unary main_cst_50 main_v120 (broadcastInDim S32x1x512x512 ![] bcast_S_S32x1x512x512 : (⟨S_, .f32⟩ : BufTy).Contents (Elt F) → (⟨S32x1x512x512, .f32⟩ : BufTy).Contents (Elt F))
  :: StableHlo.binary main_v117 main_v120 main_v121 (cmpf .ogt : (⟨S32x1x512x512, .f32⟩ : BufTy).Contents (Elt F) → (⟨S32x1x512x512, .f32⟩ : BufTy).Contents (Elt F) → (⟨S32x1x512x512, .i1⟩ : BufTy).Contents (Elt F))
  :: StableHlo.nullary main_cst_51 (constant S_ .f32 0x00000000#32)
  :: StableHlo.unary main_cst_51 main_v122 (broadcastInDim S32x1x512x512 ![] bcast_S_S32x1x512x512 : (⟨S_, .f32⟩ : BufTy).Contents (Elt F) → (⟨S32x1x512x512, .f32⟩ : BufTy).Contents (Elt F))
  :: StableHlo.binary main_v119_3 main_v122 main_v123 (cmpf .oeq : (⟨S32x1x512x512, .f32⟩ : BufTy).Contents (Elt F) → (⟨S32x1x512x512, .f32⟩ : BufTy).Contents (Elt F) → (⟨S32x1x512x512, .i1⟩ : BufTy).Contents (Elt F))
  :: StableHlo.binary main_v121 main_v123 main_v124 (andi : (⟨S32x1x512x512, .i1⟩ : BufTy).Contents (Elt F) → (⟨S32x1x512x512, .i1⟩ : BufTy).Contents (Elt F) → (⟨S32x1x512x512, .i1⟩ : BufTy).Contents (Elt F))
  :: StableHlo.nullary main_cst_52 (constant S_ .f32 0x41A00000#32)
  :: [] )
theorem m3_1_sub : (m3_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- 2 consecutive host operations of the host program, in order (window 3). -/
abbrev m3_2 : List (HloOp τ sig (Elt F)) :=
  ( StableHlo.unary main_cst_52 main_call9_v0 (broadcastInDim S32x1x512x512 ![] bcast_S_S32x1x512x512 : (⟨S_, .f32⟩ : BufTy).Contents (Elt F) → (⟨S32x1x512x512, .f32⟩ : BufTy).Contents (Elt F))
  :: StableHlo.ternary main_v124 main_call9_v0 main_v119_3 main_v125 (select : (⟨S32x1x512x512, .i1⟩ : BufTy).Contents (Elt F) → (⟨S32x1x512x512, .f32⟩ : BufTy).Contents (Elt F) → (⟨S32x1x512x512, .f32⟩ : BufTy).Contents (Elt F) → (⟨S32x1x512x512, .f32⟩ : BufTy).Contents (Elt F))
  :: [] )
theorem m3_2_sub : (m3_2 : List (HloOp τ sig (Elt F))).Forall fun op => op.bufs ⊆ StableHlo.tcRefs τ sig :=
  ⟨StableHlo.unary_bufs_sub .., StableHlo.ternary_bufs_sub ..⟩

/-- 11 consecutive host operations of the host program, in order (window 3). -/
abbrev m3_3 : List (HloOp τ sig (Elt F)) :=
  ( StableHlo.nullary main_cst_53 (constant S_ .f32 0x3F800000#32)
  :: StableHlo.unary main_cst_53 main_v126 (broadcastInDim S32x1x512x512 ![] bcast_S_S32x1x512x512 : (⟨S_, .f32⟩ : BufTy).Contents (Elt F) → (⟨S32x1x512x512, .f32⟩ : BufTy).Contents (Elt F))
  :: StableHlo.binary main_v126 main_v0 main_v127 (subf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_54 (constant S_ .f32 0x00000000#32)
  :: StableHlo.unary main_cst_54 main_v128 (broadcastInDim S32x1x512x512 ![] bcast_S_S32x1x512x512 : (⟨S_, .f32⟩ : BufTy).Contents (Elt F) → (⟨S32x1x512x512, .f32⟩ : BufTy).Contents (Elt F))
  :: StableHlo.nullary main_c_55 (constantI S_ 32 1#32)
  :: StableHlo.nullary main_c_56 (constantI S_ 32 0#32)
  :: StableHlo.unary main_c_56 main_v129_0 id
  :: StableHlo.unary main_c_55 main_v129_1 id
  :: StableHlo.unary main_v127 main_v129_2 id
  :: StableHlo.unary main_v128 main_v129_3 id
  :: [] )
theorem m3_3_sub : (m3_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub ..⟩

/-- 8 consecutive host operations of the host program, in order (window 3). -/
abbrev m3_4 : List (HloOp τ sig (Elt F)) :=
  ( StableHlo.nullary main_cst_57 (constant S_ .f32 0x3F000000#32)
  :: StableHlo.unary main_cst_57 main_v130 (broadcastInDim S32x1x512x512 ![] bcast_S_S32x1x512x512 : (⟨S_, .f32⟩ : BufTy).Contents (Elt F) → (⟨S32x1x512x512, .f32⟩ : BufTy).Contents (Elt F))
  :: StableHlo.binary main_v127 main_v130 main_v131 (cmpf .ogt : (⟨S32x1x512x512, .f32⟩ : BufTy).Contents (Elt F) → (⟨S32x1x512x512, .f32⟩ : BufTy).Contents (Elt F) → (⟨S32x1x512x512, .i1⟩ : BufTy).Contents (Elt F))
  :: StableHlo.nullary main_cst_58 (constant S_ .f32 0x00000000#32)
  :: StableHlo.unary main_cst_58 main_v132 (broadcastInDim S32x1x512x512 ![] bcast_S_S32x1x512x512 : (⟨S_, .f32⟩ : BufTy).Contents (Elt F) → (⟨S32x1x512x512, .f32⟩ : BufTy).Contents (Elt F))
  :: StableHlo.binary main_v129_3 main_v132 main_v133 (cmpf .oeq : (⟨S32x1x512x512, .f32⟩ : BufTy).Contents (Elt F) → (⟨S32x1x512x512, .f32⟩ : BufTy).Contents (Elt F) → (⟨S32x1x512x512, .i1⟩ : BufTy).Contents (Elt F))
  :: StableHlo.binary main_v131 main_v133 main_v134 (andi : (⟨S32x1x512x512, .i1⟩ : BufTy).Contents (Elt F) → (⟨S32x1x512x512, .i1⟩ : BufTy).Contents (Elt F) → (⟨S32x1x512x512, .i1⟩ : BufTy).Contents (Elt F))
  :: StableHlo.nullary main_cst_59 (constant S_ .f32 0x41A00000#32)
  :: [] )
theorem m3_4_sub : (m3_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- 2 consecutive host operations of the host program, in order (window 3). -/
abbrev m3_5 : List (HloOp τ sig (Elt F)) :=
  ( StableHlo.unary main_cst_59 main_call11_v0 (broadcastInDim S32x1x512x512 ![] bcast_S_S32x1x512x512 : (⟨S_, .f32⟩ : BufTy).Contents (Elt F) → (⟨S32x1x512x512, .f32⟩ : BufTy).Contents (Elt F))
  :: StableHlo.ternary main_v134 main_call11_v0 main_v129_3 main_v135 (select : (⟨S32x1x512x512, .i1⟩ : BufTy).Contents (Elt F) → (⟨S32x1x512x512, .f32⟩ : BufTy).Contents (Elt F) → (⟨S32x1x512x512, .f32⟩ : BufTy).Contents (Elt F) → (⟨S32x1x512x512, .f32⟩ : BufTy).Contents (Elt F))
  :: [] )
theorem m3_5_sub : (m3_5 : List (HloOp τ sig (Elt F))).Forall fun op => op.bufs ⊆ StableHlo.tcRefs τ sig :=
  ⟨StableHlo.unary_bufs_sub .., StableHlo.ternary_bufs_sub ..⟩

/-- 26 consecutive host operations of the host program, in order (window 3). -/
abbrev m3_6 : List (HloOp τ sig (Elt F)) :=
  ( StableHlo.binary main_v125 main_v0 main_v136 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_60 (constant S_ .f32 0x00000000#32)
  :: StableHlo.binary main_v136 main_cst_60 main_v137 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_61 (constant S_ .f32 0x358637BD#32)
  :: StableHlo.binary main_v137 main_cst_61 main_v138 (addf : (⟨S_, .f32⟩ : BufTy).Contents (Elt F) → (⟨S_, .f32⟩ : BufTy).Contents (Elt F) → (⟨S_, .f32⟩ : BufTy).Contents (Elt F))
  :: StableHlo.nullary main_cst_62 (constant S_ .f32 0x00000000#32)
  :: StableHlo.binary main_v0 main_cst_62 main_v139 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_63 (constant S_ .f32 0x358637BD#32)
  :: StableHlo.binary main_v139 main_cst_63 main_v140 (addf : (⟨S_, .f32⟩ : BufTy).Contents (Elt F) → (⟨S_, .f32⟩ : BufTy).Contents (Elt F) → (⟨S_, .f32⟩ : BufTy).Contents (Elt F))
  :: StableHlo.binary main_v138 main_v140 main_v141 (Host.divf : (⟨S_, .f32⟩ : BufTy).Contents (Elt F) → (⟨S_, .f32⟩ : BufTy).Contents (Elt F) → (⟨S_, .f32⟩ : BufTy).Contents (Elt F))
  :: StableHlo.binary main_v135 main_v115 main_v142 (mulf : (⟨S32x1x512x512, .f32⟩ : BufTy).Contents (Elt F) → (⟨S32x1x512x512, .f32⟩ : BufTy).Contents (Elt F) → (⟨S32x1x512x512, .f32⟩ : BufTy).Contents (Elt F))
  :: StableHlo.nullary main_cst_64 (constant S_ .f32 0x00000000#32)
  :: StableHlo.binary main_v142 main_cst_64 main_v143 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_65 (constant S_ .f32 0x358637BD#32)
  :: StableHlo.binary main_v143 main_cst_65 main_v144 (addf : (⟨S_, .f32⟩ : BufTy).Contents (Elt F) → (⟨S_, .f32⟩ : BufTy).Contents (Elt F) → (⟨S_, .f32⟩ : BufTy).Contents (Elt F))
  :: StableHlo.nullary main_cst_66 (constant S_ .f32 0x00000000#32)
  :: StableHlo.binary main_v115 main_cst_66 main_v145 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F))
  :: StableHlo.nullary main_cst_67 (constant S_ .f32 0x358637BD#32)
  :: StableHlo.binary main_v145 main_cst_67 main_v146 (addf : (⟨S_, .f32⟩ : BufTy).Contents (Elt F) → (⟨S_, .f32⟩ : BufTy).Contents (Elt F) → (⟨S_, .f32⟩ : BufTy).Contents (Elt F))
  :: StableHlo.binary main_v144 main_v146 main_v147 (Host.divf : (⟨S_, .f32⟩ : BufTy).Contents (Elt F) → (⟨S_, .f32⟩ : BufTy).Contents (Elt F) → (⟨S_, .f32⟩ : BufTy).Contents (Elt F))
  :: StableHlo.binary main_v141 main_v147 main_v148 (addf : (⟨S_, .f32⟩ : BufTy).Contents (Elt F) → (⟨S_, .f32⟩ : BufTy).Contents (Elt F) → (⟨S_, .f32⟩ : BufTy).Contents (Elt F))
  :: StableHlo.nullary main_cst_68 (constant S_ .f32 0x3F000000#32)
  :: StableHlo.binary main_cst_68 main_v148 main_v149 (mulf : (⟨S_, .f32⟩ : BufTy).Contents (Elt F) → (⟨S_, .f32⟩ : BufTy).Contents (Elt F) → (⟨S_, .f32⟩ : BufTy).Contents (Elt F))
  :: StableHlo.nullary main_cst_69 (constant S_ .f32 0x3E4CCCCD#32)
  :: StableHlo.binary main_cst_69 main_v16 main_v150 (mulf : (⟨S_, .f32⟩ : BufTy).Contents (Elt F) → (⟨S_, .f32⟩ : BufTy).Contents (Elt F) → (⟨S_, .f32⟩ : BufTy).Contents (Elt F))
  :: StableHlo.nullary main_cst_70 (constant S_ .f32 0x3E4CCCCD#32)
  :: [] )
theorem m3_6_sub : (m3_6 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub ..⟩

/-- 14 consecutive host operations of the host program, in order (window 4). -/
abbrev m4_0 : List (HloOp τ sig (Elt F)) :=
  ( StableHlo.binary main_cst_70 main_v28 main_v151 (mulf : (⟨S_, .f32⟩ : BufTy).Contents (Elt F) → (⟨S_, .f32⟩ : BufTy).Contents (Elt F) → (⟨S_, .f32⟩ : BufTy).Contents (Elt F))
  :: StableHlo.binary main_v150 main_v151 main_v152 (addf : (⟨S_, .f32⟩ : BufTy).Contents (Elt F) → (⟨S_, .f32⟩ : BufTy).Contents (Elt F) → (⟨S_, .f32⟩ : BufTy).Contents (Elt F))
  :: StableHlo.nullary main_cst_71 (constant S_ .f32 0x3E4CCCCD#32)
  :: StableHlo.binary main_cst_71 main_v112 main_v153 (mulf : (⟨S_, .f32⟩ : BufTy).Contents (Elt F) → (⟨S_, .f32⟩ : BufTy).Contents (Elt F) → (⟨S_, .f32⟩ : BufTy).Contents (Elt F))
  :: StableHlo.binary main_v152 main_v153 main_v154 (addf : (⟨S_, .f32⟩ : BufTy).Contents (Elt F) → (⟨S_, .f32⟩ : BufTy).Contents (Elt F) → (⟨S_, .f32⟩ : BufTy).Contents (Elt F))
  :: StableHlo.nullary main_cst_72 (constant S_ .f32 0x3DCCCCCD#32)
  :: StableHlo.binary main_cst_72 main_v149 main_v155 (mulf : (⟨S_, .f32⟩ : BufTy).Contents (Elt F) → (⟨S_, .f32⟩ : BufTy).Contents (Elt F) → (⟨S_, .f32⟩ : BufTy).Contents (Elt F))
  :: StableHlo.binary main_v154 main_v155 main_v156 (addf : (⟨S_, .f32⟩ : BufTy).Contents (Elt F) → (⟨S_, .f32⟩ : BufTy).Contents (Elt F) → (⟨S_, .f32⟩ : BufTy).Contents (Elt F))
  :: StableHlo.nullary main_cst_73 (constant S_ .f32 0x3DCCCCCD#32)
  :: StableHlo.binary main_cst_73 main_v67 main_v157 (mulf : (⟨S_, .f32⟩ : BufTy).Contents (Elt F) → (⟨S_, .f32⟩ : BufTy).Contents (Elt F) → (⟨S_, .f32⟩ : BufTy).Contents (Elt F))
  :: StableHlo.binary main_v156 main_v157 main_v158 (addf : (⟨S_, .f32⟩ : BufTy).Contents (Elt F) → (⟨S_, .f32⟩ : BufTy).Contents (Elt F) → (⟨S_, .f32⟩ : BufTy).Contents (Elt F))
  :: StableHlo.nullary main_cst_74 (constant S_ .f32 0x3E4CCCCD#32)
  :: StableHlo.binary main_cst_74 main_v45 main_v159 (mulf : (⟨S_, .f32⟩ : BufTy).Contents (Elt F) → (⟨S_, .f32⟩ : BufTy).Contents (Elt F) → (⟨S_, .f32⟩ : BufTy).Contents (Elt F))
  :: StableHlo.binary main_v158 main_v159 main_v160 (addf : (⟨S_, .f32⟩ : BufTy).Contents (Elt F) → (⟨S_, .f32⟩ : BufTy).Contents (Elt F) → (⟨S_, .f32⟩ : BufTy).Contents (Elt F))
  :: [] )
theorem m4_0_sub : (m4_0 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub ..⟩

/-- loop 0's condition -/
abbrev cond0 : List (HloOp τ sig (Elt F)) :=
  ( StableHlo.nullary main_while0c_c_78 (constantI S_ 32 10#32)
  :: StableHlo.binary main_v81_0 main_while0c_c_78 main_while0c_v161 (cmpi .slt : (⟨S_, .i32⟩ : BufTy).Contents (Elt F) → (⟨S_, .i32⟩ : BufTy).Contents (Elt F) → (⟨S_, .i1⟩ : BufTy).Contents (Elt F))
  :: [] )
theorem cond0_sub : (cond0 : List (HloOp τ sig (Elt F))).Forall fun op => op.bufs ⊆ StableHlo.tcRefs τ sig :=
  ⟨StableHlo.nullary_bufs_sub .., StableHlo.binary_bufs_sub ..⟩

/-- 28 consecutive host operations of loop 0's body. -/
abbrev body0_0 : List (HloOp τ sig (Elt F)) :=
  ( StableHlo.nullary main_while0b_c_78 (constantI S_ 32 1#32)
  :: StableHlo.binary main_v81_1 main_while0b_c_78 main_while0b_v161 (addi : (⟨S_, .i32⟩ : BufTy).Contents (Elt F) → (⟨S_, .i32⟩ : BufTy).Contents (Elt F) → (⟨S_, .i32⟩ : BufTy).Contents (Elt F))
  :: StableHlo.unary main_v81_2 main_while0b_v162 (Host.negf : (⟨S32x1x512x512, .f32⟩ : BufTy).Contents (Elt F) → (⟨S32x1x512x512, .f32⟩ : BufTy).Contents (Elt F))
  :: StableHlo.nullary main_while0b_cst_79 (constant S_ .f32 0xFF800000#32)
  :: StableHlo.unary main_while0b_cst_79 main_while0b_v163 (broadcastInDim S_ ![] bcast_S_S_ : (⟨S_, .f32⟩ : BufTy).Contents (Elt F) → (⟨S_, .f32⟩ : BufTy).Contents (Elt F))
  :: StableHlo.binary main_while0b_v162 main_while0b_v163 main_while0b_v164 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_while0b_v164 main_while0b_v165 (Host.negf : (⟨S32x1x512x512, .f32⟩ : BufTy).Contents (Elt F) → (⟨S32x1x512x512, .f32⟩ : BufTy).Contents (Elt F))
  :: StableHlo.unary main_v81_2 main_while0b_v166 (Host.negf : (⟨S32x1x512x512, .f32⟩ : BufTy).Contents (Elt F) → (⟨S32x1x512x512, .f32⟩ : BufTy).Contents (Elt F))
  :: StableHlo.nullary main_while0b_cst_80 (constant S_ .f32 0xFF800000#32)
  :: StableHlo.unary main_while0b_cst_80 main_while0b_v167 (broadcastInDim S_ ![] bcast_S_S_ : (⟨S_, .f32⟩ : BufTy).Contents (Elt F) → (⟨S_, .f32⟩ : BufTy).Contents (Elt F))
  :: StableHlo.binary main_while0b_v166 main_while0b_v167 main_while0b_v168 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while0b_v168 main_while0b_v169 (Host.negf : (⟨S32x1x512x512, .f32⟩ : BufTy).Contents (Elt F) → (⟨S32x1x512x512, .f32⟩ : BufTy).Contents (Elt F))
  :: StableHlo.binary main_while0b_v165 main_while0b_v169 main_while0b_v170 (minimumf : (⟨S32x1x512x512, .f32⟩ : BufTy).Contents (Elt F) → (⟨S32x1x512x512, .f32⟩ : BufTy).Contents (Elt F) → (⟨S32x1x512x512, .f32⟩ : BufTy).Contents (Elt F))
  :: StableHlo.unary main_while0b_v170 main_while0b_v171 (Host.negf : (⟨S32x1x512x512, .f32⟩ : BufTy).Contents (Elt F) → (⟨S32x1x512x512, .f32⟩ : BufTy).Contents (Elt F))
  :: StableHlo.nullary main_while0b_cst_81 (constant S_ .f32 0xFF800000#32)
  :: StableHlo.unary main_while0b_cst_81 main_while0b_v172 (broadcastInDim S_ ![] bcast_S_S_ : (⟨S_, .f32⟩ : BufTy).Contents (Elt F) → (⟨S_, .f32⟩ : BufTy).Contents (Elt F))
  :: StableHlo.binary main_while0b_v171 main_while0b_v172 main_while0b_v173 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_while0b_v173 main_while0b_v174 (Host.negf : (⟨S32x1x512x512, .f32⟩ : BufTy).Contents (Elt F) → (⟨S32x1x512x512, .f32⟩ : BufTy).Contents (Elt F))
  :: StableHlo.unary main_while0b_v170 main_while0b_v175 (Host.negf : (⟨S32x1x512x512, .f32⟩ : BufTy).Contents (Elt F) → (⟨S32x1x512x512, .f32⟩ : BufTy).Contents (Elt F))
  :: StableHlo.nullary main_while0b_cst_82 (constant S_ .f32 0xFF800000#32)
  :: StableHlo.unary main_while0b_cst_82 main_while0b_v176 (broadcastInDim S_ ![] bcast_S_S_ : (⟨S_, .f32⟩ : BufTy).Contents (Elt F) → (⟨S_, .f32⟩ : BufTy).Contents (Elt F))
  :: StableHlo.binary main_while0b_v175 main_while0b_v176 main_while0b_v177 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while0b_v177 main_while0b_v178 (Host.negf : (⟨S32x1x512x512, .f32⟩ : BufTy).Contents (Elt F) → (⟨S32x1x512x512, .f32⟩ : BufTy).Contents (Elt F))
  :: StableHlo.binary main_while0b_v174 main_while0b_v178 main_while0b_v179 (minimumf : (⟨S32x1x512x512, .f32⟩ : BufTy).Contents (Elt F) → (⟨S32x1x512x512, .f32⟩ : BufTy).Contents (Elt F) → (⟨S32x1x512x512, .f32⟩ : BufTy).Contents (Elt F))
  :: StableHlo.nullary main_while0b_cst_83 (constant S_ .f32 0xFF800000#32)
  :: StableHlo.unary main_while0b_cst_83 main_while0b_v180 (broadcastInDim S_ ![] bcast_S_S_ : (⟨S_, .f32⟩ : BufTy).Contents (Elt F) → (⟨S_, .f32⟩ : BufTy).Contents (Elt F))
  :: StableHlo.binary main_while0b_v179 main_while0b_v180 main_while0b_v181 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.binary main_while0b_v170 main_while0b_v181 main_while0b_v182 (subf : (⟨S32x1x512x512, .f32⟩ : BufTy).Contents (Elt F) → (⟨S32x1x512x512, .f32⟩ : BufTy).Contents (Elt F) → (⟨S32x1x512x512, .f32⟩ : BufTy).Contents (Elt F))
  :: [] )
theorem body0_0_sub : (body0_0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- 3 consecutive host operations of loop 0's body. -/
abbrev body0_1 : List (HloOp τ sig (Elt F)) :=
  ( StableHlo.nullary main_while0b_call3_cst (constant S_ .f32 0x00000000#32)
  :: StableHlo.unary main_while0b_call3_cst main_while0b_call3_v0 (broadcastInDim S32x1x512x512 ![] bcast_S_S32x1x512x512 : (⟨S_, .f32⟩ : BufTy).Contents (Elt F) → (⟨S32x1x512x512, .f32⟩ : BufTy).Contents (Elt F))
  :: StableHlo.binary main_while0b_v182 main_while0b_call3_v0 main_while0b_v183 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem body0_1_sub : (body0_1 : List (HloOp τ sig (Elt F))).Forall fun op => op.bufs ⊆ StableHlo.tcRefs τ sig :=
  ⟨StableHlo.nullary_bufs_sub .., StableHlo.unary_bufs_sub .., StableHlo.binary_bufs_sub ..⟩

/-- 2 consecutive host operations of loop 0's body. -/
abbrev body0_2 : List (HloOp τ sig (Elt F)) :=
  ( StableHlo.binary main_v81_3 main_while0b_v183 main_while0b_v184 (mulf : (⟨S32x1x512x512, .f32⟩ : BufTy).Contents (Elt F) → (⟨S32x1x512x512, .f32⟩ : BufTy).Contents (Elt F) → (⟨S32x1x512x512, .f32⟩ : BufTy).Contents (Elt F))
  :: StableHlo.binary main_while0b_v183 main_while0b_v184 main_while0b_v185 (subf : (⟨S32x1x512x512, .f32⟩ : BufTy).Contents (Elt F) → (⟨S32x1x512x512, .f32⟩ : BufTy).Contents (Elt F) → (⟨S32x1x512x512, .f32⟩ : BufTy).Contents (Elt F))
  :: [] )
theorem body0_2_sub : (body0_2 : List (HloOp τ sig (Elt F))).Forall fun op => op.bufs ⊆ StableHlo.tcRefs τ sig :=
  ⟨StableHlo.binary_bufs_sub .., StableHlo.binary_bufs_sub ..⟩

/-- 3 consecutive host operations of loop 0's body. -/
abbrev body0_3 : List (HloOp τ sig (Elt F)) :=
  ( StableHlo.nullary main_while0b_call4_cst (constant S_ .f32 0x00000000#32)
  :: StableHlo.unary main_while0b_call4_cst main_while0b_call4_v0 (broadcastInDim S32x1x512x512 ![] bcast_S_S32x1x512x512 : (⟨S_, .f32⟩ : BufTy).Contents (Elt F) → (⟨S32x1x512x512, .f32⟩ : BufTy).Contents (Elt F))
  :: StableHlo.binary main_while0b_v185 main_while0b_call4_v0 main_while0b_v186 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem body0_3_sub : (body0_3 : List (HloOp τ sig (Elt F))).Forall fun op => op.bufs ⊆ StableHlo.tcRefs τ sig :=
  ⟨StableHlo.nullary_bufs_sub .., StableHlo.unary_bufs_sub .., StableHlo.binary_bufs_sub ..⟩

/-- 7 consecutive host operations of loop 0's body. -/
abbrev body0_4 : List (HloOp τ sig (Elt F)) :=
  ( StableHlo.binary main_v81_3 main_while0b_v186 main_while0b_v187 (addf : (⟨S32x1x512x512, .f32⟩ : BufTy).Contents (Elt F) → (⟨S32x1x512x512, .f32⟩ : BufTy).Contents (Elt F) → (⟨S32x1x512x512, .f32⟩ : BufTy).Contents (Elt F))
  :: StableHlo.nullary main_while0b_c_84 (constantI S_ 32 1#32)
  :: StableHlo.binary main_v81_0 main_while0b_c_84 main_while0b_v188 (addi : (⟨S_, .i32⟩ : BufTy).Contents (Elt F) → (⟨S_, .i32⟩ : BufTy).Contents (Elt F) → (⟨S_, .i32⟩ : BufTy).Contents (Elt F))
  :: StableHlo.unary main_while0b_v188 main_v81_0 id
  :: StableHlo.unary main_while0b_v161 main_v81_1 id
  :: StableHlo.unary main_while0b_v170 main_v81_2 id
  :: StableHlo.unary main_while0b_v187 main_v81_3 id
  :: [] )
theorem body0_4_sub : (body0_4 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.unary_bufs_sub .., StableHlo.unary_bufs_sub ..⟩

/-- loop 1's condition -/
abbrev cond1 : List (HloOp τ sig (Elt F)) :=
  ( StableHlo.nullary main_while1c_c_78 (constantI S_ 32 10#32)
  :: StableHlo.binary main_v95_0 main_while1c_c_78 main_while1c_v161 (cmpi .slt : (⟨S_, .i32⟩ : BufTy).Contents (Elt F) → (⟨S_, .i32⟩ : BufTy).Contents (Elt F) → (⟨S_, .i1⟩ : BufTy).Contents (Elt F))
  :: [] )
theorem cond1_sub : (cond1 : List (HloOp τ sig (Elt F))).Forall fun op => op.bufs ⊆ StableHlo.tcRefs τ sig :=
  ⟨StableHlo.nullary_bufs_sub .., StableHlo.binary_bufs_sub ..⟩

/-- 28 consecutive host operations of loop 1's body. -/
abbrev body1_0 : List (HloOp τ sig (Elt F)) :=
  ( StableHlo.nullary main_while1b_c_78 (constantI S_ 32 1#32)
  :: StableHlo.binary main_v95_1 main_while1b_c_78 main_while1b_v161 (addi : (⟨S_, .i32⟩ : BufTy).Contents (Elt F) → (⟨S_, .i32⟩ : BufTy).Contents (Elt F) → (⟨S_, .i32⟩ : BufTy).Contents (Elt F))
  :: StableHlo.unary main_v95_2 main_while1b_v162 (Host.negf : (⟨S32x1x512x512, .f32⟩ : BufTy).Contents (Elt F) → (⟨S32x1x512x512, .f32⟩ : BufTy).Contents (Elt F))
  :: StableHlo.nullary main_while1b_cst_79 (constant S_ .f32 0xFF800000#32)
  :: StableHlo.unary main_while1b_cst_79 main_while1b_v163 (broadcastInDim S_ ![] bcast_S_S_ : (⟨S_, .f32⟩ : BufTy).Contents (Elt F) → (⟨S_, .f32⟩ : BufTy).Contents (Elt F))
  :: StableHlo.binary main_while1b_v162 main_while1b_v163 main_while1b_v164 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_while1b_v164 main_while1b_v165 (Host.negf : (⟨S32x1x512x512, .f32⟩ : BufTy).Contents (Elt F) → (⟨S32x1x512x512, .f32⟩ : BufTy).Contents (Elt F))
  :: StableHlo.unary main_v95_2 main_while1b_v166 (Host.negf : (⟨S32x1x512x512, .f32⟩ : BufTy).Contents (Elt F) → (⟨S32x1x512x512, .f32⟩ : BufTy).Contents (Elt F))
  :: StableHlo.nullary main_while1b_cst_80 (constant S_ .f32 0xFF800000#32)
  :: StableHlo.unary main_while1b_cst_80 main_while1b_v167 (broadcastInDim S_ ![] bcast_S_S_ : (⟨S_, .f32⟩ : BufTy).Contents (Elt F) → (⟨S_, .f32⟩ : BufTy).Contents (Elt F))
  :: StableHlo.binary main_while1b_v166 main_while1b_v167 main_while1b_v168 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while1b_v168 main_while1b_v169 (Host.negf : (⟨S32x1x512x512, .f32⟩ : BufTy).Contents (Elt F) → (⟨S32x1x512x512, .f32⟩ : BufTy).Contents (Elt F))
  :: StableHlo.binary main_while1b_v165 main_while1b_v169 main_while1b_v170 (minimumf : (⟨S32x1x512x512, .f32⟩ : BufTy).Contents (Elt F) → (⟨S32x1x512x512, .f32⟩ : BufTy).Contents (Elt F) → (⟨S32x1x512x512, .f32⟩ : BufTy).Contents (Elt F))
  :: StableHlo.unary main_while1b_v170 main_while1b_v171 (Host.negf : (⟨S32x1x512x512, .f32⟩ : BufTy).Contents (Elt F) → (⟨S32x1x512x512, .f32⟩ : BufTy).Contents (Elt F))
  :: StableHlo.nullary main_while1b_cst_81 (constant S_ .f32 0xFF800000#32)
  :: StableHlo.unary main_while1b_cst_81 main_while1b_v172 (broadcastInDim S_ ![] bcast_S_S_ : (⟨S_, .f32⟩ : BufTy).Contents (Elt F) → (⟨S_, .f32⟩ : BufTy).Contents (Elt F))
  :: StableHlo.binary main_while1b_v171 main_while1b_v172 main_while1b_v173 ((fun x v => Host.reduceWindow FloatOps.maximumf ![1, 1, 3, 1] ![1, 1, 1, 1] ![0, 0, 1, 0] ![0, 0, 1, 0] x v reduceWindows_S32x1x512x512_S32x1x512x512_w1s1p0_0_w1s1p0_0_w3s1p1_1_w1s1p0_0 h_S_) : (⟨S32x1x512x512, .f32⟩ : BufTy).Contents (Elt F) → (⟨S_, .f32⟩ : BufTy).Contents (Elt F) → (⟨S32x1x512x512, .f32⟩ : BufTy).Contents (Elt F))
  :: StableHlo.unary main_while1b_v173 main_while1b_v174 (Host.negf : (⟨S32x1x512x512, .f32⟩ : BufTy).Contents (Elt F) → (⟨S32x1x512x512, .f32⟩ : BufTy).Contents (Elt F))
  :: StableHlo.unary main_while1b_v170 main_while1b_v175 (Host.negf : (⟨S32x1x512x512, .f32⟩ : BufTy).Contents (Elt F) → (⟨S32x1x512x512, .f32⟩ : BufTy).Contents (Elt F))
  :: StableHlo.nullary main_while1b_cst_82 (constant S_ .f32 0xFF800000#32)
  :: StableHlo.unary main_while1b_cst_82 main_while1b_v176 (broadcastInDim S_ ![] bcast_S_S_ : (⟨S_, .f32⟩ : BufTy).Contents (Elt F) → (⟨S_, .f32⟩ : BufTy).Contents (Elt F))
  :: StableHlo.binary main_while1b_v175 main_while1b_v176 main_while1b_v177 ((fun x v => Host.reduceWindow FloatOps.maximumf ![1, 1, 1, 3] ![1, 1, 1, 1] ![0, 0, 0, 1] ![0, 0, 0, 1] x v reduceWindows_S32x1x512x512_S32x1x512x512_w1s1p0_0_w1s1p0_0_w1s1p0_0_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while1b_v177 main_while1b_v178 (Host.negf : (⟨S32x1x512x512, .f32⟩ : BufTy).Contents (Elt F) → (⟨S32x1x512x512, .f32⟩ : BufTy).Contents (Elt F))
  :: StableHlo.binary main_while1b_v174 main_while1b_v178 main_while1b_v179 (minimumf : (⟨S32x1x512x512, .f32⟩ : BufTy).Contents (Elt F) → (⟨S32x1x512x512, .f32⟩ : BufTy).Contents (Elt F) → (⟨S32x1x512x512, .f32⟩ : BufTy).Contents (Elt F))
  :: StableHlo.nullary main_while1b_cst_83 (constant S_ .f32 0xFF800000#32)
  :: StableHlo.unary main_while1b_cst_83 main_while1b_v180 (broadcastInDim S_ ![] bcast_S_S_ : (⟨S_, .f32⟩ : BufTy).Contents (Elt F) → (⟨S_, .f32⟩ : BufTy).Contents (Elt F))
  :: StableHlo.binary main_while1b_v179 main_while1b_v180 main_while1b_v181 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.binary main_while1b_v170 main_while1b_v181 main_while1b_v182 (subf : (⟨S32x1x512x512, .f32⟩ : BufTy).Contents (Elt F) → (⟨S32x1x512x512, .f32⟩ : BufTy).Contents (Elt F) → (⟨S32x1x512x512, .f32⟩ : BufTy).Contents (Elt F))
  :: [] )
theorem body1_0_sub : (body1_0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- 3 consecutive host operations of loop 1's body. -/
abbrev body1_1 : List (HloOp τ sig (Elt F)) :=
  ( StableHlo.nullary main_while1b_call6_cst (constant S_ .f32 0x00000000#32)
  :: StableHlo.unary main_while1b_call6_cst main_while1b_call6_v0 (broadcastInDim S32x1x512x512 ![] bcast_S_S32x1x512x512 : (⟨S_, .f32⟩ : BufTy).Contents (Elt F) → (⟨S32x1x512x512, .f32⟩ : BufTy).Contents (Elt F))
  :: StableHlo.binary main_while1b_v182 main_while1b_call6_v0 main_while1b_v183 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem body1_1_sub : (body1_1 : List (HloOp τ sig (Elt F))).Forall fun op => op.bufs ⊆ StableHlo.tcRefs τ sig :=
  ⟨StableHlo.nullary_bufs_sub .., StableHlo.unary_bufs_sub .., StableHlo.binary_bufs_sub ..⟩

/-- 2 consecutive host operations of loop 1's body. -/
abbrev body1_2 : List (HloOp τ sig (Elt F)) :=
  ( StableHlo.binary main_v95_3 main_while1b_v183 main_while1b_v184 (mulf : (⟨S32x1x512x512, .f32⟩ : BufTy).Contents (Elt F) → (⟨S32x1x512x512, .f32⟩ : BufTy).Contents (Elt F) → (⟨S32x1x512x512, .f32⟩ : BufTy).Contents (Elt F))
  :: StableHlo.binary main_while1b_v183 main_while1b_v184 main_while1b_v185 (subf : (⟨S32x1x512x512, .f32⟩ : BufTy).Contents (Elt F) → (⟨S32x1x512x512, .f32⟩ : BufTy).Contents (Elt F) → (⟨S32x1x512x512, .f32⟩ : BufTy).Contents (Elt F))
  :: [] )
theorem body1_2_sub : (body1_2 : List (HloOp τ sig (Elt F))).Forall fun op => op.bufs ⊆ StableHlo.tcRefs τ sig :=
  ⟨StableHlo.binary_bufs_sub .., StableHlo.binary_bufs_sub ..⟩

/-- 3 consecutive host operations of loop 1's body. -/
abbrev body1_3 : List (HloOp τ sig (Elt F)) :=
  ( StableHlo.nullary main_while1b_call7_cst (constant S_ .f32 0x00000000#32)
  :: StableHlo.unary main_while1b_call7_cst main_while1b_call7_v0 (broadcastInDim S32x1x512x512 ![] bcast_S_S32x1x512x512 : (⟨S_, .f32⟩ : BufTy).Contents (Elt F) → (⟨S32x1x512x512, .f32⟩ : BufTy).Contents (Elt F))
  :: StableHlo.binary main_while1b_v185 main_while1b_call7_v0 main_while1b_v186 (maximumf : (⟨S32x1x512x512, .f32⟩ : BufTy).Contents (Elt F) → (⟨S32x1x512x512, .f32⟩ : BufTy).Contents (Elt F) → (⟨S32x1x512x512, .f32⟩ : BufTy).Contents (Elt F))
  :: [] )
theorem body1_3_sub : (body1_3 : List (HloOp τ sig (Elt F))).Forall fun op => op.bufs ⊆ StableHlo.tcRefs τ sig :=
  ⟨StableHlo.nullary_bufs_sub .., StableHlo.unary_bufs_sub .., StableHlo.binary_bufs_sub ..⟩

/-- 7 consecutive host operations of loop 1's body. -/
abbrev body1_4 : List (HloOp τ sig (Elt F)) :=
  ( StableHlo.binary main_v95_3 main_while1b_v186 main_while1b_v187 (addf : (⟨S32x1x512x512, .f32⟩ : BufTy).Contents (Elt F) → (⟨S32x1x512x512, .f32⟩ : BufTy).Contents (Elt F) → (⟨S32x1x512x512, .f32⟩ : BufTy).Contents (Elt F))
  :: StableHlo.nullary main_while1b_c_84 (constantI S_ 32 1#32)
  :: StableHlo.binary main_v95_0 main_while1b_c_84 main_while1b_v188 (addi : (⟨S_, .i32⟩ : BufTy).Contents (Elt F) → (⟨S_, .i32⟩ : BufTy).Contents (Elt F) → (⟨S_, .i32⟩ : BufTy).Contents (Elt F))
  :: StableHlo.unary main_while1b_v188 main_v95_0 id
  :: StableHlo.unary main_while1b_v161 main_v95_1 id
  :: StableHlo.unary main_while1b_v170 main_v95_2 id
  :: StableHlo.unary main_while1b_v187 main_v95_3 id
  :: [] )
theorem body1_4_sub : (body1_4 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.unary_bufs_sub .., StableHlo.unary_bufs_sub ..⟩

/-- loop 2's condition -/
abbrev cond2 : List (HloOp τ sig (Elt F)) :=
  ( StableHlo.nullary main_while2c_c_78 (constantI S_ 32 20#32)
  :: StableHlo.binary main_v119_0 main_while2c_c_78 main_while2c_v161 (cmpi .slt : (⟨S_, .i32⟩ : BufTy).Contents (Elt F) → (⟨S_, .i32⟩ : BufTy).Contents (Elt F) → (⟨S_, .i1⟩ : BufTy).Contents (Elt F))
  :: [] )
theorem cond2_sub : (cond2 : List (HloOp τ sig (Elt F))).Forall fun op => op.bufs ⊆ StableHlo.tcRefs τ sig :=
  ⟨StableHlo.nullary_bufs_sub .., StableHlo.binary_bufs_sub ..⟩

/-- 19 consecutive host operations of loop 2's body. -/
abbrev body2_0 : List (HloOp τ sig (Elt F)) :=
  ( StableHlo.nullary main_while2b_c_78 (constantI S_ 32 1#32)
  :: StableHlo.binary main_v119_1 main_while2b_c_78 main_while2b_v161 (addi : (⟨S_, .i32⟩ : BufTy).Contents (Elt F) → (⟨S_, .i32⟩ : BufTy).Contents (Elt F) → (⟨S_, .i32⟩ : BufTy).Contents (Elt F))
  :: StableHlo.unary main_v119_2 main_while2b_v162 (Host.negf : (⟨S32x1x512x512, .f32⟩ : BufTy).Contents (Elt F) → (⟨S32x1x512x512, .f32⟩ : BufTy).Contents (Elt F))
  :: StableHlo.nullary main_while2b_cst_79 (constant S_ .f32 0xFF800000#32)
  :: StableHlo.unary main_while2b_cst_79 main_while2b_v163 (broadcastInDim S_ ![] bcast_S_S_ : (⟨S_, .f32⟩ : BufTy).Contents (Elt F) → (⟨S_, .f32⟩ : BufTy).Contents (Elt F))
  :: StableHlo.binary main_while2b_v162 main_while2b_v163 main_while2b_v164 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while2b_v164 main_while2b_v165 (Host.negf : (⟨S32x1x512x512, .f32⟩ : BufTy).Contents (Elt F) → (⟨S32x1x512x512, .f32⟩ : BufTy).Contents (Elt F))
  :: StableHlo.nullary main_while2b_cst_80 (constant S_ .f32 0x3F000000#32)
  :: StableHlo.unary main_while2b_cst_80 main_while2b_v166 (broadcastInDim S32x1x512x512 ![] bcast_S_S32x1x512x512 : (⟨S_, .f32⟩ : BufTy).Contents (Elt F) → (⟨S32x1x512x512, .f32⟩ : BufTy).Contents (Elt F))
  :: StableHlo.binary main_v119_2 main_while2b_v166 main_while2b_v167 (cmpf .ogt : (⟨S32x1x512x512, .f32⟩ : BufTy).Contents (Elt F) → (⟨S32x1x512x512, .f32⟩ : BufTy).Contents (Elt F) → (⟨S32x1x512x512, .i1⟩ : BufTy).Contents (Elt F))
  :: StableHlo.nullary main_while2b_cst_81 (constant S_ .f32 0x3F000000#32)
  :: StableHlo.unary main_while2b_cst_81 main_while2b_v168 (broadcastInDim S32x1x512x512 ![] bcast_S_S32x1x512x512 : (⟨S_, .f32⟩ : BufTy).Contents (Elt F) → (⟨S32x1x512x512, .f32⟩ : BufTy).Contents (Elt F))
  :: StableHlo.binary main_while2b_v165 main_while2b_v168 main_while2b_v169 (cmpf .olt : (⟨S32x1x512x512, .f32⟩ : BufTy).Contents (Elt F) → (⟨S32x1x512x512, .f32⟩ : BufTy).Contents (Elt F) → (⟨S32x1x512x512, .i1⟩ : BufTy).Contents (Elt F))
  :: StableHlo.binary main_while2b_v167 main_while2b_v169 main_while2b_v170 (andi : (⟨S32x1x512x512, .i1⟩ : BufTy).Contents (Elt F) → (⟨S32x1x512x512, .i1⟩ : BufTy).Contents (Elt F) → (⟨S32x1x512x512, .i1⟩ : BufTy).Contents (Elt F))
  :: StableHlo.nullary main_while2b_cst_82 (constant S_ .f32 0x00000000#32)
  :: StableHlo.unary main_while2b_cst_82 main_while2b_v171 (broadcastInDim S32x1x512x512 ![] bcast_S_S32x1x512x512 : (⟨S_, .f32⟩ : BufTy).Contents (Elt F) → (⟨S32x1x512x512, .f32⟩ : BufTy).Contents (Elt F))
  :: StableHlo.binary main_v119_3 main_while2b_v171 main_while2b_v172 (cmpf .oeq : (⟨S32x1x512x512, .f32⟩ : BufTy).Contents (Elt F) → (⟨S32x1x512x512, .f32⟩ : BufTy).Contents (Elt F) → (⟨S32x1x512x512, .i1⟩ : BufTy).Contents (Elt F))
  :: StableHlo.binary main_while2b_v170 main_while2b_v172 main_while2b_v173 (andi : (⟨S32x1x512x512, .i1⟩ : BufTy).Contents (Elt F) → (⟨S32x1x512x512, .i1⟩ : BufTy).Contents (Elt F) → (⟨S32x1x512x512, .i1⟩ : BufTy).Contents (Elt F))
  :: StableHlo.unary main_v119_1 main_while2b_v174 (sitofp .f32 : (⟨S_, .i32⟩ : BufTy).Contents (Elt F) → (⟨S_, .f32⟩ : BufTy).Contents (Elt F))
  :: [] )
theorem body2_0_sub : (body2_0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩

/-- 2 consecutive host operations of loop 2's body. -/
abbrev body2_1 : List (HloOp τ sig (Elt F)) :=
  ( StableHlo.unary main_while2b_v174 main_while2b_call8_v0 (broadcastInDim S32x1x512x512 ![] bcast_S_S32x1x512x512 : (⟨S_, .f32⟩ : BufTy).Contents (Elt F) → (⟨S32x1x512x512, .f32⟩ : BufTy).Contents (Elt F))
  :: StableHlo.ternary main_while2b_v173 main_while2b_call8_v0 main_v119_3 main_while2b_v175 (select : (⟨S32x1x512x512, .i1⟩ : BufTy).Contents (Elt F) → (⟨S32x1x512x512, .f32⟩ : BufTy).Contents (Elt F) → (⟨S32x1x512x512, .f32⟩ : BufTy).Contents (Elt F) → (⟨S32x1x512x512, .f32⟩ : BufTy).Contents (Elt F))
  :: [] )
theorem body2_1_sub : (body2_1 : List (HloOp τ sig (Elt F))).Forall fun op => op.bufs ⊆ StableHlo.tcRefs τ sig :=
  ⟨StableHlo.unary_bufs_sub .., StableHlo.ternary_bufs_sub ..⟩

/-- 6 consecutive host operations of loop 2's body. -/
abbrev body2_2 : List (HloOp τ sig (Elt F)) :=
  ( StableHlo.nullary main_while2b_c_83 (constantI S_ 32 1#32)
  :: StableHlo.binary main_v119_0 main_while2b_c_83 main_while2b_v176 (addi : (⟨S_, .i32⟩ : BufTy).Contents (Elt F) → (⟨S_, .i32⟩ : BufTy).Contents (Elt F) → (⟨S_, .i32⟩ : BufTy).Contents (Elt F))
  :: StableHlo.unary main_while2b_v176 main_v119_0 id
  :: StableHlo.unary main_while2b_v161 main_v119_1 id
  :: StableHlo.unary main_while2b_v165 main_v119_2 id
  :: StableHlo.unary main_while2b_v175 main_v119_3 id
  :: [] )
theorem body2_2_sub : (body2_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- loop 3's condition -/
abbrev cond3 : List (HloOp τ sig (Elt F)) :=
  ( StableHlo.nullary main_while3c_c_78 (constantI S_ 32 20#32)
  :: StableHlo.binary main_v129_0 main_while3c_c_78 main_while3c_v161 (cmpi .slt : (⟨S_, .i32⟩ : BufTy).Contents (Elt F) → (⟨S_, .i32⟩ : BufTy).Contents (Elt F) → (⟨S_, .i1⟩ : BufTy).Contents (Elt F))
  :: [] )
theorem cond3_sub : (cond3 : List (HloOp τ sig (Elt F))).Forall fun op => op.bufs ⊆ StableHlo.tcRefs τ sig :=
  ⟨StableHlo.nullary_bufs_sub .., StableHlo.binary_bufs_sub ..⟩

/-- 19 consecutive host operations of loop 3's body. -/
abbrev body3_0 : List (HloOp τ sig (Elt F)) :=
  ( StableHlo.nullary main_while3b_c_78 (constantI S_ 32 1#32)
  :: StableHlo.binary main_v129_1 main_while3b_c_78 main_while3b_v161 (addi : (⟨S_, .i32⟩ : BufTy).Contents (Elt F) → (⟨S_, .i32⟩ : BufTy).Contents (Elt F) → (⟨S_, .i32⟩ : BufTy).Contents (Elt F))
  :: StableHlo.unary main_v129_2 main_while3b_v162 (Host.negf : (⟨S32x1x512x512, .f32⟩ : BufTy).Contents (Elt F) → (⟨S32x1x512x512, .f32⟩ : BufTy).Contents (Elt F))
  :: StableHlo.nullary main_while3b_cst_79 (constant S_ .f32 0xFF800000#32)
  :: StableHlo.unary main_while3b_cst_79 main_while3b_v163 (broadcastInDim S_ ![] bcast_S_S_ : (⟨S_, .f32⟩ : BufTy).Contents (Elt F) → (⟨S_, .f32⟩ : BufTy).Contents (Elt F))
  :: StableHlo.binary main_while3b_v162 main_while3b_v163 main_while3b_v164 ((fun x v => Host.reduceWindow FloatOps.maximumf ![1, 1, 3, 3] ![1, 1, 1, 1] ![0, 0, 1, 1] ![0, 0, 1, 1] x v reduceWindows_S32x1x512x512_S32x1x512x512_w1s1p0_0_w1s1p0_0_w3s1p1_1_w3s1p1_1 h_S_) : (⟨S32x1x512x512, .f32⟩ : BufTy).Contents (Elt F) → (⟨S_, .f32⟩ : BufTy).Contents (Elt F) → (⟨S32x1x512x512, .f32⟩ : BufTy).Contents (Elt F))
  :: StableHlo.unary main_while3b_v164 main_while3b_v165 (Host.negf : (⟨S32x1x512x512, .f32⟩ : BufTy).Contents (Elt F) → (⟨S32x1x512x512, .f32⟩ : BufTy).Contents (Elt F))
  :: StableHlo.nullary main_while3b_cst_80 (constant S_ .f32 0x3F000000#32)
  :: StableHlo.unary main_while3b_cst_80 main_while3b_v166 (broadcastInDim S32x1x512x512 ![] bcast_S_S32x1x512x512 : (⟨S_, .f32⟩ : BufTy).Contents (Elt F) → (⟨S32x1x512x512, .f32⟩ : BufTy).Contents (Elt F))
  :: StableHlo.binary main_v129_2 main_while3b_v166 main_while3b_v167 (cmpf .ogt : (⟨S32x1x512x512, .f32⟩ : BufTy).Contents (Elt F) → (⟨S32x1x512x512, .f32⟩ : BufTy).Contents (Elt F) → (⟨S32x1x512x512, .i1⟩ : BufTy).Contents (Elt F))
  :: StableHlo.nullary main_while3b_cst_81 (constant S_ .f32 0x3F000000#32)
  :: StableHlo.unary main_while3b_cst_81 main_while3b_v168 (broadcastInDim S32x1x512x512 ![] bcast_S_S32x1x512x512 : (⟨S_, .f32⟩ : BufTy).Contents (Elt F) → (⟨S32x1x512x512, .f32⟩ : BufTy).Contents (Elt F))
  :: StableHlo.binary main_while3b_v165 main_while3b_v168 main_while3b_v169 (cmpf .olt : (⟨S32x1x512x512, .f32⟩ : BufTy).Contents (Elt F) → (⟨S32x1x512x512, .f32⟩ : BufTy).Contents (Elt F) → (⟨S32x1x512x512, .i1⟩ : BufTy).Contents (Elt F))
  :: StableHlo.binary main_while3b_v167 main_while3b_v169 main_while3b_v170 (andi : (⟨S32x1x512x512, .i1⟩ : BufTy).Contents (Elt F) → (⟨S32x1x512x512, .i1⟩ : BufTy).Contents (Elt F) → (⟨S32x1x512x512, .i1⟩ : BufTy).Contents (Elt F))
  :: StableHlo.nullary main_while3b_cst_82 (constant S_ .f32 0x00000000#32)
  :: StableHlo.unary main_while3b_cst_82 main_while3b_v171 (broadcastInDim S32x1x512x512 ![] bcast_S_S32x1x512x512 : (⟨S_, .f32⟩ : BufTy).Contents (Elt F) → (⟨S32x1x512x512, .f32⟩ : BufTy).Contents (Elt F))
  :: StableHlo.binary main_v129_3 main_while3b_v171 main_while3b_v172 (cmpf .oeq : (⟨S32x1x512x512, .f32⟩ : BufTy).Contents (Elt F) → (⟨S32x1x512x512, .f32⟩ : BufTy).Contents (Elt F) → (⟨S32x1x512x512, .i1⟩ : BufTy).Contents (Elt F))
  :: StableHlo.binary main_while3b_v170 main_while3b_v172 main_while3b_v173 (andi : (⟨S32x1x512x512, .i1⟩ : BufTy).Contents (Elt F) → (⟨S32x1x512x512, .i1⟩ : BufTy).Contents (Elt F) → (⟨S32x1x512x512, .i1⟩ : BufTy).Contents (Elt F))
  :: StableHlo.unary main_v129_1 main_while3b_v174 (sitofp .f32 : (⟨S_, .i32⟩ : BufTy).Contents (Elt F) → (⟨S_, .f32⟩ : BufTy).Contents (Elt F))
  :: [] )
theorem body3_0_sub : (body3_0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩

/-- 2 consecutive host operations of loop 3's body. -/
abbrev body3_1 : List (HloOp τ sig (Elt F)) :=
  ( StableHlo.unary main_while3b_v174 main_while3b_call10_v0 (broadcastInDim S32x1x512x512 ![] bcast_S_S32x1x512x512 : (⟨S_, .f32⟩ : BufTy).Contents (Elt F) → (⟨S32x1x512x512, .f32⟩ : BufTy).Contents (Elt F))
  :: StableHlo.ternary main_while3b_v173 main_while3b_call10_v0 main_v129_3 main_while3b_v175 (select : (⟨S32x1x512x512, .i1⟩ : BufTy).Contents (Elt F) → (⟨S32x1x512x512, .f32⟩ : BufTy).Contents (Elt F) → (⟨S32x1x512x512, .f32⟩ : BufTy).Contents (Elt F) → (⟨S32x1x512x512, .f32⟩ : BufTy).Contents (Elt F))
  :: [] )
theorem body3_1_sub : (body3_1 : List (HloOp τ sig (Elt F))).Forall fun op => op.bufs ⊆ StableHlo.tcRefs τ sig :=
  ⟨StableHlo.unary_bufs_sub .., StableHlo.ternary_bufs_sub ..⟩

/-- 6 consecutive host operations of loop 3's body. -/
abbrev body3_2 : List (HloOp τ sig (Elt F)) :=
  ( StableHlo.nullary main_while3b_c_83 (constantI S_ 32 1#32)
  :: StableHlo.binary main_v129_0 main_while3b_c_83 main_while3b_v176 (addi : (⟨S_, .i32⟩ : BufTy).Contents (Elt F) → (⟨S_, .i32⟩ : BufTy).Contents (Elt F) → (⟨S_, .i32⟩ : BufTy).Contents (Elt F))
  :: StableHlo.unary main_while3b_v176 main_v129_0 id
  :: StableHlo.unary main_while3b_v161 main_v129_1 id
  :: StableHlo.unary main_while3b_v165 main_v129_2 id
  :: StableHlo.unary main_while3b_v175 main_v129_3 id
  :: [] )
theorem body3_2_sub : (body3_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- Window 0 of the host program is the chain of its stretches and loops. -/
theorem main_part0_items (c : Dev nD) : main_part0 (F := F) c = (Pipeline.chainK [ StableHlo.seq m0_0,
    StableHlo.seq m0_1 ]
  (StableHlo.seq m0_2) : Prog (TpuEff nD τ sig (Elt F) (HostLoop.Sig (Pipeline.Sig Λ₀ (Fin 0) fun p => (pcfgs (F := F) p).Adm) 4) .tc) PUnit) := by
  rewrite [StableHlo.chainK_seq_cons, StableHlo.chainK_seq_cons]
  chain_rfl

/-- Window 1 of the host program is the chain of its stretches and loops. -/
theorem main_part1_items (c : Dev nD) : main_part1 (F := F) c = (Pipeline.chainK [ StableHlo.seq m1_0,
    StableHlo.seq m1_1,
    StableHlo.seq m1_2,
    StableHlo.seq m1_3,
    StableHlo.seq m1_4,
    HostLoop.enter 0 ]
  (StableHlo.seq m1_5) : Prog (TpuEff nD τ sig (Elt F) (HostLoop.Sig (Pipeline.Sig Λ₀ (Fin 0) fun p => (pcfgs (F := F) p).Adm) 4) .tc) PUnit) := by
  rewrite [StableHlo.chainK_seq_cons, StableHlo.chainK_seq_cons, StableHlo.chainK_seq_cons, StableHlo.chainK_seq_cons, StableHlo.chainK_seq_cons, Pipeline.chainK_cons]
  chain_rfl

/-- Window 2 of the host program is the chain of its stretches and loops. -/
theorem main_part2_items (c : Dev nD) : main_part2 (F := F) c = (Pipeline.chainK [ StableHlo.seq m2_0,
    StableHlo.seq m2_1,
    StableHlo.seq m2_2,
    HostLoop.enter 1 ]
  (StableHlo.seq m2_3) : Prog (TpuEff nD τ sig (Elt F) (HostLoop.Sig (Pipeline.Sig Λ₀ (Fin 0) fun p => (pcfgs (F := F) p).Adm) 4) .tc) PUnit) := by
  rewrite [StableHlo.chainK_seq_cons, StableHlo.chainK_seq_cons, StableHlo.chainK_seq_cons, Pipeline.chainK_cons]
  chain_rfl

/-- Window 3 of the host program is the chain of its stretches and loops. -/
theorem main_part3_items (c : Dev nD) : main_part3 (F := F) c = (Pipeline.chainK [ StableHlo.seq m3_0,
    HostLoop.enter 2,
    StableHlo.seq m3_1,
    StableHlo.seq m3_2,
    StableHlo.seq m3_3,
    HostLoop.enter 3,
    StableHlo.seq m3_4,
    StableHlo.seq m3_5 ]
  (StableHlo.seq m3_6) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, StableHlo.chainK_seq_cons, StableHlo.chainK_seq_cons, Pipeline.chainK_cons, StableHlo.chainK_seq_cons, StableHlo.chainK_seq_cons]
  chain_rfl

/-- Window 4 of the host program is the chain of its stretches and loops. -/
theorem main_part4_items (c : Dev nD) : main_part4 (F := F) c = (Pipeline.chain [ StableHlo.seq m4_0 ] : Prog (TpuEff nD τ sig (Elt F) (HostLoop.Sig (Pipeline.Sig Λ₀ (Fin 0) fun p => (pcfgs (F := F) p).Adm) 4) .tc) PUnit) := by
  rewrite [StableHlo.chain_seq_cons]
  chain_rfl

/-- Loop 0's body is the chain of its stretches. -/
theorem main_while0_items : main_while0_body (F := F) = (Pipeline.chain [ StableHlo.seq body0_0,
    StableHlo.seq body0_1,
    StableHlo.seq body0_2,
    StableHlo.seq body0_3,
    StableHlo.seq body0_4 ] : Prog (TpuEff nD τ sig (Elt F) (HostLoop.Sig (Pipeline.Sig Λ₀ (Fin 0) fun p => (pcfgs (F := F) p).Adm) 4) .tc) PUnit) := by
  rewrite [StableHlo.chain_seq_cons, StableHlo.chain_seq_cons, StableHlo.chain_seq_cons, StableHlo.chain_seq_cons, StableHlo.chain_seq_cons]
  chain_rfl

/-- Loop 1's body is the chain of its stretches. -/
theorem main_while1_items : main_while1_body (F := F) = (Pipeline.chain [ StableHlo.seq body1_0,
    StableHlo.seq body1_1,
    StableHlo.seq body1_2,
    StableHlo.seq body1_3,
    StableHlo.seq body1_4 ] : Prog (TpuEff nD τ sig (Elt F) (HostLoop.Sig (Pipeline.Sig Λ₀ (Fin 0) fun p => (pcfgs (F := F) p).Adm) 4) .tc) PUnit) := by
  rewrite [StableHlo.chain_seq_cons, StableHlo.chain_seq_cons, StableHlo.chain_seq_cons, StableHlo.chain_seq_cons, StableHlo.chain_seq_cons]
  chain_rfl

/-- Loop 2's body is the chain of its stretches. -/
theorem main_while2_items : main_while2_body (F := F) = (Pipeline.chain [ StableHlo.seq body2_0,
    StableHlo.seq body2_1,
    StableHlo.seq body2_2 ] : Prog (TpuEff nD τ sig (Elt F) (HostLoop.Sig (Pipeline.Sig Λ₀ (Fin 0) fun p => (pcfgs (F := F) p).Adm) 4) .tc) PUnit) := by
  rewrite [StableHlo.chain_seq_cons, StableHlo.chain_seq_cons, StableHlo.chain_seq_cons]
  chain_rfl

/-- Loop 3's body is the chain of its stretches. -/
theorem main_while3_items : main_while3_body (F := F) = (Pipeline.chain [ StableHlo.seq body3_0,
    StableHlo.seq body3_1,
    StableHlo.seq body3_2 ] : Prog (TpuEff nD τ sig (Elt F) (HostLoop.Sig (Pipeline.Sig Λ₀ (Fin 0) fun p => (pcfgs (F := F) p).Adm) 4) .tc) PUnit) := by
  rewrite [StableHlo.chain_seq_cons, StableHlo.chain_seq_cons, StableHlo.chain_seq_cons]
  chain_rfl

/-- The host program is the chain of all its stretches and its four loops. -/
theorem main_items (c : Dev nD) : main (F := F) c = (Pipeline.chain [ StableHlo.seq m0_0,
    StableHlo.seq m0_1,
    StableHlo.seq m0_2,
    StableHlo.seq m1_0,
    StableHlo.seq m1_1,
    StableHlo.seq m1_2,
    StableHlo.seq m1_3,
    StableHlo.seq m1_4,
    HostLoop.enter 0,
    StableHlo.seq m1_5,
    StableHlo.seq m2_0,
    StableHlo.seq m2_1,
    StableHlo.seq m2_2,
    HostLoop.enter 1,
    StableHlo.seq m2_3,
    StableHlo.seq m3_0,
    HostLoop.enter 2,
    StableHlo.seq m3_1,
    StableHlo.seq m3_2,
    StableHlo.seq m3_3,
    HostLoop.enter 3,
    StableHlo.seq m3_4,
    StableHlo.seq m3_5,
    StableHlo.seq m3_6,
    StableHlo.seq m4_0 ] : Prog (TpuEff nD τ sig (Elt F) (HostLoop.Sig (Pipeline.Sig Λ₀ (Fin 0) fun p => (pcfgs (F := F) p).Adm) 4) .tc) PUnit) := by
  show (main_part0 (F := F) c >>= fun _ => main_part1 (F := F) c >>= fun _ => main_part2 (F := F) c >>= fun _ => main_part3 (F := F) c >>= fun _ => main_part4 (F := F) c) = _
  rewrite [main_part4_items, main_part3_items, Pipeline.chainK_bind_chain, main_part2_items, Pipeline.chainK_bind_chain, main_part1_items, Pipeline.chainK_bind_chain, main_part0_items, Pipeline.chainK_bind_chain]
  chain_rfl

end Cert.Proof.RI

end
-- ==== Proof.RI.Run.lean ====
/-
  The run of the host reference: stretches of operations with four counted loops between them. A loop is entered with its
  counter at zero and runs a fixed number of trips; every buffer's contents at the end are the operations' effects folded
  over the program, a loop's body folded over its trips.
-/
module

public import proofs.«01_k».proof.Proof.RI.Ops
public import Idealize.ShloMosaic.Lib.Pipeline.KitQuiescent
public import Idealize.ShloMosaic.Lib.HostLoop.Rules

@[expose] public section

noncomputable section

namespace Cert.Proof.RI

open Cert.ReferenceIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL atTrip Plain LoopCond segsOf segsOf_chains segsOf_prog segsOf_M_T loopSeg)
open Idealize.ShloMosaic.Pipeline (CSeg Ticket ucRefs sub_ucRefs)

variable {F : FTy → Type} [FloatOps F]

local notation "𝕄" => MT nD τ sig Unit (Elt F) ℕ (Option PUnit) ℕ

/-- The programs of @main. -/
abbrev Pr (F : FTy → Type) [FloatOps F] (α : Type) :=
  Prog (TpuEff nD τ sig (Elt F) (HostLoop.Sig (Pipeline.Sig Λ₀ (Fin 0) fun p => (pcfgs (F := F) p).Adm) 4) .tc) α

/-- Every buffer's contents, core by core. -/
abbrev Vals (F : FTy → Type) := Dev nD → Valuation τ sig (Elt F)

/-! ## The pieces of the program -/

/-- A counted loop of the program: its label, its two regions as programs and as lists, and its number of trips. -/
structure Lp (F : FTy → Type) [FloatOps F] where
  l : Fin 4
  cond : Pr F (Elt F .i1)
  body : Pr F PUnit
  isLoop : loops (F := F) l = HostLoop.step l cond body
  condOps : List (HloOp τ sig (Elt F))
  bodyOps : List (List (HloOp τ sig (Elt F)))
  plain : Plain bodyOps
  isBody : body = Pipeline.chain (bodyOps.map fun ops => (StableHlo.seq ops : Pr F PUnit))
  n : ℕ

/-- A piece of the program: stretches of operations, or a loop. -/
inductive Piece (F : FTy → Type) [FloatOps F] where
  | ops (opss : List (List (HloOp τ sig (Elt F)))) (h : Plain opss)
  | loop (x : Lp F)

/-- The pieces as statements of the program. -/
def Piece.progs : Piece F → List (Pr F PUnit)
  | .ops opss _ => opss.map fun ops => StableHlo.seq ops
  | .loop x => [HostLoop.enter x.l]

/-- What a piece makes of the buffers. -/
def Piece.next : Piece F → Vals F → Vals F
  | .ops opss _, V => fun c => afterL opss (V c)
  | .loop x, V => fun c => after x.condOps (atTrip x.condOps x.bodyOps V x.n c)

/-- What a list of pieces makes of the buffers. -/
def runAll : List (Piece F) → Vals F → Vals F
  | [], V => V
  | p :: ps, V => runAll ps (p.next V)

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cells_inj : Function.Injective (Pipeline.cellOf (nD := nD) (τ := τ) (Pipeline.pin (pcfgs (F := F)) adm)) :=
  fun k => k.1.elim0
abbrev Rw (c : Dev nD) : sProp 𝕄 := iprop(∃ W, owes (c : Thread nD τ) (0 : CellTallies nD τ sig Unit) W)

/-- A loop's test says at every trip whether the trips are done, from the buffers `V` at its entry. -/
def Piece.Ok : Piece F → Vals F → Prop
  | .ops _ _, _ => True
  | .loop x, V => LoopCond (pcfgs (F := F)) defs₀ Variants.none loops Rw x.cond x.condOps x.bodyOps V x.n

/-- The same of every loop of a list of pieces. -/
def OkAll : List (Piece F) → Vals F → Prop
  | [], _ => True
  | p :: ps, V => p.Ok V ∧ OkAll ps (p.next V)

/-- A piece as segments of the run. -/
def Piece.segs : (p : Piece F) → (V : Vals F) → p.Ok V → List (CSeg (pcfgs (F := F)) adm defs₀ Variants.none L lv loops tk)
  | .ops opss h, V, _ => segsOf _ _ _ _ _ _ _ _ Rw opss h V
  | .loop x, V, hc => [loopSeg _ _ _ _ _ _ _ _ x.l x.cond x.body x.isLoop x.condOps x.bodyOps x.plain x.isBody x.n V Rw hc]

def segsAll : (ps : List (Piece F)) → (V : Vals F) → OkAll ps V → List (CSeg (pcfgs (F := F)) adm defs₀ Variants.none L lv loops tk)
  | [], _, _ => []
  | p :: ps, V, h => p.segs V h.1 ++ segsAll ps (p.next V) h.2

theorem Piece.segs_prog (p : Piece F) (V : Vals F) (h : p.Ok V) : (p.segs V h).map CSeg.prog = p.progs := by
  cases p with
  | ops opss hp => exact segsOf_prog _ _ _ _ _ _ _ _ Rw opss hp V
  | loop x => rfl

theorem segsAll_prog : ∀ (ps : List (Piece F)) (V : Vals F) (h : OkAll ps V), (segsAll ps V h).map CSeg.prog = ps.flatMap Piece.progs
  | [], _, _ => rfl
  | p :: ps, V, h => by
    show (p.segs V h.1 ++ segsAll ps (p.next V) h.2).map CSeg.prog = _
    rw [List.map_append, Piece.segs_prog, segsAll_prog, List.flatMap_cons]

theorem Piece.segs_chains (p : Piece F) (V : Vals F) (h : p.Ok V) :
    CSeg.Chains (fun c => iprop(held (c : Thread nD τ) (ucRefs τ sig) (V c) ∗ Rw c)) (p.segs V h)
      (fun c => iprop(held (c : Thread nD τ) (ucRefs τ sig) (p.next V c) ∗ Rw c)) := by
  cases p with
  | ops opss hp => exact segsOf_chains _ _ _ _ _ _ _ _ Rw opss hp V
  | loop x => exact ⟨fun _ => .rfl, fun _ => .rfl⟩

theorem segsAll_chains : ∀ (ps : List (Piece F)) (V : Vals F) (h : OkAll ps V),
    CSeg.Chains (fun c => iprop(held (c : Thread nD τ) (ucRefs τ sig) (V c) ∗ Rw c)) (segsAll ps V h)
      (fun c => iprop(held (c : Thread nD τ) (ucRefs τ sig) (runAll ps V c) ∗ Rw c))
  | [], _, _ => fun _ => .rfl
  | p :: ps, V, h => CSeg.Chains.append (Piece.segs_chains p V h.1) (segsAll_chains ps (p.next V) h.2)

/-! ## The run -/

/-- From any memory with zero counters the program ends, every buffer of it at what the pieces make of the launch
    contents, and every counter at zero. -/
theorem run_pieces [∀ e, Nonempty (Elt F e)] (ps : List (Piece F)) (hmain : ∀ c, main (F := F) c = Pipeline.chain (ps.flatMap Piece.progs))
    (m : (ℓ : Loc nD τ sig) → Buf (Elt F) ℓ) (ρ : Dev nD → PrngReg) (hok : OkAll ps (StableHlo.launchContents m)) :
    θ_run (defs (F := F)) (onTc (τ := τ) (main (F := F))) ⟨m, fun _ => 0, ρ⟩
      (fun r => (∀ (c : Dev nD), ∀ b ∈ ucRefs τ sig, r.2.mem (c, b) = runAll ps (StableHlo.launchContents m) c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_inj defs₀ Variants.none L lv loops tk m ρ main
    (segsAll ps (StableHlo.launchContents m) hok)
    (fun c Q => by
      rw [hmain c]
      show wp _ _ _ (Pipeline.chain ((segsAll ps (StableHlo.launchContents m) hok).map CSeg.prog)) Q ⊢ _
      rw [segsAll_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (StableHlo.launchContents m c) ∗ Rw c))
    (Tₙ := fun c => iprop(held (c : Thread nD τ) (ucRefs τ sig) (runAll ps (StableHlo.launchContents m) c)))
    (hch := segsAll_chains ps _ hok)
    (hinit := by
      refine Pipeline.initEach L lv fun c => ?_
      rw [show unscopedBufs c (fun b => m ((c : Thread nD τ).loc b)) = held (c : Thread nD τ) (ucRefs τ sig) (StableHlo.launchContents m c)
        from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = runAll ps (StableHlo.launchContents m) c b)
    (hfin := fun c s' => by
      unfold held
      iintro ⟨Hh, HSI⟩
      ihave Hr := (pointsTo_read_all (ucRefs τ sig) (fun b => ((c : Dev nD), b)) (fun b => runAll ps (StableHlo.launchContents m) c b) s') $$ [Hh HSI]
      · isplitl [Hh] <;> iassumption
      icases Hr with ⟨%h, HSI⟩
      imodintro
      isplitr; · ipureintro; exact h
      iexact HSI)
    (hQ := fun s h hz => ⟨fun c b hb => h c b hb, funext fun g => hz g (by
      by_cases hg : g.1.2 = .tc
      · right
        obtain ⟨⟨d, p⟩, g⟩ := g
        subst hg
        cases g <;> rename_i i <;> exact i.elim0
      · exact .inl hg)⟩)

/-! ## A loop's test -/

/-- A condition region of two operations, the second's element being its answer, leaves the buffers at the two
    operations' effects; its answer is the element read. -/
theorem cond_two (o₁ o₂ : HloOp τ sig (Elt F)) (h₁ : o₁.bufs ⊆ StableHlo.tcRefs τ sig) (h₂ : o₂.bufs ⊆ StableHlo.tcRefs τ sig)
    (f₁ : o₁.fresh = ∅) (f₂ : o₂.fresh = ∅) (rd : ((b : o₂.writes) → b.1.ty.Contents (Elt F)) → Elt F .i1)
    (k n : ℕ) (W : Valuation τ sig (Elt F)) (c : Dev nD) (bd : Option (Variants.lift Variants.none).V)
    (hv : rd (o₂.fn fun b => (o₁.result W) b.1) = 1#1 ↔ k < n) :
    iprop(boundary (c : Thread nD τ) ∗ held (c : Thread nD τ) (ucRefs τ sig) W ∗ Rw c)
      ⊢ (wp frame (wpE (HostLoop.defs loops (Pipeline.defs (pcfgs (F := F)) defs₀)) (Variants.lift Variants.none) (c : Thread nD τ) bd) Set.univ
          (hlo rfl o₁ (fun _ => hlo rfl o₂ fun w => .ret (rd w)))
          (fun v => iprop(⌜v = 1#1 ↔ k < n⌝ ∗ boundary (c : Thread nD τ) ∗ held (c : Thread nD τ) (ucRefs τ sig) (after [o₁, o₂] W) ∗ Rw c)) : sProp 𝕄) := by
  iintro ⟨Hb, Hh, HR⟩
  iapply (StableHlo.wp_hlo_within (Variants.lift Variants.none) (c : Thread nD τ) bd Set.univ (sub_ucRefs _ h₁) (hf := f₁)) $$ [Hb Hh]
  · isplitl [Hb]; · iexact Hb
    iexact Hh
  iintro ⟨Hb, Hh⟩
  iapply (StableHlo.wp_hlo_within (Variants.lift Variants.none) (c : Thread nD τ) bd Set.univ (sub_ucRefs _ h₂) (hf := f₂)) $$ [Hb Hh]
  · isplitl [Hb]; · iexact Hb
    iexact Hh
  iintro ⟨Hb, Hh⟩
  rw [wp_ret]; imodintro
  isplitr; · ipureintro; exact hv
  isplitl [Hb]; · iexact Hb
  isplitl [Hh]; · rw [StableHlo.after_cons, StableHlo.after_cons, StableHlo.after_nil]; iexact Hh
  iexact HR

end Cert.Proof.RI

end
-- ==== Proof.RI.Loops.lean ====
/-
  The pieces of the host reference, its four loops' tests, and its run.
-/
module

public import proofs.«01_k».proof.Proof.RI.Run
public import Idealize.ShloMosaic.Lib.StableHlo.RunRead

@[expose] public section

set_option maxHeartbeats 1000000

noncomputable section

namespace Cert.Proof.RI

open Cert.ReferenceIdeal Cert.ReferenceIdeal.Facts₀

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after afterL atTrip Plain LoopCond after_cons after_nil)

variable {F : FTy → Type} [FloatOps F]

/-- The stretches between the loops, and the loops' bodies. -/
abbrev bodyL0 : List (List (HloOp τ sig (Elt F))) := [body0_0, body0_1, body0_2, body0_3, body0_4]
abbrev bodyL1 : List (List (HloOp τ sig (Elt F))) := [body1_0, body1_1, body1_2, body1_3, body1_4]
abbrev bodyL2 : List (List (HloOp τ sig (Elt F))) := [body2_0, body2_1, body2_2]
abbrev bodyL3 : List (List (HloOp τ sig (Elt F))) := [body3_0, body3_1, body3_2]
abbrev segA : List (List (HloOp τ sig (Elt F))) := [m0_0, m0_1, m0_2, m1_0, m1_1, m1_2, m1_3, m1_4]
abbrev segB : List (List (HloOp τ sig (Elt F))) := [m1_5, m2_0, m2_1, m2_2]
abbrev segC : List (List (HloOp τ sig (Elt F))) := [m2_3, m3_0]
abbrev segD : List (List (HloOp τ sig (Elt F))) := [m3_1, m3_2, m3_3]
abbrev segE : List (List (HloOp τ sig (Elt F))) := [m3_4, m3_5, m3_6, m4_0]

theorem plain0 : Plain (bodyL0 (F := F)) := (.cons body0_0_sub (.cons body0_1_sub (.cons body0_2_sub (.cons body0_3_sub (.cons body0_4_sub .nil)))))
theorem plain1 : Plain (bodyL1 (F := F)) := (.cons body1_0_sub (.cons body1_1_sub (.cons body1_2_sub (.cons body1_3_sub (.cons body1_4_sub .nil)))))
theorem plain2 : Plain (bodyL2 (F := F)) := (.cons body2_0_sub (.cons body2_1_sub (.cons body2_2_sub .nil)))
theorem plain3 : Plain (bodyL3 (F := F)) := (.cons body3_0_sub (.cons body3_1_sub (.cons body3_2_sub .nil)))
theorem plainA : Plain (segA (F := F)) := (.cons m0_0_sub (.cons m0_1_sub (.cons m0_2_sub (.cons m1_0_sub (.cons m1_1_sub (.cons m1_2_sub (.cons m1_3_sub (.cons m1_4_sub .nil))))))))
theorem plainB : Plain (segB (F := F)) := (.cons m1_5_sub (.cons m2_0_sub (.cons m2_1_sub (.cons m2_2_sub .nil))))
theorem plainC : Plain (segC (F := F)) := (.cons m2_3_sub (.cons m3_0_sub .nil))
theorem plainD : Plain (segD (F := F)) := (.cons m3_1_sub (.cons m3_2_sub (.cons m3_3_sub .nil)))
theorem plainE : Plain (segE (F := F)) := (.cons m3_4_sub (.cons m3_5_sub (.cons m3_6_sub (.cons m4_0_sub .nil))))

/-- The four loops. -/
def lp0 : Lp F := ⟨0, main_while0_cond, main_while0_body, rfl, cond0, bodyL0, plain0, main_while0_items, 10⟩
def lp1 : Lp F := ⟨1, main_while1_cond, main_while1_body, rfl, cond1, bodyL1, plain1, main_while1_items, 10⟩
def lp2 : Lp F := ⟨2, main_while2_cond, main_while2_body, rfl, cond2, bodyL2, plain2, main_while2_items, 20⟩
def lp3 : Lp F := ⟨3, main_while3_cond, main_while3_body, rfl, cond3, bodyL3, plain3, main_while3_items, 20⟩

/-- The program's pieces. -/
def pieces : List (Piece F) :=
  [.ops segA plainA, .loop lp0, .ops segB plainB, .loop lp1, .ops segC plainC, .loop lp2, .ops segD plainD, .loop lp3, .ops segE plainE]

/-- The program is the chain of its pieces. -/
theorem main_pieces (c : Dev nD) : main (F := F) c = Pipeline.chain (pieces.flatMap Piece.progs) := main_items c

/-- A word that is zero first and one more at each step is the step's number. -/
theorem iter_ctr (f : ℕ → IVec S_ 32) (h0 : f 0 = fun _ => 0#32) (hs : ∀ k, f (k + 1) = addi (f k) (constantI S_ 32 1#32)) :
    ∀ k, f k = fun _ => BitVec.ofNat 32 k
  | 0 => h0
  | k + 1 => by
    rw [hs, iter_ctr f h0 hs k]
    funext i
    show BitVec.ofNat 32 k + 1#32 = BitVec.ofNat 32 (k + 1)
    rw [BitVec.ofNat_add]

/-- The skeleton loops' test. -/
theorem lt_ten (k : ℕ) (h : k ≤ 10) : IntOp.cmpi .slt (BitVec.ofNat 32 k) 10#32 = 1#1 ↔ k < 10 := by
  have : ∀ k : Fin 11, Iff (IntOp.cmpi .slt (BitVec.ofNat 32 k.1) 10#32 = 1#1) (k.1 < 10) := by decide
  exact this ⟨k, by omega⟩
/-- The distance loops' test. -/
theorem lt_twenty (k : ℕ) (h : k ≤ 20) : IntOp.cmpi .slt (BitVec.ofNat 32 k) 20#32 = 1#1 ↔ k < 20 := by
  have : ∀ k : Fin 21, Iff (IntOp.cmpi .slt (BitVec.ofNat 32 k.1) 20#32 = 1#1) (k.1 < 20) := by decide
  exact this ⟨k, by omega⟩

/-! A trip adds one to the loop's counter. -/
theorem ctr_step0 (X : Valuation τ sig (Elt F)) : afterL bodyL0 (after cond0 X) main_v81_0 = addi (X main_v81_0) (constantI S_ 32 1#32) := by
  simp only [StableHlo.afterL_cons, StableHlo.afterL_nil]
  after_reads_simp
  rfl
theorem ctr_step1 (X : Valuation τ sig (Elt F)) : afterL bodyL1 (after cond1 X) main_v95_0 = addi (X main_v95_0) (constantI S_ 32 1#32) := by
  simp only [StableHlo.afterL_cons, StableHlo.afterL_nil]
  after_reads_simp
  rfl
theorem ctr_step2 (X : Valuation τ sig (Elt F)) : afterL bodyL2 (after cond2 X) main_v119_0 = addi (X main_v119_0) (constantI S_ 32 1#32) := by
  simp only [StableHlo.afterL_cons, StableHlo.afterL_nil]
  after_reads_simp
  rfl
theorem ctr_step3 (X : Valuation τ sig (Elt F)) : afterL bodyL3 (after cond3 X) main_v129_0 = addi (X main_v129_0) (constantI S_ 32 1#32) := by
  simp only [StableHlo.afterL_cons, StableHlo.afterL_nil]
  after_reads_simp
  rfl

/-! Each loop's test answers whether its trips are done, if its counter is zero at its entry. -/
theorem ok0 (V : Vals F) (h0 : ∀ c, V c main_v81_0 = fun _ => (0#32 : BitVec 32)) : (Piece.loop (lp0 (F := F))).Ok V := fun k hk c bd => by
  have hc : atTrip cond0 bodyL0 V k c main_v81_0 = fun _ => BitVec.ofNat 32 k :=
    iter_ctr (fun k => atTrip cond0 bodyL0 V k c main_v81_0) (h0 c) (fun k => ctr_step0 _) k
  refine cond_two (StableHlo.nullary main_while0c_c_78 (constantI S_ 32 10#32)) _ (StableHlo.nullary_bufs_sub ..) (StableHlo.binary_bufs_sub ..) rfl rfl
    (fun w => cast (congrArg (BufTy.Contents (Elt F)) rfl) (w ⟨main_while0c_v161, Finset.mem_singleton_self _⟩) HostLoop.idx0) k 10 _ c bd ?_
  show Iff (IntOp.cmpi .slt (HloOp.result _ (atTrip cond0 bodyL0 V k c) main_v81_0 HostLoop.idx0)
    (HloOp.result _ (atTrip cond0 bodyL0 V k c) main_while0c_c_78 HostLoop.idx0) = 1#1) (k < 10)
  rw [StableHlo.nullary_result_ne _ _ _ _ (by decide), StableHlo.nullary_result, hc]
  exact lt_ten k hk
theorem ok1 (V : Vals F) (h0 : ∀ c, V c main_v95_0 = fun _ => (0#32 : BitVec 32)) : (Piece.loop (lp1 (F := F))).Ok V := fun k hk c bd => by
  have hc : atTrip cond1 bodyL1 V k c main_v95_0 = fun _ => BitVec.ofNat 32 k :=
    iter_ctr (fun k => atTrip cond1 bodyL1 V k c main_v95_0) (h0 c) (fun k => ctr_step1 _) k
  refine cond_two (StableHlo.nullary main_while1c_c_78 (constantI S_ 32 10#32)) _ (StableHlo.nullary_bufs_sub ..) (StableHlo.binary_bufs_sub ..) rfl rfl
    (fun w => cast (congrArg (BufTy.Contents (Elt F)) rfl) (w ⟨main_while1c_v161, Finset.mem_singleton_self _⟩) HostLoop.idx0) k 10 _ c bd ?_
  show Iff (IntOp.cmpi .slt (HloOp.result _ (atTrip cond1 bodyL1 V k c) main_v95_0 HostLoop.idx0)
    (HloOp.result _ (atTrip cond1 bodyL1 V k c) main_while1c_c_78 HostLoop.idx0) = 1#1) (k < 10)
  rw [StableHlo.nullary_result_ne _ _ _ _ (by decide), StableHlo.nullary_result, hc]
  exact lt_ten k hk
theorem ok2 (V : Vals F) (h0 : ∀ c, V c main_v119_0 = fun _ => (0#32 : BitVec 32)) : (Piece.loop (lp2 (F := F))).Ok V := fun k hk c bd => by
  have hc : atTrip cond2 bodyL2 V k c main_v119_0 = fun _ => BitVec.ofNat 32 k :=
    iter_ctr (fun k => atTrip cond2 bodyL2 V k c main_v119_0) (h0 c) (fun k => ctr_step2 _) k
  refine cond_two (StableHlo.nullary main_while2c_c_78 (constantI S_ 32 20#32)) _ (StableHlo.nullary_bufs_sub ..) (StableHlo.binary_bufs_sub ..) rfl rfl
    (fun w => cast (congrArg (BufTy.Contents (Elt F)) rfl) (w ⟨main_while2c_v161, Finset.mem_singleton_self _⟩) HostLoop.idx0) k 20 _ c bd ?_
  show Iff (IntOp.cmpi .slt (HloOp.result _ (atTrip cond2 bodyL2 V k c) main_v119_0 HostLoop.idx0)
    (HloOp.result _ (atTrip cond2 bodyL2 V k c) main_while2c_c_78 HostLoop.idx0) = 1#1) (k < 20)
  rw [StableHlo.nullary_result_ne _ _ _ _ (by decide), StableHlo.nullary_result, hc]
  exact lt_twenty k hk
theorem ok3 (V : Vals F) (h0 : ∀ c, V c main_v129_0 = fun _ => (0#32 : BitVec 32)) : (Piece.loop (lp3 (F := F))).Ok V := fun k hk c bd => by
  have hc : atTrip cond3 bodyL3 V k c main_v129_0 = fun _ => BitVec.ofNat 32 k :=
    iter_ctr (fun k => atTrip cond3 bodyL3 V k c main_v129_0) (h0 c) (fun k => ctr_step3 _) k
  refine cond_two (StableHlo.nullary main_while3c_c_78 (constantI S_ 32 20#32)) _ (StableHlo.nullary_bufs_sub ..) (StableHlo.binary_bufs_sub ..) rfl rfl
    (fun w => cast (congrArg (BufTy.Contents (Elt F)) rfl) (w ⟨main_while3c_v161, Finset.mem_singleton_self _⟩) HostLoop.idx0) k 20 _ c bd ?_
  show Iff (IntOp.cmpi .slt (HloOp.result _ (atTrip cond3 bodyL3 V k c) main_v129_0 HostLoop.idx0)
    (HloOp.result _ (atTrip cond3 bodyL3 V k c) main_while3c_c_78 HostLoop.idx0) = 1#1) (k < 20)
  rw [StableHlo.nullary_result_ne _ _ _ _ (by decide), StableHlo.nullary_result, hc]
  exact lt_twenty k hk

/-! The stretch before each loop sets its counter to zero. -/
theorem zero0 (X : Valuation τ sig (Elt F)) : afterL segA X main_v81_0 = fun _ => (0#32 : BitVec 32) := by
  simp only [StableHlo.afterL_cons, StableHlo.afterL_nil]
  after_reads_simp
  rfl
theorem zero1 (X : Valuation τ sig (Elt F)) : afterL segB X main_v95_0 = fun _ => (0#32 : BitVec 32) := by
  simp only [StableHlo.afterL_cons, StableHlo.afterL_nil]
  after_reads_simp
  rfl
theorem zero2 (X : Valuation τ sig (Elt F)) : afterL segC X main_v119_0 = fun _ => (0#32 : BitVec 32) := by
  simp only [StableHlo.afterL_cons, StableHlo.afterL_nil]
  after_reads_simp
  rfl
theorem zero3 (X : Valuation τ sig (Elt F)) : afterL segD X main_v129_0 = fun _ => (0#32 : BitVec 32) := by
  simp only [StableHlo.afterL_cons, StableHlo.afterL_nil]
  after_reads_simp
  rfl

/-- Every piece of the program ends. -/
theorem ok_all (V : Vals F) : OkAll pieces V :=
  ⟨trivial, ok0 _ fun _ => zero0 _, trivial, ok1 _ fun _ => zero1 _, trivial, ok2 _ fun _ => zero2 _, trivial, ok3 _ fun _ => zero3 _, trivial, trivial⟩

/-- The reference's run. -/
theorem run_main (m : (ℓ : Loc nD τ sig) → Buf (Elt F) ℓ) (ρ : Dev nD → PrngReg) [∀ e, Nonempty (Elt F e)] :
    θ_run (defs (F := F)) (onTc (τ := τ) (main (F := F))) ⟨m, fun _ => 0, ρ⟩
      (fun r => (∀ (c : Dev nD), ∀ b ∈ Pipeline.ucRefs τ sig, r.2.mem (c, b) = runAll pieces (StableHlo.launchContents m) c b) ∧ r.2.sem = fun _ => 0) :=
  run_pieces pieces main_pieces m ρ (ok_all _)

end Cert.Proof.RI

end
-- ==== Proof.RI.Values.lean ====
/-
  What the host reference leaves in its result, read off its pieces: the named terms of its operations, and each loop's
  carried arrays.
-/
module

public import proofs.«01_k».proof.Proof.RI.Loops

@[expose] public section

set_option maxHeartbeats 1000000

noncomputable section

namespace Cert.Proof.RI

open Cert.ReferenceIdeal Cert.ReferenceIdeal.Facts₀

open Idealize.ShloMosaic Idealize.ShloMosaic.TcCoe
open Idealize.ShloMosaic.StableHlo (after afterL atTrip after_cons after_nil forall_writes_sub_of_map after_of_writes_sub)

variable {F : FTy → Type} [FloatOps F]

/-- A loop keeps a buffer neither its test nor its body writes. -/
theorem keepLoop {co : List (HloOp τ sig (Elt F))} {bo : List (List (HloOp τ sig (Elt F)))} {Wc Wb : List (Ref sig .tc)} {r : Ref sig .tc}
    (hC : co.Forall fun op => op.writes ⊆ (Wc.map (Proc.devRef (τ := τ) .tc)).toFinset)
    (hB : bo.flatten.Forall fun op => op.writes ⊆ (Wb.map (Proc.devRef (τ := τ) .tc)).toFinset) (hc : r ∉ Wc) (hb : r ∉ Wb) (V : Vals F) (n : ℕ) (c : Dev nD) :
    after co (atTrip co bo V n c) (Proc.devRef .tc r) = V c (Proc.devRef .tc r) := by
  rw [after_of_writes_sub co _ hC hc]
  induction n with
  | zero => rfl
  | succ n ih =>
    rw [StableHlo.atTrip_succ, StableHlo.afterL_eq_after_flatten, after_of_writes_sub _ _ hB hb, after_of_writes_sub _ _ hC hc, ih]

/-- What loop 0 writes. -/
def condW0 : List (Ref sig .tc) := [main_while0c_c_78, main_while0c_v161]
def bodyW0 : List (Ref sig .tc) := [main_while0b_c_78, main_while0b_v161, main_while0b_v162, main_while0b_cst_79, main_while0b_v163, main_while0b_v164, main_while0b_v165, main_while0b_v166, main_while0b_cst_80, main_while0b_v167, main_while0b_v168, main_while0b_v169, main_while0b_v170, main_while0b_v171, main_while0b_cst_81, main_while0b_v172, main_while0b_v173, main_while0b_v174, main_while0b_v175, main_while0b_cst_82, main_while0b_v176, main_while0b_v177, main_while0b_v178, main_while0b_v179, main_while0b_cst_83, main_while0b_v180, main_while0b_v181, main_while0b_v182, main_while0b_call3_cst, main_while0b_call3_v0, main_while0b_v183, main_while0b_v184, main_while0b_v185, main_while0b_call4_cst, main_while0b_call4_v0, main_while0b_v186, main_while0b_v187, main_while0b_c_84, main_while0b_v188, main_v81_0, main_v81_1, main_v81_2, main_v81_3]
theorem keep0 (V : Vals F) (c : Dev nD) {r : Ref sig .tc} (hc : r ∉ condW0) (hb : r ∉ bodyW0) :
    (Piece.loop (lp0 (F := F))).next V c (Proc.devRef .tc r) = V c (Proc.devRef .tc r) :=
  keepLoop (co := cond0) (bo := bodyL0) (forall_writes_sub_of_map rfl) (forall_writes_sub_of_map rfl) hc hb V _ c

/-- What loop 1 writes. -/
def condW1 : List (Ref sig .tc) := [main_while1c_c_78, main_while1c_v161]
def bodyW1 : List (Ref sig .tc) := [main_while1b_c_78, main_while1b_v161, main_while1b_v162, main_while1b_cst_79, main_while1b_v163, main_while1b_v164, main_while1b_v165, main_while1b_v166, main_while1b_cst_80, main_while1b_v167, main_while1b_v168, main_while1b_v169, main_while1b_v170, main_while1b_v171, main_while1b_cst_81, main_while1b_v172, main_while1b_v173, main_while1b_v174, main_while1b_v175, main_while1b_cst_82, main_while1b_v176, main_while1b_v177, main_while1b_v178, main_while1b_v179, main_while1b_cst_83, main_while1b_v180, main_while1b_v181, main_while1b_v182, main_while1b_call6_cst, main_while1b_call6_v0, main_while1b_v183, main_while1b_v184, main_while1b_v185, main_while1b_call7_cst, main_while1b_call7_v0, main_while1b_v186, main_while1b_v187, main_while1b_c_84, main_while1b_v188, main_v95_0, main_v95_1, main_v95_2, main_v95_3]
theorem keep1 (V : Vals F) (c : Dev nD) {r : Ref sig .tc} (hc : r ∉ condW1) (hb : r ∉ bodyW1) :
    (Piece.loop (lp1 (F := F))).next V c (Proc.devRef .tc r) = V c (Proc.devRef .tc r) :=
  keepLoop (co := cond1) (bo := bodyL1) (forall_writes_sub_of_map rfl) (forall_writes_sub_of_map rfl) hc hb V _ c

/-- What loop 2 writes. -/
def condW2 : List (Ref sig .tc) := [main_while2c_c_78, main_while2c_v161]
def bodyW2 : List (Ref sig .tc) := [main_while2b_c_78, main_while2b_v161, main_while2b_v162, main_while2b_cst_79, main_while2b_v163, main_while2b_v164, main_while2b_v165, main_while2b_cst_80, main_while2b_v166, main_while2b_v167, main_while2b_cst_81, main_while2b_v168, main_while2b_v169, main_while2b_v170, main_while2b_cst_82, main_while2b_v171, main_while2b_v172, main_while2b_v173, main_while2b_v174, main_while2b_call8_v0, main_while2b_v175, main_while2b_c_83, main_while2b_v176, main_v119_0, main_v119_1, main_v119_2, main_v119_3]
theorem keep2 (V : Vals F) (c : Dev nD) {r : Ref sig .tc} (hc : r ∉ condW2) (hb : r ∉ bodyW2) :
    (Piece.loop (lp2 (F := F))).next V c (Proc.devRef .tc r) = V c (Proc.devRef .tc r) :=
  keepLoop (co := cond2) (bo := bodyL2) (forall_writes_sub_of_map rfl) (forall_writes_sub_of_map rfl) hc hb V _ c

/-- What loop 3 writes. -/
def condW3 : List (Ref sig .tc) := [main_while3c_c_78, main_while3c_v161]
def bodyW3 : List (Ref sig .tc) := [main_while3b_c_78, main_while3b_v161, main_while3b_v162, main_while3b_cst_79, main_while3b_v163, main_while3b_v164, main_while3b_v165, main_while3b_cst_80, main_while3b_v166, main_while3b_v167, main_while3b_cst_81, main_while3b_v168, main_while3b_v169, main_while3b_v170, main_while3b_cst_82, main_while3b_v171, main_while3b_v172, main_while3b_v173, main_while3b_v174, main_while3b_call10_v0, main_while3b_v175, main_while3b_c_83, main_while3b_v176, main_v129_0, main_v129_1, main_v129_2, main_v129_3]
theorem keep3 (V : Vals F) (c : Dev nD) {r : Ref sig .tc} (hc : r ∉ condW3) (hb : r ∉ bodyW3) :
    (Piece.loop (lp3 (F := F))).next V c (Proc.devRef .tc r) = V c (Proc.devRef .tc r) :=
  keepLoop (co := cond3) (bo := bodyL3) (forall_writes_sub_of_map rfl) (forall_writes_sub_of_map rfl) hc hb V _ c

/-! ## The named terms -/

/-- A stack of images, and a scalar. -/
abbrev FX (F : FTy → Type) := FVec F S32x1x512x512 .f32
abbrev FS (F : FTy → Type) := FVec F S_ .f32

def cst (b : BitVec 32) : FS F := constant S_ .f32 b
def cstX (b : BitVec 32) : FX F := broadcastInDim S32x1x512x512 ![] bcast_S_S32x1x512x512 (cst b)
def low : FS F := broadcastInDim S_ ![] bcast_S_S_ (cst 0xFF800000#32)
def hT (t : IVec S32x1x512x512 32) : FX F := sitofp .f32 t
def hP (x : FX F) : FX F := Host.divf (cstX 0x3F800000#32) (addf (cstX 0x3F800000#32) (Host.exp (Host.negf x)))
def hBce (x t : FX F) : FX F := addf (subf (maximumf x (cstX 0#32)) (mulf x t)) (Host.log1p (Host.exp (Host.negf (Host.absf x))))
def hSum (x : FX F) : FS F := Host.reduceAdd x (cst 0#32) reducesTo_S32x1x512x512_S_d0_1_2_3 h_S_
def hFlat (x : FX F) : FVec F S8388608 .f32 := shapeCast S8388608 x shapeCasts_S32x1x512x512_S8388608
def cstL (b : BitVec 32) : FVec F S8388608 .f32 := broadcastInDim S8388608 ![] bcast_S_S8388608 (cst b)
def hSumL (x : FVec F S8388608 .f32) : FS F := Host.reduceAdd x (cst 0#32) reducesTo_S8388608_S_d0 h_S_
def hMax31 (x : FX F) : FX F := Host.reduceWindow FloatOps.maximumf ![1, 1, 3, 1] ![1, 1, 1, 1] ![0, 0, 1, 0] ![0, 0, 1, 0] x low reduceWindows_S32x1x512x512_S32x1x512x512_w1s1p0_0_w1s1p0_0_w3s1p1_1_w1s1p0_0 h_S_
def hMax13 (x : FX F) : FX F := Host.reduceWindow FloatOps.maximumf ![1, 1, 1, 3] ![1, 1, 1, 1] ![0, 0, 0, 1] ![0, 0, 0, 1] x low reduceWindows_S32x1x512x512_S32x1x512x512_w1s1p0_0_w1s1p0_0_w1s1p0_0_w3s1p1_1 h_S_
def hMax33 (x : FX F) : FX F := Host.reduceWindow FloatOps.maximumf ![1, 1, 3, 3] ![1, 1, 1, 1] ![0, 0, 1, 1] ![0, 0, 1, 1] x low reduceWindows_S32x1x512x512_S32x1x512x512_w1s1p0_0_w1s1p0_0_w3s1p1_1_w3s1p1_1 h_S_
def hSoft (x : FX F) : FX F := minimumf (Host.negf (hMax31 (Host.negf x))) (Host.negf (hMax13 (Host.negf x)))
def hEro (x : FX F) : FX F := Host.negf (hMax33 (Host.negf x))
def hDelta (x : FX F) : FX F := maximumf (subf x (hMax33 (hSoft x))) (cstX 0#32)
def hUpd (s d : FX F) : FX F := addf s (maximumf (subf d (mulf s d)) (cstX 0#32))
def hDice (p t : FVec F S8388608 .f32) : FS F :=
  subf (cst 0x3F800000#32) (Host.divf (addf (mulf (cst 0x40000000#32) (hSumL (mulf p t))) (cst 0x3F800000#32)) (addf (addf (hSumL p) (hSumL t)) (cst 0x3F800000#32)))
def hTv (p t : FVec F S8388608 .f32) : FS F :=
  Host.powf (subf (cst 0x3F800000#32) (Host.divf (addf (hSumL (mulf p t)) (cst 0x3F800000#32))
    (addf (addf (addf (hSumL (mulf p t)) (mulf (cst 0x3E99999A#32) (hSumL (mulf p (subf (cstL 0x3F800000#32) t)))))
      (mulf (cst 0x3F333333#32) (hSumL (mulf (subf (cstL 0x3F800000#32) p) t)))) (cst 0x3F800000#32)))) (cst 0x3FAA3D71#32)
def hWbce (x t : FX F) : FX F := mulf (addf (cstX 0x3F800000#32) (mulf (cstX 0x40400000#32) (subf (hMax33 t) (hEro t)))) (hBce x t)
def hMean (s : FS F) : FS F := Host.divf s (cst 0x4B000000#32)
def hRatio (e : BitVec 32) (a b : FS F) : FS F := Host.divf (addf a (cst e)) (addf b (cst e))
def hCl (a b : FS F) : FS F := subf (cst 0x3F800000#32) (Host.divf (mulf (mulf (cst 0x40000000#32) a) b) (addf a b))
def hPb (p : FX F) : FX F := uitofp .f32 (cmpf .ogt p (cstX 0x3F000000#32))
def hNot (x : FX F) : FX F := subf (cstX 0x3F800000#32) x
/-- The record of one trip of the distance loop. -/
def hDst (cur d : FX F) (k : IVec S_ 32) : FX F :=
  select (andi (andi (cmpf .ogt cur (cstX 0x3F000000#32)) (cmpf .olt (hEro cur) (cstX 0x3F000000#32))) (cmpf .oeq d (cstX 0#32)))
    (broadcastInDim S32x1x512x512 ![] bcast_S_S32x1x512x512 (sitofp .f32 k)) d
def hEnd (m d : FX F) : FX F := select (andi (cmpf .ogt m (cstX 0x3F000000#32)) (cmpf .oeq d (cstX 0#32))) (cstX 0x41A00000#32) d
def hHd (a t b p : FS F) : FS F := mulf (cst 0x3F000000#32) (addf (hRatio 0x358637BD#32 a t) (hRatio 0x358637BD#32 b p))
def hLoss (bce dice cl hd wb tv : FS F) : FS F :=
  addf (addf (addf (addf (addf (mulf (cst 0x3E4CCCCD#32) bce) (mulf (cst 0x3E4CCCCD#32) dice)) (mulf (cst 0x3E4CCCCD#32) cl)) (mulf (cst 0x3DCCCCCD#32) hd))
    (mulf (cst 0x3DCCCCCD#32) wb)) (mulf (cst 0x3E4CCCCD#32) tv)

/-! ## The loops' carried arrays -/

theorem img_step0 (X : Valuation τ sig (Elt F)) : afterL bodyL0 (after cond0 X) main_v81_2 = hSoft (X main_v81_2) := by
  simp only [StableHlo.afterL_cons, StableHlo.afterL_nil]
  after_reads_simp
  rfl
theorem skel_step0 (X : Valuation τ sig (Elt F)) : afterL bodyL0 (after cond0 X) main_v81_3 = hUpd (X main_v81_3) (hDelta (hSoft (X main_v81_2))) := by
  simp only [StableHlo.afterL_cons, StableHlo.afterL_nil]
  after_reads_simp
  rfl
theorem exit0 (X : Valuation τ sig (Elt F)) : after cond0 X main_v81_3 = X main_v81_3 := by after_reads_simp

theorem img_step1 (X : Valuation τ sig (Elt F)) : afterL bodyL1 (after cond1 X) main_v95_2 = hSoft (X main_v95_2) := by
  simp only [StableHlo.afterL_cons, StableHlo.afterL_nil]
  after_reads_simp
  rfl
theorem skel_step1 (X : Valuation τ sig (Elt F)) : afterL bodyL1 (after cond1 X) main_v95_3 = hUpd (X main_v95_3) (hDelta (hSoft (X main_v95_2))) := by
  simp only [StableHlo.afterL_cons, StableHlo.afterL_nil]
  after_reads_simp
  rfl
theorem exit1 (X : Valuation τ sig (Elt F)) : after cond1 X main_v95_3 = X main_v95_3 := by after_reads_simp

theorem num_step2 (X : Valuation τ sig (Elt F)) : afterL bodyL2 (after cond2 X) main_v119_1 = addi (X main_v119_1) (constantI S_ 32 1#32) := by
  simp only [StableHlo.afterL_cons, StableHlo.afterL_nil]
  after_reads_simp
  rfl
theorem cur_step2 (X : Valuation τ sig (Elt F)) : afterL bodyL2 (after cond2 X) main_v119_2 = hEro (X main_v119_2) := by
  simp only [StableHlo.afterL_cons, StableHlo.afterL_nil]
  after_reads_simp
  rfl
theorem dst_step2 (X : Valuation τ sig (Elt F)) : afterL bodyL2 (after cond2 X) main_v119_3 = hDst (X main_v119_2) (X main_v119_3) (X main_v119_1) := by
  simp only [StableHlo.afterL_cons, StableHlo.afterL_nil]
  after_reads_simp
  rfl
theorem exit2 (X : Valuation τ sig (Elt F)) : after cond2 X main_v119_3 = X main_v119_3 := by after_reads_simp

theorem num_step3 (X : Valuation τ sig (Elt F)) : afterL bodyL3 (after cond3 X) main_v129_1 = addi (X main_v129_1) (constantI S_ 32 1#32) := by
  simp only [StableHlo.afterL_cons, StableHlo.afterL_nil]
  after_reads_simp
  rfl
theorem cur_step3 (X : Valuation τ sig (Elt F)) : afterL bodyL3 (after cond3 X) main_v129_2 = hEro (X main_v129_2) := by
  simp only [StableHlo.afterL_cons, StableHlo.afterL_nil]
  after_reads_simp
  rfl
theorem dst_step3 (X : Valuation τ sig (Elt F)) : afterL bodyL3 (after cond3 X) main_v129_3 = hDst (X main_v129_2) (X main_v129_3) (X main_v129_1) := by
  simp only [StableHlo.afterL_cons, StableHlo.afterL_nil]
  after_reads_simp
  rfl
theorem exit3 (X : Valuation τ sig (Elt F)) : after cond3 X main_v129_3 = X main_v129_3 := by after_reads_simp

/-! ## The stretches -/

variable (X : Valuation τ sig (Elt F))
theorem A_v0 : afterL segA X main_v0 = hT (X main_arg1) := by
  simp only [StableHlo.afterL_cons, StableHlo.afterL_nil]
  after_reads_simp
  try rfl
theorem A_v6 : afterL segA X main_v6 = hP (X main_arg0) := by
  simp only [StableHlo.afterL_cons, StableHlo.afterL_nil]
  after_reads_simp
  try rfl
theorem A_v16 : afterL segA X main_v16 = hMean (hSum (hBce (X main_arg0) (hT (X main_arg1)))) := by
  simp only [StableHlo.afterL_cons, StableHlo.afterL_nil]
  after_reads_simp
  try rfl
theorem A_v28 : afterL segA X main_v28 = hDice (hFlat (hP (X main_arg0))) (hFlat (hT (X main_arg1))) := by
  simp only [StableHlo.afterL_cons, StableHlo.afterL_nil]
  after_reads_simp
  try rfl
theorem A_v45 : afterL segA X main_v45 = hTv (hFlat (hP (X main_arg0))) (hFlat (hT (X main_arg1))) := by
  simp only [StableHlo.afterL_cons, StableHlo.afterL_nil]
  after_reads_simp
  try rfl
theorem A_v67 : afterL segA X main_v67 = hMean (hSum (hWbce (X main_arg0) (hT (X main_arg1)))) := by
  simp only [StableHlo.afterL_cons, StableHlo.afterL_nil]
  after_reads_simp
  try rfl
theorem A_v81_2 : afterL segA X main_v81_2 = hP (X main_arg0) := by
  simp only [StableHlo.afterL_cons, StableHlo.afterL_nil]
  after_reads_simp
  try rfl
theorem A_v81_3 : afterL segA X main_v81_3 = hDelta (hP (X main_arg0)) := by
  simp only [StableHlo.afterL_cons, StableHlo.afterL_nil]
  after_reads_simp
  try rfl
theorem B_v0 : afterL segB X main_v0 = X main_v0 := by
  simp only [StableHlo.afterL_cons, StableHlo.afterL_nil]
  after_reads_simp
theorem B_v6 : afterL segB X main_v6 = X main_v6 := by
  simp only [StableHlo.afterL_cons, StableHlo.afterL_nil]
  after_reads_simp
theorem B_v16 : afterL segB X main_v16 = X main_v16 := by
  simp only [StableHlo.afterL_cons, StableHlo.afterL_nil]
  after_reads_simp
theorem B_v28 : afterL segB X main_v28 = X main_v28 := by
  simp only [StableHlo.afterL_cons, StableHlo.afterL_nil]
  after_reads_simp
theorem B_v45 : afterL segB X main_v45 = X main_v45 := by
  simp only [StableHlo.afterL_cons, StableHlo.afterL_nil]
  after_reads_simp
theorem B_v67 : afterL segB X main_v67 = X main_v67 := by
  simp only [StableHlo.afterL_cons, StableHlo.afterL_nil]
  after_reads_simp
theorem B_v81_3 : afterL segB X main_v81_3 = X main_v81_3 := by
  simp only [StableHlo.afterL_cons, StableHlo.afterL_nil]
  after_reads_simp
theorem B_v95_2 : afterL segB X main_v95_2 = X main_v0 := by
  simp only [StableHlo.afterL_cons, StableHlo.afterL_nil]
  after_reads_simp
  try rfl
theorem B_v95_3 : afterL segB X main_v95_3 = hDelta (X main_v0) := by
  simp only [StableHlo.afterL_cons, StableHlo.afterL_nil]
  after_reads_simp
  try rfl
theorem C_v0 : afterL segC X main_v0 = X main_v0 := by
  simp only [StableHlo.afterL_cons, StableHlo.afterL_nil]
  after_reads_simp
theorem C_v16 : afterL segC X main_v16 = X main_v16 := by
  simp only [StableHlo.afterL_cons, StableHlo.afterL_nil]
  after_reads_simp
theorem C_v28 : afterL segC X main_v28 = X main_v28 := by
  simp only [StableHlo.afterL_cons, StableHlo.afterL_nil]
  after_reads_simp
theorem C_v45 : afterL segC X main_v45 = X main_v45 := by
  simp only [StableHlo.afterL_cons, StableHlo.afterL_nil]
  after_reads_simp
theorem C_v67 : afterL segC X main_v67 = X main_v67 := by
  simp only [StableHlo.afterL_cons, StableHlo.afterL_nil]
  after_reads_simp
theorem C_v112 : afterL segC X main_v112 = hCl (hRatio 0x3F800000#32 (hSum (mulf (X main_v81_3) (X main_v0))) (hSum (X main_v81_3))) (hRatio 0x3F800000#32 (hSum (mulf (X main_v95_3) (X main_v6))) (hSum (X main_v95_3))) := by
  simp only [StableHlo.afterL_cons, StableHlo.afterL_nil]
  after_reads_simp
  try rfl
theorem C_v115 : afterL segC X main_v115 = hPb (X main_v6) := by
  simp only [StableHlo.afterL_cons, StableHlo.afterL_nil]
  after_reads_simp
  try rfl
theorem C_v117 : afterL segC X main_v117 = hNot (hPb (X main_v6)) := by
  simp only [StableHlo.afterL_cons, StableHlo.afterL_nil]
  after_reads_simp
  try rfl
theorem C_v119_1 : afterL segC X main_v119_1 = constantI S_ 32 1#32 := by
  simp only [StableHlo.afterL_cons, StableHlo.afterL_nil]
  after_reads_simp
  try rfl
theorem C_v119_2 : afterL segC X main_v119_2 = hNot (hPb (X main_v6)) := by
  simp only [StableHlo.afterL_cons, StableHlo.afterL_nil]
  after_reads_simp
  try rfl
theorem C_v119_3 : afterL segC X main_v119_3 = cstX 0#32 := by
  simp only [StableHlo.afterL_cons, StableHlo.afterL_nil]
  after_reads_simp
  try rfl
theorem D_v0 : afterL segD X main_v0 = X main_v0 := by
  simp only [StableHlo.afterL_cons, StableHlo.afterL_nil]
  after_reads_simp
theorem D_v16 : afterL segD X main_v16 = X main_v16 := by
  simp only [StableHlo.afterL_cons, StableHlo.afterL_nil]
  after_reads_simp
theorem D_v28 : afterL segD X main_v28 = X main_v28 := by
  simp only [StableHlo.afterL_cons, StableHlo.afterL_nil]
  after_reads_simp
theorem D_v45 : afterL segD X main_v45 = X main_v45 := by
  simp only [StableHlo.afterL_cons, StableHlo.afterL_nil]
  after_reads_simp
theorem D_v67 : afterL segD X main_v67 = X main_v67 := by
  simp only [StableHlo.afterL_cons, StableHlo.afterL_nil]
  after_reads_simp
theorem D_v112 : afterL segD X main_v112 = X main_v112 := by
  simp only [StableHlo.afterL_cons, StableHlo.afterL_nil]
  after_reads_simp
theorem D_v115 : afterL segD X main_v115 = X main_v115 := by
  simp only [StableHlo.afterL_cons, StableHlo.afterL_nil]
  after_reads_simp
theorem D_v125 : afterL segD X main_v125 = hEnd (X main_v117) (X main_v119_3) := by
  simp only [StableHlo.afterL_cons, StableHlo.afterL_nil]
  after_reads_simp
  try rfl
theorem D_v127 : afterL segD X main_v127 = hNot (X main_v0) := by
  simp only [StableHlo.afterL_cons, StableHlo.afterL_nil]
  after_reads_simp
  try rfl
theorem D_v129_1 : afterL segD X main_v129_1 = constantI S_ 32 1#32 := by
  simp only [StableHlo.afterL_cons, StableHlo.afterL_nil]
  after_reads_simp
  try rfl
theorem D_v129_2 : afterL segD X main_v129_2 = hNot (X main_v0) := by
  simp only [StableHlo.afterL_cons, StableHlo.afterL_nil]
  after_reads_simp
  try rfl
theorem D_v129_3 : afterL segD X main_v129_3 = cstX 0#32 := by
  simp only [StableHlo.afterL_cons, StableHlo.afterL_nil]
  after_reads_simp
  try rfl
theorem E_v160 : afterL segE X main_v160 = hLoss (X main_v16) (X main_v28) (X main_v112) (hHd (hSum (mulf (X main_v125) (X main_v0))) (hSum (X main_v0)) (hSum (mulf (hEnd (X main_v127) (X main_v129_3)) (X main_v115))) (hSum (X main_v115))) (X main_v67) (X main_v45) := by
  simp only [StableHlo.afterL_cons, StableHlo.afterL_nil]
  after_reads_simp
  try rfl

end Cert.Proof.RI

end
-- ==== Proof.RI.Chain.lean ====
/-
  The reference's result as one term in its two arguments: the stretches and the loops composed.
-/
module

public import proofs.«01_k».proof.Proof.RI.Values

@[expose] public section

noncomputable section

namespace Cert.Proof.RI

open Cert.ReferenceIdeal Cert.ReferenceIdeal.Facts₀
open Idealize.ShloMosaic Idealize.ShloMosaic.TcCoe
open Idealize.ShloMosaic.StableHlo (after afterL atTrip)

variable {F : FTy → Type} [FloatOps F]

/-- One trip of a skeleton loop on its image and skeleton. -/
def skStep (s : FX F × FX F) : FX F × FX F := (hSoft s.1, hUpd s.2 (hDelta (hSoft s.1)))
/-- The skeleton of an image. -/
def hSk (x : FX F) : FX F := (skStep^[10] (x, hDelta x)).2
/-- One trip of a distance loop on its counter, image and record. -/
def dtStep (s : IVec S_ 32 × FX F × FX F) : IVec S_ 32 × FX F × FX F := (addi s.1 (constantI S_ 32 1#32), hEro s.2.1, hDst s.2.1 s.2.2 s.1)
/-- The record of a distance loop. -/
def hDl (x : FX F) : FX F := (dtStep^[20] (constantI S_ 32 1#32, x, cstX 0#32)).2.2
/-- The distances inside a mask. -/
def hDt (x : FX F) : FX F := hEnd x (hDl x)

/-- The result. -/
def hAll (x : FX F) (t' : IVec S32x1x512x512 32) : FS F :=
  hLoss (hMean (hSum (hBce x (hT t')))) (hDice (hFlat (hP x)) (hFlat (hT t')))
    (hCl (hRatio 0x3F800000#32 (hSum (mulf (hSk (hP x)) (hT t'))) (hSum (hSk (hP x)))) (hRatio 0x3F800000#32 (hSum (mulf (hSk (hT t')) (hP x))) (hSum (hSk (hT t')))))
    (hHd (hSum (mulf (hDt (hNot (hPb (hP x)))) (hT t'))) (hSum (hT t')) (hSum (mulf (hDt (hNot (hT t'))) (hPb (hP x)))) (hSum (hPb (hP x))))
    (hMean (hSum (hWbce x (hT t')))) (hTv (hFlat (hP x)) (hFlat (hT t')))

/-- The first skeleton loop's state after some trips. -/
theorem trips0 (V : Vals F) (c : Dev nD) : ∀ n, ((atTrip cond0 bodyL0 V n c main_v81_2 : FX F), (atTrip cond0 bodyL0 V n c main_v81_3 : FX F)) = skStep^[n] (V c main_v81_2, V c main_v81_3)
  | 0 => rfl
  | n + 1 => by
    rw [Function.iterate_succ_apply', ← trips0 V c n]
    rw [StableHlo.atTrip_succ, img_step0, skel_step0]
    rfl

/-- What the first skeleton loop leaves. -/
theorem skel_after0 (V : Vals F) (c : Dev nD) : (Piece.loop (lp0 (F := F))).next V c main_v81_3 = (skStep^[10] ((V c main_v81_2 : FX F), (V c main_v81_3 : FX F))).2 :=
  (exit0 _).trans (congrArg Prod.snd (trips0 V c 10))

/-- The second skeleton loop's state after some trips. -/
theorem trips1 (V : Vals F) (c : Dev nD) : ∀ n, ((atTrip cond1 bodyL1 V n c main_v95_2 : FX F), (atTrip cond1 bodyL1 V n c main_v95_3 : FX F)) = skStep^[n] (V c main_v95_2, V c main_v95_3)
  | 0 => rfl
  | n + 1 => by
    rw [Function.iterate_succ_apply', ← trips1 V c n]
    rw [StableHlo.atTrip_succ, img_step1, skel_step1]
    rfl

/-- What the second skeleton loop leaves. -/
theorem skel_after1 (V : Vals F) (c : Dev nD) : (Piece.loop (lp1 (F := F))).next V c main_v95_3 = (skStep^[10] ((V c main_v95_2 : FX F), (V c main_v95_3 : FX F))).2 :=
  (exit1 _).trans (congrArg Prod.snd (trips1 V c 10))

/-- The first distance loop's state after some trips. -/
theorem trips2 (V : Vals F) (c : Dev nD) : ∀ n, ((atTrip cond2 bodyL2 V n c main_v119_1 : IVec S_ 32), (atTrip cond2 bodyL2 V n c main_v119_2 : FX F), (atTrip cond2 bodyL2 V n c main_v119_3 : FX F))
      = dtStep^[n] (V c main_v119_1, V c main_v119_2, V c main_v119_3)
  | 0 => rfl
  | n + 1 => by
    rw [Function.iterate_succ_apply', ← trips2 V c n]
    rw [StableHlo.atTrip_succ, num_step2, cur_step2, dst_step2]
    rfl

/-- What the first distance loop leaves. -/
theorem dist_after2 (V : Vals F) (c : Dev nD) : (Piece.loop (lp2 (F := F))).next V c main_v119_3
    = (dtStep^[20] ((V c main_v119_1 : IVec S_ 32), (V c main_v119_2 : FX F), (V c main_v119_3 : FX F))).2.2 :=
  (exit2 _).trans (congrArg (fun s => s.2.2) (trips2 V c 20))

/-- The second distance loop's state after some trips. -/
theorem trips3 (V : Vals F) (c : Dev nD) : ∀ n, ((atTrip cond3 bodyL3 V n c main_v129_1 : IVec S_ 32), (atTrip cond3 bodyL3 V n c main_v129_2 : FX F), (atTrip cond3 bodyL3 V n c main_v129_3 : FX F))
      = dtStep^[n] (V c main_v129_1, V c main_v129_2, V c main_v129_3)
  | 0 => rfl
  | n + 1 => by
    rw [Function.iterate_succ_apply', ← trips3 V c n]
    rw [StableHlo.atTrip_succ, num_step3, cur_step3, dst_step3]
    rfl

/-- What the second distance loop leaves. -/
theorem dist_after3 (V : Vals F) (c : Dev nD) : (Piece.loop (lp3 (F := F))).next V c main_v129_3
    = (dtStep^[20] ((V c main_v129_1 : IVec S_ 32), (V c main_v129_2 : FX F), (V c main_v129_3 : FX F))).2.2 :=
  (exit3 _).trans (congrArg (fun s => s.2.2) (trips3 V c 20))

theorem nextA (V : Vals F) (c : Dev nD) (b : Ref sig .tc) : (Piece.ops (segA (F := F)) plainA).next V c (Proc.devRef .tc b) = afterL segA (V c) (Proc.devRef .tc b) := rfl
theorem nextB (V : Vals F) (c : Dev nD) (b : Ref sig .tc) : (Piece.ops (segB (F := F)) plainB).next V c (Proc.devRef .tc b) = afterL segB (V c) (Proc.devRef .tc b) := rfl
theorem nextC (V : Vals F) (c : Dev nD) (b : Ref sig .tc) : (Piece.ops (segC (F := F)) plainC).next V c (Proc.devRef .tc b) = afterL segC (V c) (Proc.devRef .tc b) := rfl
theorem nextD (V : Vals F) (c : Dev nD) (b : Ref sig .tc) : (Piece.ops (segD (F := F)) plainD).next V c (Proc.devRef .tc b) = afterL segD (V c) (Proc.devRef .tc b) := rfl
theorem nextE (V : Vals F) (c : Dev nD) (b : Ref sig .tc) : (Piece.ops (segE (F := F)) plainE).next V c (Proc.devRef .tc b) = afterL segE (V c) (Proc.devRef .tc b) := rfl
theorem k0_v0 (V : Vals F) (c : Dev nD) : (Piece.loop (lp0 (F := F))).next V c main_v0 = V c main_v0 := keep0 V c (by decide) (by decide)
theorem k0_v6 (V : Vals F) (c : Dev nD) : (Piece.loop (lp0 (F := F))).next V c main_v6 = V c main_v6 := keep0 V c (by decide) (by decide)
theorem k0_v16 (V : Vals F) (c : Dev nD) : (Piece.loop (lp0 (F := F))).next V c main_v16 = V c main_v16 := keep0 V c (by decide) (by decide)
theorem k0_v28 (V : Vals F) (c : Dev nD) : (Piece.loop (lp0 (F := F))).next V c main_v28 = V c main_v28 := keep0 V c (by decide) (by decide)
theorem k0_v45 (V : Vals F) (c : Dev nD) : (Piece.loop (lp0 (F := F))).next V c main_v45 = V c main_v45 := keep0 V c (by decide) (by decide)
theorem k0_v67 (V : Vals F) (c : Dev nD) : (Piece.loop (lp0 (F := F))).next V c main_v67 = V c main_v67 := keep0 V c (by decide) (by decide)
theorem k1_v0 (V : Vals F) (c : Dev nD) : (Piece.loop (lp1 (F := F))).next V c main_v0 = V c main_v0 := keep1 V c (by decide) (by decide)
theorem k1_v6 (V : Vals F) (c : Dev nD) : (Piece.loop (lp1 (F := F))).next V c main_v6 = V c main_v6 := keep1 V c (by decide) (by decide)
theorem k1_v16 (V : Vals F) (c : Dev nD) : (Piece.loop (lp1 (F := F))).next V c main_v16 = V c main_v16 := keep1 V c (by decide) (by decide)
theorem k1_v28 (V : Vals F) (c : Dev nD) : (Piece.loop (lp1 (F := F))).next V c main_v28 = V c main_v28 := keep1 V c (by decide) (by decide)
theorem k1_v45 (V : Vals F) (c : Dev nD) : (Piece.loop (lp1 (F := F))).next V c main_v45 = V c main_v45 := keep1 V c (by decide) (by decide)
theorem k1_v67 (V : Vals F) (c : Dev nD) : (Piece.loop (lp1 (F := F))).next V c main_v67 = V c main_v67 := keep1 V c (by decide) (by decide)
theorem k1_v81_3 (V : Vals F) (c : Dev nD) : (Piece.loop (lp1 (F := F))).next V c main_v81_3 = V c main_v81_3 := keep1 V c (by decide) (by decide)
theorem k2_v0 (V : Vals F) (c : Dev nD) : (Piece.loop (lp2 (F := F))).next V c main_v0 = V c main_v0 := keep2 V c (by decide) (by decide)
theorem k2_v16 (V : Vals F) (c : Dev nD) : (Piece.loop (lp2 (F := F))).next V c main_v16 = V c main_v16 := keep2 V c (by decide) (by decide)
theorem k2_v28 (V : Vals F) (c : Dev nD) : (Piece.loop (lp2 (F := F))).next V c main_v28 = V c main_v28 := keep2 V c (by decide) (by decide)
theorem k2_v45 (V : Vals F) (c : Dev nD) : (Piece.loop (lp2 (F := F))).next V c main_v45 = V c main_v45 := keep2 V c (by decide) (by decide)
theorem k2_v67 (V : Vals F) (c : Dev nD) : (Piece.loop (lp2 (F := F))).next V c main_v67 = V c main_v67 := keep2 V c (by decide) (by decide)
theorem k2_v112 (V : Vals F) (c : Dev nD) : (Piece.loop (lp2 (F := F))).next V c main_v112 = V c main_v112 := keep2 V c (by decide) (by decide)
theorem k2_v115 (V : Vals F) (c : Dev nD) : (Piece.loop (lp2 (F := F))).next V c main_v115 = V c main_v115 := keep2 V c (by decide) (by decide)
theorem k2_v117 (V : Vals F) (c : Dev nD) : (Piece.loop (lp2 (F := F))).next V c main_v117 = V c main_v117 := keep2 V c (by decide) (by decide)
theorem k3_v0 (V : Vals F) (c : Dev nD) : (Piece.loop (lp3 (F := F))).next V c main_v0 = V c main_v0 := keep3 V c (by decide) (by decide)
theorem k3_v16 (V : Vals F) (c : Dev nD) : (Piece.loop (lp3 (F := F))).next V c main_v16 = V c main_v16 := keep3 V c (by decide) (by decide)
theorem k3_v28 (V : Vals F) (c : Dev nD) : (Piece.loop (lp3 (F := F))).next V c main_v28 = V c main_v28 := keep3 V c (by decide) (by decide)
theorem k3_v45 (V : Vals F) (c : Dev nD) : (Piece.loop (lp3 (F := F))).next V c main_v45 = V c main_v45 := keep3 V c (by decide) (by decide)
theorem k3_v67 (V : Vals F) (c : Dev nD) : (Piece.loop (lp3 (F := F))).next V c main_v67 = V c main_v67 := keep3 V c (by decide) (by decide)
theorem k3_v112 (V : Vals F) (c : Dev nD) : (Piece.loop (lp3 (F := F))).next V c main_v112 = V c main_v112 := keep3 V c (by decide) (by decide)
theorem k3_v115 (V : Vals F) (c : Dev nD) : (Piece.loop (lp3 (F := F))).next V c main_v115 = V c main_v115 := keep3 V c (by decide) (by decide)
theorem k3_v125 (V : Vals F) (c : Dev nD) : (Piece.loop (lp3 (F := F))).next V c main_v125 = V c main_v125 := keep3 V c (by decide) (by decide)
theorem k3_v127 (V : Vals F) (c : Dev nD) : (Piece.loop (lp3 (F := F))).next V c main_v127 = V c main_v127 := keep3 V c (by decide) (by decide)

/-- The result of the reference from any contents. -/
theorem value (V : Vals F) (c : Dev nD) : runAll pieces V c main_v160 = hAll (V c main_arg0) (V c main_arg1) := by
  let V1 := (Piece.ops (segA (F := F)) plainA).next V
  let V2 := (Piece.loop (lp0 (F := F))).next V1
  let V3 := (Piece.ops (segB (F := F)) plainB).next V2
  let V4 := (Piece.loop (lp1 (F := F))).next V3
  let V5 := (Piece.ops (segC (F := F)) plainC).next V4
  let V6 := (Piece.loop (lp2 (F := F))).next V5
  let V7 := (Piece.ops (segD (F := F)) plainD).next V6
  let V8 := (Piece.loop (lp3 (F := F))).next V7
  show afterL segE (V8 c) main_v160 = _
  rw [E_v160]
  have a1_v0 := A_v0 (V c)
  have a1_v6 := A_v6 (V c)
  have a1_v16 := A_v16 (V c)
  have a1_v28 := A_v28 (V c)
  have a1_v45 := A_v45 (V c)
  have a1_v67 := A_v67 (V c)
  have a1_v81_2 := A_v81_2 (V c)
  have a1_v81_3 := A_v81_3 (V c)
  have a2_v0 := k0_v0 V1 c
  have a2_v6 := k0_v6 V1 c
  have a2_v16 := k0_v16 V1 c
  have a2_v28 := k0_v28 V1 c
  have a2_v45 := k0_v45 V1 c
  have a2_v67 := k0_v67 V1 c
  have a2_v81_3 := skel_after0 V1 c
  have a3_v0 := B_v0 (V2 c)
  have a3_v6 := B_v6 (V2 c)
  have a3_v16 := B_v16 (V2 c)
  have a3_v28 := B_v28 (V2 c)
  have a3_v45 := B_v45 (V2 c)
  have a3_v67 := B_v67 (V2 c)
  have a3_v81_3 := B_v81_3 (V2 c)
  have a3_v95_2 := B_v95_2 (V2 c)
  have a3_v95_3 := B_v95_3 (V2 c)
  have a4_v0 := k1_v0 V3 c
  have a4_v6 := k1_v6 V3 c
  have a4_v16 := k1_v16 V3 c
  have a4_v28 := k1_v28 V3 c
  have a4_v45 := k1_v45 V3 c
  have a4_v67 := k1_v67 V3 c
  have a4_v81_3 := k1_v81_3 V3 c
  have a4_v95_3 := skel_after1 V3 c
  have a5_v0 := C_v0 (V4 c)
  have a5_v16 := C_v16 (V4 c)
  have a5_v28 := C_v28 (V4 c)
  have a5_v45 := C_v45 (V4 c)
  have a5_v67 := C_v67 (V4 c)
  have a5_v112 := C_v112 (V4 c)
  have a5_v115 := C_v115 (V4 c)
  have a5_v117 := C_v117 (V4 c)
  have a5_v119_1 := C_v119_1 (V4 c)
  have a5_v119_2 := C_v119_2 (V4 c)
  have a5_v119_3 := C_v119_3 (V4 c)
  have a6_v0 := k2_v0 V5 c
  have a6_v16 := k2_v16 V5 c
  have a6_v28 := k2_v28 V5 c
  have a6_v45 := k2_v45 V5 c
  have a6_v67 := k2_v67 V5 c
  have a6_v112 := k2_v112 V5 c
  have a6_v115 := k2_v115 V5 c
  have a6_v117 := k2_v117 V5 c
  have a6_v119_3 := dist_after2 V5 c
  have a7_v0 := D_v0 (V6 c)
  have a7_v16 := D_v16 (V6 c)
  have a7_v28 := D_v28 (V6 c)
  have a7_v45 := D_v45 (V6 c)
  have a7_v67 := D_v67 (V6 c)
  have a7_v112 := D_v112 (V6 c)
  have a7_v115 := D_v115 (V6 c)
  have a7_v125 := D_v125 (V6 c)
  have a7_v127 := D_v127 (V6 c)
  have a7_v129_1 := D_v129_1 (V6 c)
  have a7_v129_2 := D_v129_2 (V6 c)
  have a7_v129_3 := D_v129_3 (V6 c)
  have a8_v0 := k3_v0 V7 c
  have a8_v16 := k3_v16 V7 c
  have a8_v28 := k3_v28 V7 c
  have a8_v45 := k3_v45 V7 c
  have a8_v67 := k3_v67 V7 c
  have a8_v112 := k3_v112 V7 c
  have a8_v115 := k3_v115 V7 c
  have a8_v125 := k3_v125 V7 c
  have a8_v127 := k3_v127 V7 c
  have a8_v129_3 := dist_after3 V7 c
  have e8 : V8 = (Piece.loop (lp3 (F := F))).next V7 := rfl
  have e1 : V1 c = afterL segA (V c) := rfl
  have e3 : V3 c = afterL segB (V2 c) := rfl
  have e5 : V5 c = afterL segC (V4 c) := rfl
  have e7 : V7 c = afterL segD (V6 c) := rfl
  have e2 : V2 = (Piece.loop (lp0 (F := F))).next V1 := rfl
  have e4 : V4 = (Piece.loop (lp1 (F := F))).next V3 := rfl
  have e6 : V6 = (Piece.loop (lp2 (F := F))).next V5 := rfl
  clear_value V8 V7 V6 V5 V4 V3 V2 V1
  rw [← e1] at a1_v0 a1_v6 a1_v16 a1_v28 a1_v45 a1_v67 a1_v81_2 a1_v81_3
  rw [← e3] at a3_v0 a3_v6 a3_v16 a3_v28 a3_v45 a3_v67 a3_v81_3 a3_v95_2 a3_v95_3
  rw [← e5] at a5_v0 a5_v16 a5_v28 a5_v45 a5_v67 a5_v112 a5_v115 a5_v117 a5_v119_1 a5_v119_2 a5_v119_3
  rw [← e7] at a7_v0 a7_v16 a7_v28 a7_v45 a7_v67 a7_v112 a7_v115 a7_v125 a7_v127 a7_v129_1 a7_v129_2 a7_v129_3
  rw [← e2] at a2_v0 a2_v6 a2_v16 a2_v28 a2_v45 a2_v67 a2_v81_3
  rw [← e4] at a4_v0 a4_v6 a4_v16 a4_v28 a4_v45 a4_v67 a4_v81_3 a4_v95_3
  rw [← e6] at a6_v0 a6_v16 a6_v28 a6_v45 a6_v67 a6_v112 a6_v115 a6_v117 a6_v119_3
  rw [← e8] at a8_v0 a8_v16 a8_v28 a8_v45 a8_v67 a8_v112 a8_v115 a8_v125 a8_v127 a8_v129_3
  rw [a8_v0, a8_v16, a8_v28, a8_v45, a8_v67, a8_v112, a8_v115, a8_v125, a8_v127, a8_v129_3, a7_v0, a7_v16, a7_v28, a7_v45, a7_v67, a7_v112, a7_v115, a7_v125, a7_v127, a7_v129_1, a7_v129_2, a7_v129_3, a6_v0, a6_v16, a6_v28, a6_v45, a6_v67, a6_v112, a6_v115, a6_v117, a6_v119_3, a5_v0, a5_v16, a5_v28, a5_v45, a5_v67, a5_v112, a5_v115, a5_v117, a5_v119_1, a5_v119_2, a5_v119_3, a4_v0, a4_v6, a4_v16, a4_v28, a4_v45, a4_v67, a4_v81_3, a4_v95_3, a3_v0, a3_v6, a3_v16, a3_v28, a3_v45, a3_v67, a3_v81_3, a3_v95_2, a3_v95_3, a2_v0, a2_v6, a2_v16, a2_v28, a2_v45, a2_v67, a2_v81_3, a1_v0, a1_v6, a1_v16, a1_v28, a1_v45, a1_v67, a1_v81_2, a1_v81_3]
  rfl

end Cert.Proof.RI

end
-- ==== Proof.Math.Window.lean ====
/-
  The host's windowed maxima of a stack of 32 images, image by image: three rows, three columns, three of each.
-/
module

public import proofs.«01_k».proof.Proof.Math.Img

@[expose] public section

noncomputable section

namespace Cert.Proof

open Idealize.ShloMosaic

/-- The shape of the stack, and of a scalar. -/
abbrev SX : Shape := ⟨4, ![32, 1, 512, 512]⟩
abbrev S0 : Shape := ⟨0, ![]⟩

/-- Image `b` of the stack. -/
def im (X : SX.Idx → EReal) (b : Fin 32) : Img := fun r c => X (ix4 b 0 r c)

/-- A folded maximum is at most `y` when it starts there and every element is. -/
theorem foldl_max_le {α : Type} (f : α → EReal) (y : EReal) : ∀ (l : List α) (v : EReal), l.foldl (fun r n => max r (f n)) v ≤ y ↔ v ≤ y ∧ ∀ n ∈ l, f n ≤ y
  | [], v => by simp
  | a :: l, v => by
    rw [List.foldl_cons, foldl_max_le f y l, max_le_iff]
    simp only [List.mem_cons, forall_eq_or_imp, and_assoc]

/-- A windowed maximum from the least value is at most `y` when every element the window meets is. -/
theorem reduceWindow_le {s t u : Shape} (window strides lo hi : Fin s.rank → Nat) (x : s.Idx → EReal) (init : u.Idx → EReal)
    (h : s.ReduceWindows window strides lo hi t) (hu : 0 < u.numel) (hb : init (Shape.Idx.first hu) = ⊥) (j : t.Idx) (y : EReal) :
    Host.reduceWindow max window strides lo hi x init h hu j ≤ y
      ↔ ∀ w : (⟨s.rank, window⟩ : Shape).Idx, ∀ hin : ∀ a, lo a ≤ (j (a.cast h.1.symm)).val * strides a + (w a).val
          ∧ (j (a.cast h.1.symm)).val * strides a + (w a).val - lo a < s.size a,
        x (fun a => ⟨(j (a.cast h.1.symm)).val * strides a + (w a).val - lo a, (hin a).2⟩) ≤ y := by
  unfold Host.reduceWindow
  refine (foldl_max_le _ y _ _).trans ?_
  rw [hb]
  constructor
  · rintro ⟨-, H⟩ w hin
    have := H ((⟨s.rank, window⟩ : Shape).rowMajor w) (List.mem_finRange _)
    simp only [Equiv.symm_apply_apply] at this
    rwa [dif_pos hin] at this
  · intro H
    refine ⟨bot_le, fun n _ => ?_⟩
    dsimp only
    split
    · next hin => exact H _ hin
    · exact bot_le

/-- A near position is one of the three of the window. -/
theorem win_val (i j : Fin 512) (h : Near i j) : ∃ w : Fin 3, 1 ≤ i.1 * 1 + w.1 ∧ i.1 * 1 + w.1 - 1 = j.1 :=
  ⟨⟨j.1 + 1 - i.1, by have := h.1; have := h.2; omega⟩, by have := h.1; have := h.2; show 1 ≤ i.1 * 1 + (j.1 + 1 - i.1); omega,
    by have := h.1; have := h.2; show i.1 * 1 + (j.1 + 1 - i.1) - 1 = j.1; omega⟩

section
variable (x : SX.Idx → EReal) (init : S0.Idx → EReal) (hu : 0 < S0.numel) (hb : init (Shape.Idx.first hu) = ⊥)
include hb

/-- Windows of three rows. -/
theorem win31 (h : SX.ReduceWindows (![1, 1, 3, 1] : Fin 4 → Nat) ![1, 1, 1, 1] ![0, 0, 1, 0] ![0, 0, 1, 0] SX) (b : Fin 32) :
    im (Host.reduceWindow max (![1, 1, 3, 1] : Fin 4 → Nat) ![1, 1, 1, 1] ![0, 0, 1, 0] ![0, 0, 1, 0] x init h hu) b = triV max (im x b) := by
  funext r c
  refine eq_of_forall_ge_iff fun y => (reduceWindow_le _ _ _ _ x init h hu hb _ y).trans ((Iff.trans ?_ (tri_max_le _ r y).symm))
  constructor
  · intro H j hj
    obtain ⟨w, h1, h2⟩ := win_val r j hj
    have hin : ∀ a : Fin 4, (![0, 0, 1, 0] : Fin 4 → Nat) a ≤ ((ix4 b 0 r c : SX.Idx) a).val * (![1, 1, 1, 1] : Fin 4 → Nat) a + ((ix4 0 0 w 0 : (⟨4, ![1, 1, 3, 1]⟩ : Shape).Idx) a).val
        ∧ ((ix4 b 0 r c : SX.Idx) a).val * (![1, 1, 1, 1] : Fin 4 → Nat) a + ((ix4 0 0 w 0 : (⟨4, ![1, 1, 3, 1]⟩ : Shape).Idx) a).val - (![0, 0, 1, 0] : Fin 4 → Nat) a < SX.size a := by
      intro a
      match a with
      | 0 => exact ⟨Nat.zero_le _, by show b.1 * 1 + 0 - 0 < 32; omega⟩
      | 1 => exact ⟨Nat.zero_le _, by show 0 * 1 + 0 - 0 < 1; omega⟩
      | 2 => exact ⟨h1, by show r.1 * 1 + w.1 - 1 < 512; omega⟩
      | 3 => exact ⟨Nat.zero_le _, by show c.1 * 1 + 0 - 0 < 512; omega⟩
    refine le_trans (le_of_eq (congrArg x (funext fun a => Fin.ext ?_))) (H (ix4 0 0 w 0) hin)
    match a with
    | 0 => show b.1 = b.1 * 1 + 0 - 0; omega
    | 1 => rfl
    | 2 => exact h2.symm
    | 3 => show c.1 = c.1 * 1 + 0 - 0; omega
  · intro H w hin
    have hr := hin 2
    change 1 ≤ r.1 * 1 + (w 2).val ∧ r.1 * 1 + (w 2).val - 1 < 512 at hr
    have h2 : (w 2).val < 3 := (w 2).isLt
    have h3 : (w 3).val < 1 := (w 3).isLt
    have h0 : (w 0).val < 1 := (w 0).isLt
    have h1 : (w 1).val < 1 := (w 1).isLt
    refine le_trans (le_of_eq (congrArg x (funext fun a => Fin.ext ?_))) (H ⟨r.1 * 1 + (w 2).val - 1, hr.2⟩ ⟨?_, ?_⟩)
    · match a with
      | 0 => show b.1 * 1 + (w 0).val - 0 = b.1; omega
      | 1 => show 0 * 1 + (w 1).val - 0 = 0; omega
      | 2 => rfl
      | 3 => show c.1 * 1 + (w 3).val - 0 = c.1; omega
    · show r.1 ≤ r.1 * 1 + (w 2).val - 1 + 1; omega
    · show r.1 * 1 + (w 2).val - 1 ≤ r.1 + 1; omega

/-- Windows of three columns. -/
theorem win13 (h : SX.ReduceWindows (![1, 1, 1, 3] : Fin 4 → Nat) ![1, 1, 1, 1] ![0, 0, 0, 1] ![0, 0, 0, 1] SX) (b : Fin 32) :
    im (Host.reduceWindow max (![1, 1, 1, 3] : Fin 4 → Nat) ![1, 1, 1, 1] ![0, 0, 0, 1] ![0, 0, 0, 1] x init h hu) b = triH max (im x b) := by
  funext r c
  refine eq_of_forall_ge_iff fun y => (reduceWindow_le _ _ _ _ x init h hu hb _ y).trans ((Iff.trans ?_ (tri_max_le _ c y).symm))
  constructor
  · intro H j hj
    obtain ⟨w, h1, h2⟩ := win_val c j hj
    have hin : ∀ a : Fin 4, (![0, 0, 0, 1] : Fin 4 → Nat) a ≤ ((ix4 b 0 r c : SX.Idx) a).val * (![1, 1, 1, 1] : Fin 4 → Nat) a + ((ix4 0 0 0 w : (⟨4, ![1, 1, 1, 3]⟩ : Shape).Idx) a).val
        ∧ ((ix4 b 0 r c : SX.Idx) a).val * (![1, 1, 1, 1] : Fin 4 → Nat) a + ((ix4 0 0 0 w : (⟨4, ![1, 1, 1, 3]⟩ : Shape).Idx) a).val - (![0, 0, 0, 1] : Fin 4 → Nat) a < SX.size a := by
      intro a
      match a with
      | 0 => exact ⟨Nat.zero_le _, by show b.1 * 1 + 0 - 0 < 32; omega⟩
      | 1 => exact ⟨Nat.zero_le _, by show 0 * 1 + 0 - 0 < 1; omega⟩
      | 2 => exact ⟨Nat.zero_le _, by show r.1 * 1 + 0 - 0 < 512; omega⟩
      | 3 => exact ⟨h1, by show c.1 * 1 + w.1 - 1 < 512; omega⟩
    refine le_trans (le_of_eq (congrArg x (funext fun a => Fin.ext ?_))) (H (ix4 0 0 0 w) hin)
    match a with
    | 0 => show b.1 = b.1 * 1 + 0 - 0; omega
    | 1 => rfl
    | 2 => show r.1 = r.1 * 1 + 0 - 0; omega
    | 3 => exact h2.symm
  · intro H w hin
    have hr := hin 3
    change 1 ≤ c.1 * 1 + (w 3).val ∧ c.1 * 1 + (w 3).val - 1 < 512 at hr
    have h2 : (w 2).val < 1 := (w 2).isLt
    have h3 : (w 3).val < 3 := (w 3).isLt
    have h0 : (w 0).val < 1 := (w 0).isLt
    have h1 : (w 1).val < 1 := (w 1).isLt
    refine le_trans (le_of_eq (congrArg x (funext fun a => Fin.ext ?_))) (H ⟨c.1 * 1 + (w 3).val - 1, hr.2⟩ ⟨?_, ?_⟩)
    · match a with
      | 0 => show b.1 * 1 + (w 0).val - 0 = b.1; omega
      | 1 => show 0 * 1 + (w 1).val - 0 = 0; omega
      | 2 => show r.1 * 1 + (w 2).val - 0 = r.1; omega
      | 3 => rfl
    · show c.1 ≤ c.1 * 1 + (w 3).val - 1 + 1; omega
    · show c.1 * 1 + (w 3).val - 1 ≤ c.1 + 1; omega

/-- Windows of three rows and three columns. -/
theorem win33 (h : SX.ReduceWindows (![1, 1, 3, 3] : Fin 4 → Nat) ![1, 1, 1, 1] ![0, 0, 1, 1] ![0, 0, 1, 1] SX) (b : Fin 32) :
    im (Host.reduceWindow max (![1, 1, 3, 3] : Fin 4 → Nat) ![1, 1, 1, 1] ![0, 0, 1, 1] ![0, 0, 1, 1] x init h hu) b = dil (im x b) := by
  funext r c
  refine eq_of_forall_ge_iff fun y => (reduceWindow_le _ _ _ _ x init h hu hb _ y).trans ?_
  refine Iff.trans ?_ ((tri_max_le _ c y).trans (forall₂_congr fun c' _ => tri_max_le (fun r => im x b r c') r y)).symm
  constructor
  · intro H c' hc' r' hr'
    obtain ⟨w, h1, h2⟩ := win_val r r' hr'
    obtain ⟨v, h3, h4⟩ := win_val c c' hc'
    have hin : ∀ a : Fin 4, (![0, 0, 1, 1] : Fin 4 → Nat) a ≤ ((ix4 b 0 r c : SX.Idx) a).val * (![1, 1, 1, 1] : Fin 4 → Nat) a + ((ix4 0 0 w v : (⟨4, ![1, 1, 3, 3]⟩ : Shape).Idx) a).val
        ∧ ((ix4 b 0 r c : SX.Idx) a).val * (![1, 1, 1, 1] : Fin 4 → Nat) a + ((ix4 0 0 w v : (⟨4, ![1, 1, 3, 3]⟩ : Shape).Idx) a).val - (![0, 0, 1, 1] : Fin 4 → Nat) a < SX.size a := by
      intro a
      match a with
      | 0 => exact ⟨Nat.zero_le _, by show b.1 * 1 + 0 - 0 < 32; omega⟩
      | 1 => exact ⟨Nat.zero_le _, by show 0 * 1 + 0 - 0 < 1; omega⟩
      | 2 => exact ⟨h1, by show r.1 * 1 + w.1 - 1 < 512; omega⟩
      | 3 => exact ⟨h3, by show c.1 * 1 + v.1 - 1 < 512; omega⟩
    refine le_trans (le_of_eq (congrArg x (funext fun a => Fin.ext ?_))) (H (ix4 0 0 w v) hin)
    match a with
    | 0 => show b.1 = b.1 * 1 + 0 - 0; omega
    | 1 => rfl
    | 2 => exact h2.symm
    | 3 => exact h4.symm
  · intro H w hin
    have hr := hin 2
    have hc := hin 3
    change 1 ≤ r.1 * 1 + (w 2).val ∧ r.1 * 1 + (w 2).val - 1 < 512 at hr
    change 1 ≤ c.1 * 1 + (w 3).val ∧ c.1 * 1 + (w 3).val - 1 < 512 at hc
    have h2 : (w 2).val < 3 := (w 2).isLt
    have h3 : (w 3).val < 3 := (w 3).isLt
    have h0 : (w 0).val < 1 := (w 0).isLt
    have h1 : (w 1).val < 1 := (w 1).isLt
    refine le_trans (le_of_eq (congrArg x (funext fun a => Fin.ext ?_))) (H ⟨c.1 * 1 + (w 3).val - 1, hc.2⟩ ⟨?_, ?_⟩ ⟨r.1 * 1 + (w 2).val - 1, hr.2⟩ ⟨?_, ?_⟩)
    · match a with
      | 0 => show b.1 * 1 + (w 0).val - 0 = b.1; omega
      | 1 => show 0 * 1 + (w 1).val - 0 = 0; omega
      | 2 => rfl
      | 3 => rfl
    · show c.1 ≤ c.1 * 1 + (w 3).val - 1 + 1; omega
    · show c.1 * 1 + (w 3).val - 1 ≤ c.1 + 1; omega
    · show r.1 ≤ r.1 * 1 + (w 2).val - 1 + 1; omega
    · show r.1 * 1 + (w 2).val - 1 ≤ r.1 + 1; omega
end

/-! Minima as negated maxima of negatives. -/

/-- The negated maximum of three negated numbers is their minimum. -/
theorem neg_tri (A : Fin 512 → EReal) (i : Fin 512) : -tri max (fun i => -A i) i = tri min A i := by
  unfold tri
  rw [EReal.max_neg_neg, EReal.max_neg_neg, neg_neg]
/-- The same along a column. -/
theorem neg_triV (A : Img) (r c : Fin 512) : -triV max (fun r c => -A r c) r c = triV min A r c := neg_tri _ _
/-- The same along a row. -/
theorem neg_triH (A : Img) (r c : Fin 512) : -triH max (fun r c => -A r c) r c = triH min A r c := neg_tri _ _
/-- The negated dilation of the negated image is its erosion. -/
theorem neg_dil (A : Img) (r c : Fin 512) : -dil (fun r c => -A r c) r c = ero A r c := by
  unfold dil ero triH
  rw [← neg_tri]
  congr 2
  funext c
  rw [← neg_triV, neg_neg]

end Cert.Proof

end
-- ==== Proof.RI.Images.lean ====
/-
  The reference's arrays read image by image: erosions, dilations, skeletons and distances as functions of one image.
-/
module

public import proofs.«01_k».proof.Proof.RI.Chain
public import proofs.«01_k».proof.Proof.Math.Window
public import proofs.«01_k».proof.Proof.Math.Packed
import Idealize.ShloMosaic.Lib.Pointwise
import Idealize.ShloMosaic.Lib.IdealHost

@[expose] public section

noncomputable section

namespace Cert.Proof.RI

open Cert.ReferenceIdeal Cert.ReferenceIdeal.Facts₀
open Idealize.ShloMosaic Idealize.ShloMosaic.TcCoe

/-- The maxima start from minus infinity. -/
theorem low_first : (low (F := Ideal)) (Shape.Idx.first h_S_) = ⊥ := by
  show Ideal.ofBits .f32 0xFF800000#32 = ⊥
  simp [Ideal.ofBits, Ideal.ieee]

/-- The vertical maximum of the array is each image's. -/
theorem im_max31 (x : FX Ideal) (b : Fin 32) : im (hMax31 x) b = triV max (im x b) := by
  unfold hMax31
  exact win31 x (low (F := Ideal)) h_S_ low_first _ b
/-- The horizontal maximum of the array is each image's. -/
theorem im_max13 (x : FX Ideal) (b : Fin 32) : im (hMax13 x) b = triH max (im x b) := by
  unfold hMax13
  exact win13 x (low (F := Ideal)) h_S_ low_first _ b
/-- The dilation of the array is each image's. -/
theorem im_max33 (x : FX Ideal) (b : Fin 32) : im (hMax33 x) b = dil (im x b) := by
  unfold hMax33
  exact win33 x (low (F := Ideal)) h_S_ low_first _ b

/-- The soft erosion of the array is each image's. -/
theorem im_soft (x : FX Ideal) (b : Fin 32) : im (hSoft x) b = soft (im x b) := by
  funext r c
  show min (-(im (hMax31 (Host.negf x)) b r c)) (-(im (hMax13 (Host.negf x)) b r c)) = _
  rw [im_max31, im_max13]
  exact congrArg₂ min (neg_triV (im x b) r c) (neg_triH (im x b) r c)

/-- The erosion of the array is each image's. -/
theorem im_ero (x : FX Ideal) (b : Fin 32) : im (hEro x) b = ero (im x b) := by
  funext r c
  show -(im (hMax33 (Host.negf x)) b r c) = _
  rw [im_max33]
  exact neg_dil (im x b) r c

/-- The array of zeros. -/
theorem zeroX (i : S32x1x512x512.Idx) : (cstX 0#32 : FX Ideal) i = 0 := Ideal.ofBits_zero_f32
/-- The array of ones. -/
theorem oneX (i : S32x1x512x512.Idx) : (cstX 0x3F800000#32 : FX Ideal) i = 1 := Ideal.ofBits_one_f32

/-- What opening takes away from the array is each image's. -/
theorem im_delta (x : FX Ideal) (b : Fin 32) : im (hDelta x) b = delta (im x b) := by
  funext r c
  show max (im x b r c - im (hMax33 (hSoft x)) b r c) ((cstX 0#32 : FX Ideal) (ix4 b 0 r c)) = _
  rw [im_max33, im_soft, zeroX]
  rfl

/-- The skeleton's update of the array is each image's. -/
theorem im_upd (s d : FX Ideal) (b : Fin 32) : im (hUpd s d) b = upd (im s b) (im d b) := by
  funext r c
  show im s b r c + max (im d b r c - im s b r c * im d b r c) ((cstX 0#32 : FX Ideal) (ix4 b 0 r c)) = _
  rw [zeroX]
  rfl

/-- The skeleton loop's arrays after some trips, image by image. -/
theorem sk_iter (x : FX Ideal) (b : Fin 32) : ∀ n, im (skStep^[n] (x, hDelta x)).1 b = soft^[n] (im x b) ∧ im (skStep^[n] (x, hDelta x)).2 b = skel (im x b) (n + 1)
  | 0 => ⟨rfl, by rw [Nat.zero_add, skel_one]; exact im_delta x b⟩
  | n + 1 => by
    obtain ⟨h1, h2⟩ := sk_iter x b n
    rw [Function.iterate_succ_apply', Function.iterate_succ_apply']
    generalize skStep^[n] (x, hDelta x) = s at h1 h2 ⊢
    have e : im (skStep s).1 b = soft (soft^[n] (im x b)) := (im_soft _ b).trans (by rw [h1])
    refine ⟨e, ?_⟩
    show im (hUpd s.2 (hDelta (hSoft s.1))) b = _
    rw [im_upd, im_delta, im_soft, h1, h2]
    show _ = upd _ (delta (soft^[n + 1] (im x b)))
    rw [Function.iterate_succ_apply']

/-- The skeleton of an image. -/
theorem im_sk (x : FX Ideal) (b : Fin 32) : im (hSk x) b = skel (im x b) 11 := (sk_iter x b 10).2

/-! ## Distances -/

/-- The threshold's literal is one half. -/
theorem half_val : Ideal.ofBits .f32 1056964608#32 = (((1 / 2 : ℝ)) : EReal) := by
  simp [Ideal.ofBits, Ideal.ieee, -EReal.coe_mul]; norm_num
/-- The threshold is positive. -/
theorem half_pos : (0 : EReal) < Ideal.ofBits .f32 1056964608#32 := by
  rw [half_val]; exact EReal.coe_pos.mpr (by norm_num)
/-- The threshold is below one. -/
theorem half_lt_one : Ideal.ofBits .f32 1056964608#32 < (1 : EReal) := by
  rw [half_val, ← EReal.coe_one]; exact EReal.coe_lt_coe_iff.mpr (by norm_num)

/-- A natural is zero as an extended real just when it is zero. -/
theorem natE_eq_zero (n : ℕ) : natE n = 0 ↔ n = 0 := by
  unfold natE
  rw [EReal.coe_eq_zero, Nat.cast_eq_zero]

/-- One trip of the distance loop, on one image. -/
theorem im_dst (cur d : FX Ideal) (k : IVec S_ 32) (b : Fin 32) (A : Bm) (n : ℕ) (hc : im cur b = indI (eroB^[n] A))
    (hd : im d b = fun r c => natE (dst A n r c)) (hk : k = fun _ => BitVec.ofNat 32 (n + 1)) (hn : n < 100) :
    im (hDst cur d k) b = fun r c => natE (dst A (n + 1) r c) := by
  funext r c
  have he : hEro cur (ix4 b 0 r c) = ind (eroB^[n + 1] A r c) := by
    show im (hEro cur) b r c = _
    rw [im_ero, hc, ero_ind, Function.iterate_succ_apply']
    rfl
  have hc' : cur (ix4 b 0 r c) = ind (eroB^[n] A r c) := congrFun (congrFun hc r) c
  have hd' : d (ix4 b 0 r c) = natE (dst A n r c) := congrFun (congrFun hd r) c
  show hDst cur d k (ix4 b 0 r c) = _
  pointwise [hDst, cst, cstX]
  rw [he, hc', hd', hk, dst_succ]
  have hs : FloatOps.sitofp (F := Ideal) FTy.f32 (BitVec.ofNat 32 (n + 1)) = natE (n + 1) := by
    show (((BitVec.ofNat 32 (n + 1)).toInt : ℝ) : EReal) = natE (n + 1)
    have : (BitVec.ofNat 32 (n + 1)).toInt = ((n + 1 : ℕ) : ℤ) := by
      rw [BitVec.toInt_eq_toNat_of_lt (by rw [BitVec.toNat_ofNat]; omega), BitVec.toNat_ofNat, Nat.mod_eq_of_lt (by omega)]
    rw [this, Int.cast_natCast]
    rfl
  simp only [half_lt_ind _ half_pos half_lt_one, ind_lt_half _ half_pos half_lt_one, natE_eq_zero, hs]
  cases eroB^[n] A r c <;> cases eroB^[n + 1] A r c <;> by_cases h : dst A n r c = 0 <;> simp [h, Scalar.select, IntOp.andi]

/-- The distance loop's arrays after some trips, image by image. -/
theorem dt_iter (x : FX Ideal) (b : Fin 32) (A : Bm) (hx : im x b = indI A) : ∀ n, n ≤ 50 →
    (dtStep^[n] (constantI S_ 32 1#32, x, cstX 0#32)).1 = (fun _ => BitVec.ofNat 32 (n + 1))
    ∧ im (dtStep^[n] (constantI S_ 32 1#32, x, cstX 0#32)).2.1 b = indI (eroB^[n] A)
    ∧ im (dtStep^[n] (constantI S_ 32 1#32, x, cstX 0#32)).2.2 b = fun r c => natE (dst A n r c)
  | 0, _ => ⟨rfl, hx, by
      funext r c
      show (cstX 0#32 : FX Ideal) (ix4 b 0 r c) = natE (if A r c then 0 else cnt A 0 r c)
      rw [zeroX, show cnt A 0 r c = 0 from rfl, ite_self, natE_zero]⟩
  | n + 1, hn => by
    obtain ⟨h1, h2, h3⟩ := dt_iter x b A hx n (by omega)
    rw [Function.iterate_succ_apply']
    generalize dtStep^[n] (constantI S_ 32 1#32, x, cstX 0#32) = s at h1 h2 h3 ⊢
    refine ⟨?_, ?_, im_dst _ _ _ b A n h2 h3 h1 (by omega)⟩
    · show addi s.1 (constantI S_ 32 1#32) = _
      rw [h1]
      funext i
      show BitVec.ofNat 32 (n + 1) + 1#32 = BitVec.ofNat 32 (n + 1 + 1)
      exact (BitVec.ofNat_add (n + 1) 1).symm
    · show im (hEro s.2.1) b = _
      rw [im_ero, h2, ero_ind, Function.iterate_succ_apply']

/-- The literal twenty. -/
theorem twenty_val : Ideal.ofBits .f32 1101004800#32 = natE 20 := by
  unfold natE
  simp [Ideal.ofBits, Ideal.ieee, -EReal.coe_mul]; norm_num

/-- The distances inside a mask of 0 and 1. -/
theorem im_dt (x : FX Ideal) (b : Fin 32) (A : Bm) (hx : im x b = indI A) : im (hDt x) b = fun r c => natE (cnt A 20 r c) := by
  have h := (dt_iter x b A hx 20 (by norm_num)).2.2
  change im (hDl x) b = _ at h
  funext r c
  have hd' : hDl x (ix4 b 0 r c) = natE (dst A 20 r c) := congrFun (congrFun h r) c
  have hx' : x (ix4 b 0 r c) = ind (A r c) := congrFun (congrFun hx r) c
  show hEnd x (hDl x) (ix4 b 0 r c) = _
  generalize hDl x = d at hd'
  pointwise [hEnd, cst, cstX]
  rw [hd', hx', twenty_val, ← dst_final A 20 (by norm_num) r c]
  simp only [half_lt_ind _ half_pos half_lt_one, natE_eq_zero]
  cases A r c <;> by_cases h : dst A 20 r c = 0 <;> simp [h, Scalar.select, IntOp.andi]

/-! ## Sums -/

/-- The sum over all images. -/
def tot (X : Fin 32 → Img) : EReal := ∑ b, ∑ r, ∑ c, X b r c

/-- The array's sum is the sum over its images. -/
theorem hSum_val (x : FX Ideal) (j : S_.Idx) : hSum x j = tot (im x) := by
  pointwise [hSum, cst]
  rw [Ideal.hostReduceAdd_total _ (fun a => a.elim0), zero_add, sum_idx4]
  unfold tot im
  refine Finset.sum_congr rfl fun b _ => ?_
  rw [Fin.sum_univ_one]

/-- The flattened array's sum is the sum over its images. -/
theorem hSumL_val (x : FX Ideal) (j : S_.Idx) : hSumL (hFlat x) j = tot (im x) := by
  pointwise [hSumL, cst]
  rw [← sum_idx1 (hFlat x)]
  show ∑ i, x (Shape.reshapeEquiv shapeCasts_S32x1x512x512_S8388608 i) = _
  rw [Equiv.sum_comp (Shape.reshapeEquiv shapeCasts_S32x1x512x512_S8388608) x, sum_idx4]
  unfold tot im
  refine Finset.sum_congr rfl fun b _ => ?_
  rw [Fin.sum_univ_one]

end Cert.Proof.RI

end
-- ==== Proof.KI.Host.lean ====
/-
  The host's lines after the launch: twelve sums out of the launch's array, and the loss of them.
-/
module

public import proofs.«01_k».proof.Proof.KI.Stages
public import proofs.«01_k».proof.Proof.KI.Run
public import proofs.«01_k».proof.Proof.RI.Chain

@[expose] public section

set_option maxRecDepth 16384
set_option maxHeartbeats 2000000

noncomputable section

namespace Cert.Proof.KI

open Cert.KernelIdeal Cert.KernelIdeal.Gen
open Idealize.ShloMosaic Idealize.ShloMosaic.TcCoe
open Idealize.ShloMosaic.StableHlo (after)
open Cert.Proof.RI (FS cst hMean hRatio hCl hHd hLoss)

variable {F : FTy → Type} [FloatOps F]

/-- The overlap loss, and the weighted one, of their sums. -/
def kDice (pt p t : FS F) : FS F :=
  subf (cst 0x3F800000#32) (Host.divf (addf (mulf (cst 0x40000000#32) pt) (cst 0x3F800000#32)) (addf (addf p t) (cst 0x3F800000#32)))
def kTv (pt fp fn : FS F) : FS F :=
  Host.powf (subf (cst 0x3F800000#32) (Host.divf (addf pt (cst 0x3F800000#32))
    (addf (addf (addf pt (mulf (cst 0x3E99999A#32) fp)) (mulf (cst 0x3F333333#32) fn)) (cst 0x3F800000#32)))) (cst 0x3FAA3D71#32)

/-- The loss of the sums. -/
def kLoss (bce pt p t wbce spt sp stp st pb df db fp fn : FS F) : FS F :=
  hLoss (hMean bce) (kDice pt p t) (hCl (hRatio 0x3F800000#32 spt sp) (hRatio 0x3F800000#32 stp st)) (hHd df t db pb) (hMean wbce) (kTv pt fp fn)

/-- The columns of the launch's array summed over the images. -/
def col (a : FVec F S32x16x128 .f32) : FVec F S16 .f32 :=
  Host.reduceAdd (shapeCast S32x16 (extractStridedSlice S32x16x1 ![0, 0, 0] a slices_S32x16x128_S32x16x1_0_0_0) shapeCasts_S32x16x1_S32x16)
    (constant S_ .f32 0x00000000#32) reducesTo_S32x16_S16_d0 h_S_

/-- A summed column as a scalar. -/
def sc (k : ℕ) (a : FVec F S32x16x128 .f32) (h : S16.Slices ![k] S1) : FS F := shapeCast S_ (extractStridedSlice S1 ![k] (col a) h) shapeCasts_S1_S_

/-- The result of the launch's array. -/
def kRes (a : FVec F S32x16x128 .f32) : FS F :=
  kLoss (sc 0 a slices_S16_S1_0) (sc 1 a slices_S16_S1_1) (sc 2 a slices_S16_S1_2) (sc 3 a slices_S16_S1_3) (sc 4 a slices_S16_S1_4) (sc 5 a slices_S16_S1_5)
    (sc 6 a slices_S16_S1_6) (sc 7 a slices_S16_S1_7) (sc 8 a slices_S16_S1_8) (sc 9 a slices_S16_S1_9) (sc 10 a slices_S16_S1_10) (sc 11 a slices_S16_S1_11)
    (subf (sc 2 a slices_S16_S1_2) (sc 1 a slices_S16_S1_1)) (subf (sc 3 a slices_S16_S1_3) (sc 1 a slices_S16_S1_1))

/-- The host's last array is the loss of the region's result. -/
theorem host_value (X : Valuation τ sig (Elt F)) : after hostOps1 X main_v76 = kRes (X main_v0) := by
  unfold hostOps1
  after_reads_simp
  rfl

end Cert.Proof.KI

end
-- ==== Proof.RI.Total.lean ====
/-
  The reference's result as the loss of the images' sums.
-/
module

public import proofs.«01_k».proof.Proof.RI.Images
public import proofs.«01_k».proof.Proof.Math.Value
public import proofs.«01_k».proof.Proof.KI.Host
import Idealize.ShloMosaic.Lib.Pointwise

@[expose] public section

noncomputable section

namespace Cert.Proof

open Idealize.ShloMosaic

/-- A probability is a real number. -/
theorem sg_real (y : EReal) : ∃ p : ℝ, sg y = (p : EReal) := by
  unfold sg
  induction y using EReal.rec with
  | bot =>
    refine ⟨0, ?_⟩
    rw [EReal.neg_bot]
    show Ideal.div 1 (1 + ⊤) = _
    rw [EReal.add_top_of_ne_bot (by exact EReal.coe_ne_bot 1)]
    simp [Ideal.div]
  | top =>
    refine ⟨1, ?_⟩
    rw [EReal.neg_top]
    show Ideal.div 1 (1 + 0) = _
    rw [add_zero]
    simp [Ideal.div]
  | coe r =>
    refine ⟨(1 + Real.exp (-r))⁻¹, ?_⟩
    have h : (1 : EReal) + Ideal.exp (-(r : EReal)) = ((1 + Real.exp (-r) : ℝ) : EReal) := rfl
    have h0 : (1 + Real.exp (-r)) ≠ 0 := by positivity
    rw [h]
    unfold Ideal.div
    rw [if_neg (fun e => h0 (EReal.coe_eq_zero.mp e)), one_mul, EReal.coe_inv]

/-- A truth value's number is real. -/
theorem ind_real (b : Bool) : ind b = ((if b then 1 else 0 : ℝ) : EReal) := by cases b <;> rfl

/-- The two one-sided overlaps of the probabilities and the targets. -/
theorem over_left (X : Fin 32 → Img) (T : Fin 32 → Bm) :
    ∑ b, tot1 (fun r c => prob (X b) r c * (1 - ind (T b r c))) = ∑ b, sP (X b) - ∑ b, sPt (X b) (T b) := by
  choose p hp using sg_real
  unfold sP sPt tot1 prob
  simp only [hp, ind_real]
  rw [show (1 : EReal) = ((1 : ℝ) : EReal) from rfl]
  simp only [← EReal.coe_mul, ← EReal.coe_sub, coe_sum]
  refine congrArg _ ?_
  simp only [← Finset.sum_sub_distrib]
  refine Finset.sum_congr rfl fun b _ => Finset.sum_congr rfl fun r _ => Finset.sum_congr rfl fun c _ => ?_
  ring
/-- The sum of the missed probabilities over the target is the target's sum less that of the probabilities over it. -/
theorem over_right (X : Fin 32 → Img) (T : Fin 32 → Bm) :
    ∑ b, tot1 (fun r c => (1 - prob (X b) r c) * ind (T b r c)) = ∑ b, sT (T b) - ∑ b, sPt (X b) (T b) := by
  choose p hp using sg_real
  unfold sT sPt tot1 prob indI
  simp only [hp, ind_real]
  rw [show (1 : EReal) = ((1 : ℝ) : EReal) from rfl]
  simp only [← EReal.coe_mul, ← EReal.coe_sub, coe_sum]
  refine congrArg _ ?_
  simp only [← Finset.sum_sub_distrib]
  refine Finset.sum_congr rfl fun b _ => Finset.sum_congr rfl fun r _ => Finset.sum_congr rfl fun c _ => ?_
  ring

end Cert.Proof

namespace Cert.Proof.RI

open Cert.ReferenceIdeal Cert.ReferenceIdeal.Facts₀
open Idealize.ShloMosaic Idealize.ShloMosaic.TcCoe
open Cert.Proof.KI (kLoss)

/-- The literal three. -/
theorem three_val : Ideal.ofBits .f32 0x40400000#32 = natE 3 := by
  unfold natE
  simp [Ideal.ofBits, Ideal.ieee, -EReal.coe_mul]; norm_num

/-- A scalar array. -/
def scal (v : EReal) : FS Ideal := fun _ => v

/-- The loss of the images' sums. -/
def total (X : Fin 32 → Img) (T : Fin 32 → Bm) : FS Ideal :=
  kLoss (scal (∑ b, sBce (X b) (T b))) (scal (∑ b, sPt (X b) (T b))) (scal (∑ b, sP (X b))) (scal (∑ b, sT (T b)))
    (scal (∑ b, sW (X b) (T b))) (scal (∑ b, sSpt (X b) (T b))) (scal (∑ b, sSp (X b))) (scal (∑ b, sStp (X b) (T b)))
    (scal (∑ b, sSt (T b))) (scal (∑ b, sPb (X b))) (scal (∑ b, sDf (X b) (T b))) (scal (∑ b, sDb (X b) (T b)))
    (scal (∑ b, sP (X b) - ∑ b, sPt (X b) (T b))) (scal (∑ b, sT (T b) - ∑ b, sPt (X b) (T b)))

section
variable (x : FX Ideal) (t : IVec S32x1x512x512 32) (T : Fin 32 → Bm)

/-- The targets are the truth values `T`. -/
def Tgt : Prop := ∀ b r c, t (ix4 b 0 r c) = BitVec.ofNat 32 (T b r c).toNat

/-- The array's sum, of images known one by one. -/
theorem sum_of (y : FX Ideal) (A : Fin 32 → Img) (h : ∀ b, im y b = A b) : hSum y = scal (∑ b, tot1 (A b)) := by
  funext j
  rw [hSum_val, show im y = A from funext h]
  rfl
/-- The flattened array's sum, of images known one by one. -/
theorem sumL_of (y : FX Ideal) (A : Fin 32 → Img) (h : ∀ b, im y b = A b) : hSumL (hFlat y) = scal (∑ b, tot1 (A b)) := by
  funext j
  rw [hSumL_val, show im y = A from funext h]
  rfl

/-- The probabilities, image by image. -/
theorem im_P (b : Fin 32) : im (hP x) b = prob (im x b) := by
  funext r c
  show hP x (ix4 b 0 r c) = _
  pointwise [hP, cstX, cst]
  rfl

/-- A product of arrays, image by image. -/
theorem im_mul (y z : FX Ideal) (b : Fin 32) : im (mulf y z) b = fun r c => im y b r c * im z b r c := rfl

/-- One less the array, image by image. -/
theorem im_not (y : FX Ideal) (b : Fin 32) : im (hNot y) b = fun r c => 1 - im y b r c := by
  funext r c
  show (cstX 0x3F800000#32 : FX Ideal) (ix4 b 0 r c) - y (ix4 b 0 r c) = _
  rw [oneX]
  rfl

/-- One less the array, of truth values. -/
theorem im_not_ind (y : FX Ideal) (b : Fin 32) (A : Bm) (h : im y b = indI A) : im (hNot y) b = indI fun r c => !A r c := by
  rw [im_not, h]
  funext r c
  exact (ind_not _).symm

/-- The thresholded array, image by image. -/
theorem im_Pb (y : FX Ideal) (b : Fin 32) : im (hPb y) b = indI fun r c => decide (hf < im y b r c) := by
  funext r c
  show hPb y (ix4 b 0 r c) = _
  pointwise [hPb, cstX, cst]
  show (((BitVec.ofBool (decide (hf < im y b r c))).toNat : ℝ) : EReal) = ind (decide (hf < im y b r c))
  cases decide (hf < im y b r c) <;> simp [ind]

/-- The thresholded probabilities, image by image. -/
theorem im_PbP (b : Fin 32) : im (hPb (hP x)) b = indI (thr (im x b)) := by
  rw [im_Pb, im_P]
  rfl

variable {t T} (h : Tgt t T)
include h

/-- The targets, image by image. -/
theorem im_T (b : Fin 32) : im (hT (F := Ideal) t) b = indI (T b) := by
  funext r c
  show (((t (ix4 b 0 r c)).toInt : ℝ) : EReal) = ind (T b r c)
  rw [h b r c]
  cases T b r c <;> simp [ind]

/-- The cross entropies, image by image. -/
theorem im_Bce (b : Fin 32) : im (hBce x (hT t)) b = ent (im x b) (T b) := by
  have ht := im_T h b
  funext r c
  replace ht := congrFun (congrFun ht r) c
  change hT (F := Ideal) t (ix4 b 0 r c) = ind (T b r c) at ht
  show hBce x (hT t) (ix4 b 0 r c) = _
  generalize hT (F := Ideal) t = U at ht
  pointwise [hBce, cstX, cst]
  rw [ht]
  rfl

/-- The weighted cross entropies, image by image. -/
theorem im_Wbce (b : Fin 32) : im (hWbce x (hT t)) b = fun r c => (1 + natE 3 * (dil (indI (T b)) r c - ero (indI (T b)) r c)) * ent (im x b) (T b) r c := by
  funext r c
  show ((cstX 0x3F800000#32 : FX Ideal) (ix4 b 0 r c) + Ideal.ofBits .f32 0x40400000#32 * (im (hMax33 (hT (F := Ideal) t)) b r c - im (hEro (hT (F := Ideal) t)) b r c)) * im (hBce x (hT t)) b r c = _
  rw [oneX, im_max33, im_ero, im_T h, im_Bce x h, three_val]

/-- The reference's result. -/
theorem hAll_val : hAll x t = total (im x) T := by
  have fp : hSumL (mulf (hFlat (hP x)) (subf (cstL 0x3F800000#32) (hFlat (hT t)))) = scal (∑ b, sP (im x b) - ∑ b, sPt (im x b) (T b)) := by
    rw [← over_left]
    refine sumL_of (mulf (hP x) (hNot (hT t))) _ fun b => ?_
    rw [im_mul, im_P, im_not, im_T h]
    rfl
  have fn : hSumL (mulf (subf (cstL 0x3F800000#32) (hFlat (hP x))) (hFlat (hT t))) = scal (∑ b, sT (T b) - ∑ b, sPt (im x b) (T b)) := by
    rw [← over_right]
    refine sumL_of (mulf (hNot (hP x)) (hT t)) _ fun b => ?_
    rw [im_mul, im_not, im_P, im_T h]
    rfl
  have pt : hSumL (mulf (hFlat (hP x)) (hFlat (hT t))) = scal (∑ b, sPt (im x b) (T b)) := by
    refine sumL_of (mulf (hP x) (hT t)) _ fun b => ?_
    rw [im_mul, im_P, im_T h]
    rfl
  have e1 : hSum (hBce x (hT t)) = scal (∑ b, sBce (im x b) (T b)) := sum_of _ _ fun b => im_Bce x h b
  have e2 : hSumL (hFlat (hP x)) = scal (∑ b, sP (im x b)) := sumL_of _ _ fun b => im_P x b
  have e3 : hSumL (hFlat (hT t)) = scal (∑ b, sT (T b)) := sumL_of _ _ fun b => im_T h b
  have e3' : hSum (hT t) = scal (∑ b, sT (T b)) := sum_of _ _ fun b => im_T h b
  have e4 : hSum (hWbce x (hT t)) = scal (∑ b, sW (im x b) (T b)) := by
    rw [sum_of _ _ fun b => im_Wbce x h b]
    exact congrArg scal (Finset.sum_congr rfl fun b _ => sW_eq _ _)
  have e5 : hSum (mulf (hSk (hP x)) (hT t)) = scal (∑ b, sSpt (im x b) (T b)) := by
    refine sum_of _ _ fun b => ?_
    rw [im_mul, im_sk, im_P, im_T h]
    rfl
  have e6 : hSum (hSk (hP x)) = scal (∑ b, sSp (im x b)) := by
    refine sum_of _ _ fun b => ?_
    rw [im_sk, im_P]
  have e7 : hSum (mulf (hSk (hT t)) (hP x)) = scal (∑ b, sStp (im x b) (T b)) := by
    refine sum_of _ _ fun b => ?_
    rw [im_mul, im_sk, im_P, im_T h, skel_ind]
    rfl
  have e8 : hSum (hSk (hT t)) = scal (∑ b, sSt (T b)) := by
    refine sum_of _ _ fun b => ?_
    rw [im_sk, im_T h, skel_ind]
  have e9 : hSum (hPb (hP x)) = scal (∑ b, sPb (im x b)) := sum_of _ _ fun b => im_PbP x b
  have e10 : hSum (mulf (hDt (hNot (hPb (hP x)))) (hT t)) = scal (∑ b, sDf (im x b) (T b)) := by
    refine sum_of _ _ fun b => ?_
    rw [im_mul, im_dt _ b _ (im_not_ind _ b _ (im_PbP x b)), im_T h]
    rfl
  have e11 : hSum (mulf (hDt (hNot (hT t))) (hPb (hP x))) = scal (∑ b, sDb (im x b) (T b)) := by
    refine sum_of _ _ fun b => ?_
    rw [im_mul, im_dt _ b _ (im_not_ind _ b _ (im_T h b)), im_PbP]
    rfl
  unfold hAll hDice hTv
  rw [fp, fn, pt, e1, e2, e3, e3', e4, e5, e6, e7, e8, e9, e10, e11]
  rfl

end

end Cert.Proof.RI

end
-- ==== Proof.KI.Result.lean ====
/-
  The launch's array after the run, and the program's result as the loss of the images' sums.
-/
module

public import proofs.«01_k».proof.Proof.KI.Slabs
public import proofs.«01_k».proof.Proof.KI.Sums
public import proofs.«01_k».proof.Proof.RI.Total
import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window cellOf)
open Cert.Proof.RI (scal total)

variable (m : (ℓ : Loc nD τ sig) → Buf (Elt Ideal) ℓ)

/-- The block of the predictions at a grid step. -/
theorem idx_0 : ∀ t : Fin grid0.N, win0_0.index t = ![t.val, 0, 0, 0] := by decide +kernel
/-- The block of the targets at a grid step. -/
theorem idx_1 : ∀ t : Fin grid0.N, win0_1.index t = ![t.val, 0, 0, 0] := by decide +kernel
/-- The block of the result at a grid step. -/
theorem idx_2 : ∀ t : Fin grid0.N, win0_2.index t = ![t.val, 0, 0] := by decide +kernel

/-- The grid point of image `i`. -/
def pt (i : Fin 32) : Fin (cfg0 (F := Ideal)).N := ⟨i.1 / 4, by show i.1 / 4 < grid0.N; rw [N_0]; omega⟩
/-- The image's place in its block. -/
def inBlk (i : Fin 32) : Fin 4 := ⟨i.1 % 4, by omega⟩

/-- A load of the whole block is the block. -/
theorem ld_whole {e : EltTy} (X : Vec Ideal S4x1x512x512 e) : View.ld X rIn = X := View.ld_unit_lit _ X (by decide)

/-- An image of a block of logits, and of targets, in the whole array. -/
theorem xblk_at (c : Dev nD) (t : Fin (cfg0 (F := Ideal)).N) (b : Fin 4) (i : Fin 32) (hi : i.1 = t.1 * 4 + b.1) (r k : Fin 512) :
    xblk m c t (ix4 b 0 r k) = m ((c : Thread nD τ).loc main_arg0) (ix4 i 0 r k) := by
  blk_ext [xblk, idx_0 t, hi]
/-- A block's target is the argument's, at the block's image. -/
theorem tblk_at (c : Dev nD) (t : Fin (cfg0 (F := Ideal)).N) (b : Fin 4) (i : Fin 32) (hi : i.1 = t.1 * 4 + b.1) (r k : Fin 512) :
    tblk m c t (ix4 b 0 r k) = m ((c : Thread nD τ).loc main_arg1) (ix4 i 0 r k) := by
  blk_ext [tblk, idx_1 t, hi]

/-- What the launch leaves in its array. -/
def res (c : Dev nD) : Vec Ideal S32x16x128 .f32 := fun i =>
  out (xblk m c (pt (i 0))) (tblk m c (pt (i 0))) (ix3 (inBlk (i 0)) (i 1) (i 2))

/-- An element of the result is the element of its block's. -/
theorem res_of (c : Dev nD) (t : Fin (cfg0 (F := Ideal)).N) (i : S32x16x128.Idx) (y : S4x16x128.Idx) (h0 : (i 0).1 = t.1 * 4 + (y 0).1) (h1 : (i 1).1 = (y 1).1) (h2 : (i 2).1 = (y 2).1) :
    res m c i = out (xblk m c t) (tblk m c t) y := by
  have hy : (y 0).1 < 4 := (y 0).2
  have e : pt (i 0) = t := Fin.ext (by show (i 0).1 / 4 = t.1; omega)
  have e2 : ix3 (inBlk (i 0)) (i 1) (i 2) = y := by
    funext a
    apply Fin.ext
    fin_cases a
    · show (i 0).1 % 4 = (y 0).1; omega
    · exact h1
    · exact h2
  unfold res
  rw [e]
  exact congrArg _ e2

/-- After the last grid step the array holds every block's result. -/
theorem arr_eq (c : Dev nD) : (dats m 0 c).arrAt 2 (cfg0 (F := Ideal)).N = res m c := by
  refine (dats m 0 c).arrAt_eq_of_covers 2 _ (by decide +kernel) fun t hf y => ?_
  blk_simp
  rw [after0_2, ld_whole, ld_whole]
  refine (res_of m c t _ y ?_ ?_ ?_).symm
  all_goals blk_simp [idx_2 t]

/-- Summed columns of the launch's array. -/
theorem sc_val (a : FVec Ideal S32x16x128 .f32) (k : Fin 16) (h : S16.Slices ![k.1] S1) (j : S_.Idx) : sc k.1 a h j = ∑ b : Fin 32, a (ix3 b k 0) := by
  pointwise [sc, col]

/-- The result after the run. -/
theorem tail_value (c : Dev nD) : Pipeline.afterTail₀ cfgs (dats m) 0 (V₀ m) [hostOps1] c main_v76 = (kRes (res m c) : FVec Ideal S_ .f32) := by
  unfold Pipeline.afterTail₀
  rw [show ([hostOps1] : List (List (HloOp τ sig (Elt Ideal)))).flatten = hostOps1 from List.append_nil _]
  rw [host_value]
  refine congrArg kRes ?_
  exact (Pipeline.withArrays_arr spec0 (launch0 (F := Ideal)).win.arr_inj c _ _ 2).trans (arr_eq m c)

/-- The idealized kernel ends with the loss of the blocks' sums, its arguments kept. -/
theorem run_value (ρ : Dev nD → PrngReg) : θ_run defs (onTc (τ := τ) (main (F := Ideal))) ⟨m, fun _ => 0, ρ⟩ (fun r => ∀ c : Dev nD,
      r.2.mem ((c : Thread nD τ).loc main_v76) = (kRes (res m c) : FVec Ideal S_ .f32)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
    ⟨((h.1 c).2 main_v76 (Pipeline.mem_restRefs_of main_v76 (by decide) (by decide))).trans (tail_value m c), args_kept m h.1 c⟩) (run_main m ρ)

/-! ## The sums -/

/-- Image `b` of the block at point `t`. -/
def img (t : Fin (cfg0 (F := Ideal)).N) (b : Fin 4) : Fin 32 :=
  ⟨t.1 * 4 + b.1, by have h : t.1 < grid0.N := t.2; rw [N_0] at h; omega⟩

/-- An image is the one that its block and its place there name. -/
theorem img_pt (i : Fin 32) : img (pt i) (inBlk i) = i := Fin.ext (by show i.1 / 4 * 4 + i.1 % 4 = i.1; omega)

/-- The block's image of predictions is the argument's. -/
theorem imX_blk (c : Dev nD) (t : Fin (cfg0 (F := Ideal)).N) (b : Fin 4) :
    imX (xblk m c t) b = im (m ((c : Thread nD τ).loc main_arg0)) (img t b) :=
  funext fun r => funext fun k => xblk_at m c t b _ rfl r k

section
variable {m} {c : Dev nD} {T : Fin 32 → Bm} (h : RI.Tgt (m ((c : Thread nD τ).loc main_arg1)) T)
include h

/-- The block's targets are truth values where the argument's are. -/
theorem tgt_blk (t : Fin (cfg0 (F := Ideal)).N) : Tgt (tblk m c t) fun b => T (img t b) :=
  fun b r k => (tblk_at m c t b _ rfl r k).trans (h _ r k)

/-- An entry of the launch's array is a sum of one image. -/
theorem res_at (k : Fin 16) (f : Img → Bm → EReal)
    (hf : ∀ (x : FVec Ideal S4x1x512x512 .f32) (t : IVec S4x1x512x512 32) (T : Fin 4 → Bm), Tgt t T → ∀ b, lane (sums x t) k (ix1 b) = f (imX x b) (T b)) (i : Fin 32) :
    res m c (ix3 i k 0) = f (im (m ((c : Thread nD τ).loc main_arg0)) i) (T i) := by
  have e := hf (xblk m c (pt i)) (tblk m c (pt i)) _ (tgt_blk h (pt i)) (inBlk i)
  rw [imX_blk, img_pt] at e
  exact (out_at (xblk m c (pt i)) (tblk m c (pt i)) (inBlk i) k).trans e

/-- The host's sum of one row of the result is the sum of that quantity over all images. -/
theorem sc_res (k : Fin 16) (hs : S16.Slices ![k.1] S1) (f : Img → Bm → EReal)
    (hf : ∀ (x : FVec Ideal S4x1x512x512 .f32) (t : IVec S4x1x512x512 32) (T : Fin 4 → Bm), Tgt t T → ∀ b, lane (sums x t) k (ix1 b) = f (imX x b) (T b)) :
    sc k.1 (res m c) hs = scal (∑ i, f (im (m ((c : Thread nD τ).loc main_arg0)) i) (T i)) := by
  funext j
  rw [sc_val]
  exact Finset.sum_congr rfl fun i _ => res_at h k f hf i

/-- The program's result. -/
theorem kRes_val : kRes (res m c) = total (im (m ((c : Thread nD τ).loc main_arg0))) T := by
  have e0 := sc_res h 0 slices_S16_S1_0 sBce fun x t _ h b => v513_val x t h b
  have e1 := sc_res h 1 slices_S16_S1_1 sPt fun x t _ h b => v515_val x t h b
  have e2 := sc_res h 2 slices_S16_S1_2 (fun X _ => sP X) fun x t _ _ b => v516_val x t b
  have e3 := sc_res h 3 slices_S16_S1_3 (fun _ T => sT T) fun x t _ h b => v519_val x t h b
  have e4 := sc_res h 4 slices_S16_S1_4 sW fun x t _ h b => v524_val x t h b
  have e5 := sc_res h 5 slices_S16_S1_5 sSpt fun x t _ h b => v526_val x t h b
  have e6 := sc_res h 6 slices_S16_S1_6 (fun X _ => sSp X) fun x t _ _ b => v527_val x t b
  have e7 := sc_res h 7 slices_S16_S1_7 sStp fun x t _ h b => v529_val x t h b
  have e8 := sc_res h 8 slices_S16_S1_8 (fun _ T => sSt T) fun x t _ h b => v532_val x t h b
  have e9 := sc_res h 9 slices_S16_S1_9 (fun X _ => sPb X) fun x t _ _ b => v535_val x t b
  have e10 := sc_res h 10 slices_S16_S1_10 sDf fun x t _ h b => v510_val x t h b
  have e11 := sc_res h 11 slices_S16_S1_11 sDb fun x t _ h b => v512_val x t h b
  unfold kRes
  generalize res m c = a at *
  change sc (F := Ideal) 0 a _ = _ at e0
  change sc (F := Ideal) 1 a _ = _ at e1
  change sc (F := Ideal) 2 a _ = _ at e2
  change sc (F := Ideal) 3 a _ = _ at e3
  change sc (F := Ideal) 4 a _ = _ at e4
  change sc (F := Ideal) 5 a _ = _ at e5
  change sc (F := Ideal) 6 a _ = _ at e6
  change sc (F := Ideal) 7 a _ = _ at e7
  change sc (F := Ideal) 8 a _ = _ at e8
  change sc (F := Ideal) 9 a _ = _ at e9
  change sc (F := Ideal) 10 a _ = _ at e10
  change sc (F := Ideal) 11 a _ = _ at e11
  rw [e0, e1, e2, e3, e4, e5, e6, e7, e8, e9, e10, e11]
  rfl

end

end Cert.Proof.KI

end
-- ==== Proof.KI.Pre.lean ====
/-
  The precondition read at an element: every target is zero or one.
-/
module

public import proofs.«01_k».proof.Pre_targets_binary
public import proofs.«01_k».proof.Proof.Math.Img
public import proofs.«01_k».proof.Proof.RI.Total
import Idealize.ShloMosaic.Lib.ReduceAll

@[expose] public section

noncomputable section

namespace Cert.Proof

open Cert.Pre_targets_binary
open Idealize.ShloMosaic Idealize.ShloMosaic.TcCoe

/-- The predicate's side conditions hold. -/
theorem preFacts : Cert.Pre_targets_binary.Facts :=
  ⟨Cert.ReferenceIdeal.Facts₀.bcast_S_S32x1x512x512, Cert.ReferenceIdeal.Facts₀.reducesTo_S32x1x512x512_S_d0_1_2_3, Cert.ReferenceIdeal.Facts₀.h_S_⟩

/-- A word that equals zero or equals one, by the comparisons' bit, is one of the two. -/
theorem bit_or (w : BitVec 32) (h : IntOp.ori (IntOp.cmpi .eq w 0#32) (IntOp.cmpi .eq w 1#32) = 1#1) : w = 0#32 ∨ w = 1#32 := by
  by_cases h0 : w = 0#32
  · exact .inl h0
  · by_cases h1 : w = 1#32
    · exact .inr h1
    · exfalso
      revert h
      have e0 : (w == 0#32) = false := by simpa using h0
      have e1 : (w == 1#32) = false := by simpa using h1
      simp [IntOp.ori, IntOp.cmpi, e0, e1]

/-- Where the predicate holds, the targets are truth values. -/
theorem tgt_of_pre [Cert.Pre_targets_binary.Facts] (x : FVec Ideal S32x1x512x512 .f32) (t : IVec S32x1x512x512 32) (h : Cert.Pre_targets_binary.fn x t = fun _ => 1#1) :
    RI.Tgt t fun b r c => decide (t (ix4 b 0 r c) = 1#32) := by
  intro b r c
  have e := congrFun h (Shape.Idx.first Facts.h_S_)
  dsimp only [Cert.Pre_targets_binary.fn] at e
  have e2 := Host.reduce_andi_all _ _ _ _ _ e (ix4 b 0 r c)
  rcases bit_or (t (ix4 b 0 r c)) e2 with h0 | h1
  · simp [h0]
  · simp [h1]

end Cert.Proof

end
-- ==== Proof.RI.Frame.lean ====
/-
  The host reference keeps its arguments.
-/
module

public import proofs.«01_k».proof.Proof.RI.Loops

@[expose] public section

set_option maxHeartbeats 1000000

noncomputable section

namespace Cert.Proof.RI

open Cert.ReferenceIdeal Cert.ReferenceIdeal.Facts₀

open Idealize.ShloMosaic Idealize.ShloMosaic.TcCoe
open Idealize.SL.Sem
open Idealize.ShloMosaic.StableHlo (after afterL atTrip Plain LoopCond after_cons after_nil)

variable {F : FTy → Type} [FloatOps F]

/-- Contents keeping both arguments. -/
def Kept (X Y : Valuation τ sig (Elt F)) : Prop := X main_arg0 = Y main_arg0 ∧ X main_arg1 = Y main_arg1

/-- What keeps the arguments, one after the other, keeps them. -/
theorem Kept.trans {X Y Z : Valuation τ sig (Elt F)} (h : Kept X Y) (h' : Kept Y Z) : Kept X Z := ⟨h.1.trans h'.1, h.2.trans h'.2⟩

/-! No stretch and no loop's body writes an argument. -/
theorem keptA (X : Valuation τ sig (Elt F)) : Kept (afterL segA X) X := by
  simp only [StableHlo.afterL_cons, StableHlo.afterL_nil]
  constructor <;> after_reads_simp
theorem keptB (X : Valuation τ sig (Elt F)) : Kept (afterL segB X) X := by
  simp only [StableHlo.afterL_cons, StableHlo.afterL_nil]
  constructor <;> after_reads_simp
theorem keptC (X : Valuation τ sig (Elt F)) : Kept (afterL segC X) X := by
  simp only [StableHlo.afterL_cons, StableHlo.afterL_nil]
  constructor <;> after_reads_simp
theorem keptD (X : Valuation τ sig (Elt F)) : Kept (afterL segD X) X := by
  simp only [StableHlo.afterL_cons, StableHlo.afterL_nil]
  constructor <;> after_reads_simp
theorem keptE (X : Valuation τ sig (Elt F)) : Kept (afterL segE X) X := by
  simp only [StableHlo.afterL_cons, StableHlo.afterL_nil]
  constructor <;> after_reads_simp
theorem keptBody0 (X : Valuation τ sig (Elt F)) : Kept (afterL bodyL0 X) X := by
  simp only [StableHlo.afterL_cons, StableHlo.afterL_nil]
  constructor <;> after_reads_simp
theorem keptCond0 (X : Valuation τ sig (Elt F)) : Kept (after cond0 X) X := by
  constructor <;> after_reads_simp
theorem keptBody1 (X : Valuation τ sig (Elt F)) : Kept (afterL bodyL1 X) X := by
  simp only [StableHlo.afterL_cons, StableHlo.afterL_nil]
  constructor <;> after_reads_simp
theorem keptCond1 (X : Valuation τ sig (Elt F)) : Kept (after cond1 X) X := by
  constructor <;> after_reads_simp
theorem keptBody2 (X : Valuation τ sig (Elt F)) : Kept (afterL bodyL2 X) X := by
  simp only [StableHlo.afterL_cons, StableHlo.afterL_nil]
  constructor <;> after_reads_simp
theorem keptCond2 (X : Valuation τ sig (Elt F)) : Kept (after cond2 X) X := by
  constructor <;> after_reads_simp
theorem keptBody3 (X : Valuation τ sig (Elt F)) : Kept (afterL bodyL3 X) X := by
  simp only [StableHlo.afterL_cons, StableHlo.afterL_nil]
  constructor <;> after_reads_simp
theorem keptCond3 (X : Valuation τ sig (Elt F)) : Kept (after cond3 X) X := by
  constructor <;> after_reads_simp

/-- A loop whose test and body keep the arguments keeps them. -/
theorem keptLoop {co : List (HloOp τ sig (Elt F))} {bo : List (List (HloOp τ sig (Elt F)))} (hc : ∀ X, Kept (after co X) X) (hb : ∀ X, Kept (afterL bo X) X)
    (V : Vals F) (c : Dev nD) : ∀ k, Kept (atTrip co bo V k c) (V c)
  | 0 => ⟨rfl, rfl⟩
  | k + 1 => (hb _).trans ((hc _).trans (keptLoop hc hb V c k))

/-- The whole program keeps the arguments. -/
theorem keptAll (V : Vals F) (c : Dev nD) : Kept (runAll pieces V c) (V c) :=
  (keptE _).trans <| ((keptCond3 _).trans (keptLoop keptCond3 keptBody3 _ c _)).trans <|
  (keptD _).trans <| ((keptCond2 _).trans (keptLoop keptCond2 keptBody2 _ c _)).trans <|
  (keptC _).trans <| ((keptCond1 _).trans (keptLoop keptCond1 keptBody1 _ c _)).trans <|
  (keptB _).trans <| ((keptCond0 _).trans (keptLoop keptCond0 keptBody0 _ c _)).trans <| keptA _

/-- The run: the arguments end unchanged, every other buffer as the pieces make it, and every counter at zero. -/
theorem run_kept (m : (ℓ : Loc nD τ sig) → Buf (Elt F) ℓ) (ρ : Dev nD → PrngReg) [∀ e, Nonempty (Elt F e)] :
    θ_run (defs (F := F)) (onTc (τ := τ) (main (F := F))) ⟨m, fun _ => 0, ρ⟩ (fun r => (∀ c : Dev nD,
      r.2.mem ((c : Thread nD τ).loc main_v160) = runAll pieces (StableHlo.launchContents m) c main_v160
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c =>
    ⟨h.1 c _ (StableHlo.devRef_mem_ucRefs main_v160 (by decide)),
     (h.1 c _ (StableHlo.devRef_mem_ucRefs main_arg0 (by decide))).trans (keptAll _ c).1,
     (h.1 c _ (StableHlo.devRef_mem_ucRefs main_arg1 (by decide))).trans (keptAll _ c).2⟩, h.2⟩) (run_main m ρ)

/-- THE FRAME: the arguments end unchanged and every counter at zero. -/
theorem frame_main (m : (ℓ : Loc nD τ sig) → Buf (Elt F) ℓ) (ρ : Dev nD → PrngReg) [∀ e, Nonempty (Elt F e)] :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => (h.1 c).2, h.2⟩) (run_kept m ρ)

end Cert.Proof.RI

end
-- ==== Proof.lean ====
module

public import proofs.«01_k».proof.Defs
public import proofs.«01_k».proof.Proof.K.Run
public import proofs.«01_k».proof.Proof.KI.Result
public import proofs.«01_k».proof.Proof.KI.Pre
public import proofs.«01_k».proof.Proof.RI.Frame
public import Idealize.ShloMosaic.Adequacy
public import Idealize.ShloMosaic.Init

@[expose] public section

namespace Cert.Proof

open Idealize.ShloMosaic Idealize.SL.Sem Cert.Kernel

/-- From memories agreeing on the arguments, the targets zero or one, both idealized programs end with the loss of the
    images' sums. -/
theorem equal_results : Cert.algebraic_KernelIdeal_ReferenceIdeal_pre_targets_binary (hKernelIdeal := Cert.KernelIdeal.Gen.facts)
    (hReferenceIdeal := Cert.ReferenceIdeal.Gen.facts) (hPre_targets_binary := preFacts) := by
  intro m g m' g' hpre hargs
  letI := preFacts
  refine ⟨fun c => RI.total (im (m ((c.tc : Thread Cert.KernelIdeal.nD Cert.KernelIdeal.τ).loc Cert.KernelIdeal.main_arg0)))
    fun b r k => decide (m ((c.tc : Thread Cert.KernelIdeal.nD Cert.KernelIdeal.τ).loc Cert.KernelIdeal.main_arg1) (ix4 b 0 r k) = 1#32), ?_, ?_⟩
  · refine (θ_run _ _ _).mono (fun r h c => ⟨(h c).1.trans ?_, (h c).2⟩) (KI.run_value m g)
    exact KI.kRes_val (tgt_of_pre _ _ (hpre c))
  · refine (θ_run _ _ _).mono (fun r h c => ⟨(h.1 c).1.trans ?_, (h.1 c).2⟩) (RI.run_kept m' g')
    rw [RI.value]
    refine Eq.trans ?_ (RI.hAll_val _ (tgt_of_pre _ _ (hpre c)))
    exact congrArg₂ RI.hAll (hargs c).1 (hargs c).2

/-- The three programs keep their arguments and end quiet, the idealization rewrote nothing, and the results agree. -/
theorem claim : Cert.Claim := ⟨Cert.Kernel.Gen.facts, Cert.KernelIdeal.Gen.facts, Cert.ReferenceIdeal.Gen.facts, preFacts,
  fun m g _ => Cert.Proof.K.frame_main m g, fun m g _ => Cert.Proof.KI.frame_main m g, fun m g _ => Cert.Proof.KI.frame_main m g,
  fun m g _ => Cert.Proof.RI.frame_main m g, fun m g _ => Cert.Proof.RI.frame_main m g, trivial, equal_results⟩

end Cert.Proof

end
